-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![8, 512, 1024]⟩ ⟨3, ![32, 512, 1024]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v28) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_KernelIdeal : Cert.Pre_routed_KernelIdeal.Facts) (hPre_routed_ReferenceIdeal : Cert.Pre_routed_ReferenceIdeal.Facts),
    quiescent_Kernel (hKernel := hKernel)
    ∧ quiescent_KernelIdeal (hKernelIdeal := hKernelIdeal)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_routed_KernelIdeal.lean ====
abbrev S2048x512 : Shape := ⟨2, ![2048, 512]⟩
abbrev S512x32 : Shape := ⟨2, ![512, 32]⟩
abbrev S2048x2 : Shape := ⟨2, ![2048, 2]⟩
abbrev S8x512x1024 : Shape := ⟨3, ![8, 512, 1024]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S512x32 : S_.BroadcastsInDim S512x32 (![] : Fin 0 → Fin S512x32.rank)
  reducesTo_S512x32_S_d0_1 : S512x32.ReducesTo [0, 1] S_
  bcast_S_S2048x2 : S_.BroadcastsInDim S2048x2 (![] : Fin 0 → Fin S2048x2.rank)
  reducesTo_S2048x2_S_d0_1 : S2048x2.ReducesTo [0, 1] S_

variable [Facts]

def fn {F : FTy → Type} [FloatOps F] (main_arg0 : FVec F S2048x512 .f32) (main_arg1 : FVec F S512x32 .f32) (main_arg2 : IVec S2048x2 32) (main_arg3 : FVec F S8x512x1024 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S512x32 .f32 := Host.absf main_arg1
  let main_cst_0 : FVec F S_ .f32 := constant S_ .f32 0x7F800000#32
  let main_v5 : FVec F S512x32 .f32 := broadcastInDim S512x32 ![] bcast_S_S512x32 main_cst_0
  let main_v6 : IVec S512x32 1 := cmpf .olt main_v4 main_v5
  let main_c_1 : IVec S_ 1 := constantI S_ 1 1#1
  let main_v7 : IVec S_ 1 := (fun x v => Host.reduce IntOp.andi x v reducesTo_S512x32_S_d0_1 h_S_) main_v6 main_c_1
  let main_v8 : IVec S_ 1 := andi main_v3 main_v7
  let main_c_2 : IVec S_ 32 := constantI S_ 32 0#32
  let main_v9 : IVec S2048x2 32 := broadcastInDim S2048x2 ![] bcast_S_S2048x2 main_c_2
  let main_v10 : IVec S2048x2 1 := cmpi .sge main_arg2 main_v9
  let main_c_3 : IVec S_ 32 := constantI S_ 32 32#32
  let main_v11 : IVec S2048x2 32 := broadcastInDim S2048x2 ![] bcast_S_S2048x2 main_c_3
  let main_v12 : IVec S2048x2 1 := cmpi .slt main_arg2 main_v11
  let main_v13 : IVec S2048x2 1 := andi main_v10 main_v12
  let main_c_4 : IVec S_ 1 := constantI S_ 1 1#1
  let main_v14 : IVec S_ 1 := (fun x v => Host.reduce IntOp.andi x v reducesTo_S2048x2_S_d0_1 h_S_) main_v13 main_c_4
  let main_v15 : IVec S_ 1 := andi main_v8 main_v14
  main_v15
-- ==== Pre_routed_ReferenceIdeal.lean ====
abbrev S2048x512 : Shape := ⟨2, ![2048, 512]⟩
abbrev S512x32 : Shape := ⟨2, ![512, 32]⟩
abbrev S2048x2 : Shape := ⟨2, ![2048, 2]⟩
abbrev S32x512x1024 : Shape := ⟨3, ![32, 512, 1024]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S512x32 : S_.BroadcastsInDim S512x32 (![] : Fin 0 → Fin S512x32.rank)
  reducesTo_S512x32_S_d0_1 : S512x32.ReducesTo [0, 1] S_
  bcast_S_S2048x2 : S_.BroadcastsInDim S2048x2 (![] : Fin 0 → Fin S2048x2.rank)
  reducesTo_S2048x2_S_d0_1 : S2048x2.ReducesTo [0, 1] S_

variable [Facts]

def fn {F : FTy → Type} [FloatOps F] (main_arg0 : FVec F S2048x512 .f32) (main_arg1 : FVec F S512x32 .f32) (main_arg2 : IVec S2048x2 32) (main_arg3 : FVec F S32x512x1024 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S512x32 .f32 := Host.absf main_arg1
  let main_cst_0 : FVec F S_ .f32 := constant S_ .f32 0x7F800000#32
  let main_v5 : FVec F S512x32 .f32 := broadcastInDim S512x32 ![] bcast_S_S512x32 main_cst_0
  let main_v6 : IVec S512x32 1 := cmpf .olt main_v4 main_v5
  let main_c_1 : IVec S_ 1 := constantI S_ 1 1#1
  let main_v7 : IVec S_ 1 := (fun x v => Host.reduce IntOp.andi x v reducesTo_S512x32_S_d0_1 h_S_) main_v6 main_c_1
  let main_v8 : IVec S_ 1 := andi main_v3 main_v7
  let main_c_2 : IVec S_ 32 := constantI S_ 32 0#32
  let main_v9 : IVec S2048x2 32 := broadcastInDim S2048x2 ![] bcast_S_S2048x2 main_c_2
  let main_v10 : IVec S2048x2 1 := cmpi .sge main_arg2 main_v9
  let main_c_3 : IVec S_ 32 := constantI S_ 32 32#32
  let main_v11 : IVec S2048x2 32 := broadcastInDim S2048x2 ![] bcast_S_S2048x2 main_c_3
  let main_v12 : IVec S2048x2 1 := cmpi .slt main_arg2 main_v11
  let main_v13 : IVec S2048x2 1 := andi main_v10 main_v12
  let main_c_4 : IVec S_ 1 := constantI S_ 1 1#1
  let main_v14 : IVec S_ 1 := (fun x v => Host.reduce IntOp.andi x v reducesTo_S2048x2_S_d0_1 h_S_) main_v13 main_c_4
  let main_v15 : IVec S_ 1 := andi main_v8 main_v14
  main_v15
-- ==== Kernel.lean ====
abbrev S2048x512 : Shape := ⟨2, ![2048, 512]⟩
abbrev S512x32 : Shape := ⟨2, ![512, 32]⟩
abbrev S2048x2 : Shape := ⟨2, ![2048, 2]⟩
abbrev S8x512x1024 : Shape := ⟨3, ![8, 512, 1024]⟩
abbrev S2048x1024 : Shape := ⟨2, ![2048, 1024]⟩
abbrev S4x6x512x256 : Shape := ⟨4, ![4, 6, 512, 256]⟩
abbrev S4x4x512x256 : Shape := ⟨4, ![4, 4, 512, 256]⟩
abbrev S4x6 : Shape := ⟨2, ![4, 6]⟩
abbrev S_ : Shape := ⟨0, ![]⟩
abbrev S512x512 : Shape := ⟨2, ![512, 512]⟩
abbrev S512 : Shape := ⟨1, ![512]⟩
abbrev S512x1 : Shape := ⟨2, ![512, 1]⟩
abbrev S512x2 : Shape := ⟨2, ![512, 2]⟩
abbrev S512x1024 : Shape := ⟨2, ![512, 1024]⟩
abbrev S1x512x1024 : Shape := ⟨3, ![1, 512, 1024]⟩
abbrev S512x256 : Shape := ⟨2, ![512, 256]⟩
abbrev S1x1x512x256 : Shape := ⟨4, ![1, 1, 512, 256]⟩
abbrev S1x1 : Shape := ⟨2, ![1, 1]⟩

abbrev nBuf : Space → Nat
  | .hbm => 5
  | .vmem => 8
  | .smem => 0
  | _ => 0

abbrev bufTy : (tb : Table) → Fin (tcTables nBuf tb) → BufTy
  | .hbm, ⟨0, _⟩ => ⟨S2048x512, .f32⟩
  | .hbm, ⟨1, _⟩ => ⟨S512x32, .f32⟩
  | .hbm, ⟨2, _⟩ => ⟨S2048x2, .i32⟩
  | .hbm, ⟨3, _⟩ => ⟨S8x512x1024, .f32⟩
  | .hbm, ⟨4, _⟩ => ⟨S2048x1024, .f32⟩
  | .local _ .vmem, ⟨0, _⟩ => ⟨S2048x512, .f32⟩
  | .local _ .vmem, ⟨1, _⟩ => ⟨S512x32, .f32⟩
  | .local _ .vmem, ⟨2, _⟩ => ⟨S2048x2, .i32⟩
  | .local _ .vmem, ⟨3, _⟩ => ⟨S8x512x1024, .f32⟩
  | .local _ .vmem, ⟨4, _⟩ => ⟨S2048x1024, .f32⟩
  | .local _ .vmem, ⟨5, _⟩ => ⟨S4x6x512x256, .bf16⟩
  | .local _ .vmem, ⟨6, _⟩ => ⟨S4x4x512x256, .bf16⟩
  | .local _ .vmem, ⟨7, _⟩ => ⟨S8x512x1024, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  (ofTc nBuf bufTy 1 53 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_4 : BitVec 32 := 1#32
  let v8 : BitVec 32 := Scalar.muli v4 c1_i32_4
  let v9 : BitVec 32 := Scalar.addi c0_i32 v8
  v9.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_6 : BitVec 32 := 1#32
  let v10 : BitVec 32 := Scalar.muli v6 c1_i32_6
  let v11 : BitVec 32 := Scalar.addi c0_i32_7 v10
  v11.toNat
def k0_off1 (d0 : Dev nD) (c0_i32_8 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v12 : BitVec 32 := Scalar.addi v2 c0_i32_8
  let c8_i32 : BitVec 32 := 8#32
  let v13 : BitVec 32 := Scalar.addi v12 c8_i32
  let c4_i32_9 : BitVec 32 := 4#32
  let v14 : BitVec 32 := Scalar.remsi v13 c4_i32_9
  let c512_i32 : BitVec 32 := 512#32
  let v15 : BitVec 32 := Scalar.muli v14 c512_i32
  let v16 : Index := Scalar.indexCast v15
  let c0 : Index := 0#32
  ![v16.toNat, 0]
def k0_off1_at (r : Fin 4) : BitVec 32 :=
  if r.val < 2 then
    if r.val < 1 then
      0#32
    else
      4294967295#32
  else
    if r.val < 3 then
      1#32
    else
      2#32
def k0_off2 (d0 : Dev nD) (c0_i32_8 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v12 : BitVec 32 := Scalar.addi v2 c0_i32_8
  let c8_i32 : BitVec 32 := 8#32
  let v13 : BitVec 32 := Scalar.addi v12 c8_i32
  let c4_i32_9 : BitVec 32 := 4#32
  let v14 : BitVec 32 := Scalar.remsi v13 c4_i32_9
  let c512_i32 : BitVec 32 := 512#32
  let v15 : BitVec 32 := Scalar.muli v14 c512_i32
  let v31 : Index := Scalar.indexCast v15
  let c0_14 : Index := 0#32
  ![v31.toNat, 0]
def k0_off2_at (r : Fin 4) : BitVec 32 :=
  if r.val < 2 then
    if r.val < 1 then
      0#32
    else
      4294967295#32
  else
    if r.val < 3 then
      1#32
    else
      2#32
def k0_off3 (d0 : Dev nD) (c0_i32_8 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v12 : BitVec 32 := Scalar.addi v2 c0_i32_8
  let c8_i32 : BitVec 32 := 8#32
  let v13 : BitVec 32 := Scalar.addi v12 c8_i32
  let c4_i32_9 : BitVec 32 := 4#32
  let v14 : BitVec 32 := Scalar.remsi v13 c4_i32_9
  let c512_i32 : BitVec 32 := 512#32
  let v15 : BitVec 32 := Scalar.muli v14 c512_i32
  let v246 : Index := Scalar.indexCast v15
  let c0_122 : Index := 0#32
  ![v246.toNat, 0]
def k0_off3_at (r : Fin 4) : BitVec 32 :=
  if r.val < 2 then
    if r.val < 1 then
      0#32
    else
      4294967295#32
  else
    if r.val < 3 then
      1#32
    else
      2#32
def k0_off4 (d0 : Dev nD) (c0_i32_123 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v248 : BitVec 32 := Scalar.addi v2 c0_i32_123
  let c8_i32_124 : BitVec 32 := 8#32
  let v249 : BitVec 32 := Scalar.addi v248 c8_i32_124
  let c4_i32_125 : BitVec 32 := 4#32
  let v250 : BitVec 32 := Scalar.remsi v249 c4_i32_125
  let c512_i32_126 : BitVec 32 := 512#32
  let v251 : BitVec 32 := Scalar.muli v250 c512_i32_126
  let v252 : Index := Scalar.indexCast v251
  let c0_127 : Index := 0#32
  ![v252.toNat, 0]
def k0_off4_at (r : Fin 4) : BitVec 32 :=
  if r.val < 2 then
    if r.val < 1 then
      0#32
    else
      4294967295#32
  else
    if r.val < 3 then
      4294967294#32
    else
      1#32
def k0_dev3 (d0 : Dev nD) : Nat :=
  let c0_i32_141 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_140 : BitVec 32 := 1#32
  let v259 : BitVec 32 := Scalar.muli v6 c1_i32_140
  let v260 : BitVec 32 := Scalar.addi c0_i32_141 v259
  v260.toNat
def k0_off5 (d0 : Dev nD) (c0_i32_146 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v269 : BitVec 32 := Scalar.addi v2 c0_i32_146
  let c8_i32_147 : BitVec 32 := 8#32
  let v270 : BitVec 32 := Scalar.addi v269 c8_i32_147
  let c4_i32_148 : BitVec 32 := 4#32
  let v271 : BitVec 32 := Scalar.remsi v270 c4_i32_148
  let c512_i32_149 : BitVec 32 := 512#32
  let v272 : BitVec 32 := Scalar.muli v271 c512_i32_149
  let v273 : Index := Scalar.indexCast v272
  let c256 : Index := 256#32
  ![v273.toNat, 256]
def k0_off5_at (r : Fin 4) : BitVec 32 :=
  if r.val < 2 then
    if r.val < 1 then
      0#32
    else
      4294967295#32
  else
    if r.val < 3 then
      4294967294#32
    else
      1#32
def k0_dev4 (d0 : Dev nD) : Nat :=
  let c0_i32_163 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_162 : BitVec 32 := 1#32
  let v280 : BitVec 32 := Scalar.muli v6 c1_i32_162
  let v281 : BitVec 32 := Scalar.addi c0_i32_163 v280
  v281.toNat
def k0_off6 (d0 : Dev nD) (c0_i32_168 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v290 : BitVec 32 := Scalar.addi v2 c0_i32_168
  let c8_i32_169 : BitVec 32 := 8#32
  let v291 : BitVec 32 := Scalar.addi v290 c8_i32_169
  let c4_i32_170 : BitVec 32 := 4#32
  let v292 : BitVec 32 := Scalar.remsi v291 c4_i32_170
  let c512_i32_171 : BitVec 32 := 512#32
  let v293 : BitVec 32 := Scalar.muli v292 c512_i32_171
  let v294 : Index := Scalar.indexCast v293
  let c512 : Index := 512#32
  ![v294.toNat, 512]
def k0_off6_at (r : Fin 4) : BitVec 32 :=
  if r.val < 2 then
    if r.val < 1 then
      0#32
    else
      1#32
  else
    if r.val < 3 then
      2#32
    else
      4294967295#32
def k0_dev5 (d0 : Dev nD) : Nat :=
  let c0_i32_185 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_184 : BitVec 32 := 1#32
  let v301 : BitVec 32 := Scalar.muli v4 c1_i32_184
  let v302 : BitVec 32 := Scalar.addi c0_i32_185 v301
  v302.toNat
def k0_off7 (d0 : Dev nD) (c0_i32_190 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v311 : BitVec 32 := Scalar.addi v2 c0_i32_190
  let c8_i32_191 : BitVec 32 := 8#32
  let v312 : BitVec 32 := Scalar.addi v311 c8_i32_191
  let c4_i32_192 : BitVec 32 := 4#32
  let v313 : BitVec 32 := Scalar.remsi v312 c4_i32_192
  let c512_i32_193 : BitVec 32 := 512#32
  let v314 : BitVec 32 := Scalar.muli v313 c512_i32_193
  let v315 : Index := Scalar.indexCast v314
  let c768 : Index := 768#32
  ![v315.toNat, 768]
def k0_off7_at (r : Fin 4) : BitVec 32 :=
  if r.val < 2 then
    if r.val < 1 then
      0#32
    else
      1#32
  else
    if r.val < 3 then
      2#32
    else
      4294967295#32
def k0_dev6 (d0 : Dev nD) : Nat :=
  let c0_i32_207 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_206 : BitVec 32 := 1#32
  let v322 : BitVec 32 := Scalar.muli v4 c1_i32_206
  let v323 : BitVec 32 := Scalar.addi c0_i32_207 v322
  v323.toNat
def k0_dev7 (d0 : Dev nD) : Nat :=
  let c0_i32_341 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_340 : BitVec 32 := 1#32
  let v549 : BitVec 32 := Scalar.muli v6 c1_i32_340
  let v550 : BitVec 32 := Scalar.addi c0_i32_341 v549
  v550.toNat
def k0_dev8 (d0 : Dev nD) : Nat :=
  let c0_i32_395 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_394 : BitVec 32 := 1#32
  let v588 : BitVec 32 := Scalar.muli v6 c1_i32_394
  let v589 : BitVec 32 := Scalar.addi c0_i32_395 v588
  v589.toNat
def k0_dev9 (d0 : Dev nD) : Nat :=
  let c0_i32_530 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_529 : BitVec 32 := 1#32
  let v815 : BitVec 32 := Scalar.muli v4 c1_i32_529
  let v816 : BitVec 32 := Scalar.addi c0_i32_530 v815
  v816.toNat
def k0_dev10 (d0 : Dev nD) : Nat :=
  let c0_i32_584 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_583 : BitVec 32 := 1#32
  let v854 : BitVec 32 := Scalar.muli v4 c1_i32_583
  let v855 : BitVec 32 := Scalar.addi c0_i32_584 v854
  v855.toNat
def k0_dev11 (d0 : Dev nD) : Nat :=
  let c0_i32_718 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_717 : BitVec 32 := 1#32
  let v1081 : BitVec 32 := Scalar.muli v6 c1_i32_717
  let v1082 : BitVec 32 := Scalar.addi c0_i32_718 v1081
  v1082.toNat
def k0_dev12 (d0 : Dev nD) : Nat :=
  let c0_i32_772 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_771 : BitVec 32 := 1#32
  let v1120 : BitVec 32 := Scalar.muli v6 c1_i32_771
  let v1121 : BitVec 32 := Scalar.addi c0_i32_772 v1120
  v1121.toNat
def k0_dev13 (d0 : Dev nD) : Nat :=
  let c0_i32_826 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_825 : BitVec 32 := 1#32
  let v1159 : BitVec 32 := Scalar.muli v4 c1_i32_825
  let v1160 : BitVec 32 := Scalar.addi c0_i32_826 v1159
  v1160.toNat
def k0_dev14 (d0 : Dev nD) : Nat :=
  let c0_i32_880 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_879 : BitVec 32 := 1#32
  let v1198 : BitVec 32 := Scalar.muli v4 c1_i32_879
  let v1199 : BitVec 32 := Scalar.addi c0_i32_880 v1198
  v1199.toNat
def k0_dev15 (d0 : Dev nD) : Nat :=
  let c0_i32_937 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_936 : BitVec 32 := 1#32
  let v1243 : BitVec 32 := Scalar.muli v6 c1_i32_936
  let v1244 : BitVec 32 := Scalar.addi c0_i32_937 v1243
  v1244.toNat
def k0_dev16 (d0 : Dev nD) : Nat :=
  let c0_i32_994 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_993 : BitVec 32 := 1#32
  let v1288 : BitVec 32 := Scalar.muli v6 c1_i32_993
  let v1289 : BitVec 32 := Scalar.addi c0_i32_994 v1288
  v1289.toNat
def k0_dev17 (d0 : Dev nD) : Nat :=
  let c0_i32_1051 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_1050 : BitVec 32 := 1#32
  let v1333 : BitVec 32 := Scalar.muli v4 c1_i32_1050
  let v1334 : BitVec 32 := Scalar.addi c0_i32_1051 v1333
  v1334.toNat
def k0_dev18 (d0 : Dev nD) : Nat :=
  let c0_i32_1108 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_1107 : BitVec 32 := 1#32
  let v1378 : BitVec 32 := Scalar.muli v4 c1_i32_1107
  let v1379 : BitVec 32 := Scalar.addi c0_i32_1108 v1378
  v1379.toNat
def k0_dev19 (d0 : Dev nD) : Nat :=
  let c0_i32_1149 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_1148 : BitVec 32 := 1#32
  let v1402 : BitVec 32 := Scalar.muli v6 c1_i32_1148
  let v1403 : BitVec 32 := Scalar.addi c0_i32_1149 v1402
  v1403.toNat
def k0_dev20 (d0 : Dev nD) : Nat :=
  let c0_i32_1199 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_1198 : BitVec 32 := 1#32
  let v1435 : BitVec 32 := Scalar.muli v6 c1_i32_1198
  let v1436 : BitVec 32 := Scalar.addi c0_i32_1199 v1435
  v1436.toNat
def k0_dev21 (d0 : Dev nD) : Nat :=
  let c0_i32_1249 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_1248 : BitVec 32 := 1#32
  let v1468 : BitVec 32 := Scalar.muli v4 c1_i32_1248
  let v1469 : BitVec 32 := Scalar.addi c0_i32_1249 v1468
  v1469.toNat
def k0_dev22 (d0 : Dev nD) : Nat :=
  let c0_i32_1299 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_1298 : BitVec 32 := 1#32
  let v1501 : BitVec 32 := Scalar.muli v4 c1_i32_1298
  let v1502 : BitVec 32 := Scalar.addi c0_i32_1299 v1501
  v1502.toNat
def k0_dev23 (d0 : Dev nD) : Nat :=
  let c0_i32_1349 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_1348 : BitVec 32 := 1#32
  let v1534 : BitVec 32 := Scalar.muli v6 c1_i32_1348
  let v1535 : BitVec 32 := Scalar.addi c0_i32_1349 v1534
  v1535.toNat
def k0_dev24 (d0 : Dev nD) : Nat :=
  let c0_i32_1399 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_1398 : BitVec 32 := 1#32
  let v1567 : BitVec 32 := Scalar.muli v6 c1_i32_1398
  let v1568 : BitVec 32 := Scalar.addi c0_i32_1399 v1567
  v1568.toNat
def k0_dev25 (d0 : Dev nD) : Nat :=
  let c0_i32_1449 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_1448 : BitVec 32 := 1#32
  let v1600 : BitVec 32 := Scalar.muli v4 c1_i32_1448
  let v1601 : BitVec 32 := Scalar.addi c0_i32_1449 v1600
  v1601.toNat
def k0_dev26 (d0 : Dev nD) : Nat :=
  let c0_i32_1499 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_1498 : BitVec 32 := 1#32
  let v1633 : BitVec 32 := Scalar.muli v4 c1_i32_1498
  let v1634 : BitVec 32 := Scalar.addi c0_i32_1499 v1633
  v1634.toNat
abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S2048x512 : Shape := ⟨2, ![2048, 512]⟩
abbrev S512x32 : Shape := ⟨2, ![512, 32]⟩
abbrev S2048x2 : Shape := ⟨2, ![2048, 2]⟩
abbrev S32x512x1024 : Shape := ⟨3, ![32, 512, 1024]⟩
abbrev S2048x32 : Shape := ⟨2, ![2048, 32]⟩
abbrev S_ : Shape := ⟨0, ![]⟩
abbrev S2048 : Shape := ⟨1, ![2048]⟩
abbrev S2048x1 : Shape := ⟨2, ![2048, 1]⟩
abbrev S2048x2x1 : Shape := ⟨3, ![2048, 2, 1]⟩
abbrev S2048x512x1024 : Shape := ⟨3, ![2048, 512, 1024]⟩
abbrev S2048x1024 : Shape := ⟨2, ![2048, 1024]⟩

abbrev nBuf : Space → Nat
  | .hbm => 45
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x32, .f32⟩
  | .hbm, ⟨2, _⟩ => ⟨S2048x2, .i32⟩
  | .hbm, ⟨3, _⟩ => ⟨S32x512x1024, .f32⟩
  | .hbm, ⟨4, _⟩ => ⟨S2048x32, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S2048x32, .f32⟩
  | .hbm, ⟨9, _⟩ => ⟨S2048x32, .f32⟩
  | .hbm, ⟨10, _⟩ => ⟨S2048x32, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S2048x32, .f32⟩
  | .hbm, ⟨15, _⟩ => ⟨S2048x32, .f32⟩
  | .hbm, ⟨16, _⟩ => ⟨S2048x1, .i32⟩
  | .hbm, ⟨17, _⟩ => ⟨S2048, .i32⟩
  | .hbm, ⟨18, _⟩ => ⟨S2048x1, .i32⟩
  | .hbm, ⟨19, _⟩ => ⟨S2048, .i32⟩
  | .hbm, ⟨20, _⟩ => ⟨S_, .i32⟩
  | .hbm, ⟨21, _⟩ => ⟨S2048x2, .i32⟩
  | .hbm, ⟨22, _⟩ => ⟨S2048x2, .i1⟩
  | .hbm, ⟨23, _⟩ => ⟨S_, .i32⟩
  | .hbm, ⟨24, _⟩ => ⟨S2048x2, .i32⟩
  | .hbm, ⟨25, _⟩ => ⟨S2048x2, .i32⟩
  | .hbm, ⟨26, _⟩ => ⟨S2048x2, .i32⟩
  | .hbm, ⟨27, _⟩ => ⟨S2048x2x1, .i32⟩
  | .hbm, ⟨28, _⟩ => ⟨S2048x2, .f32⟩
  | .hbm, ⟨29, _⟩ => ⟨S2048x1, .f32⟩
  | .hbm, ⟨30, _⟩ => ⟨S2048x1, .f32⟩
  | .hbm, ⟨31, _⟩ => ⟨S2048x1, .f32⟩
  | .hbm, ⟨32, _⟩ => ⟨S2048x1, .i32⟩
  | .hbm, ⟨33, _⟩ => ⟨S2048x512x1024, .f32⟩
  | .hbm, ⟨34, _⟩ => ⟨S2048x1024, .f32⟩
  | .hbm, ⟨35, _⟩ => ⟨S2048x1, .i32⟩
  | .hbm, ⟨36, _⟩ => ⟨S2048x512x1024, .f32⟩
  | .hbm, ⟨37, _⟩ => ⟨S2048x1024, .f32⟩
  | .hbm, ⟨38, _⟩ => ⟨S2048x1, .f32⟩
  | .hbm, ⟨39, _⟩ => ⟨S2048x1024, .f32⟩
  | .hbm, ⟨40, _⟩ => ⟨S2048x1024, .f32⟩
  | .hbm, ⟨41, _⟩ => ⟨S2048x1, .f32⟩
  | .hbm, ⟨42, _⟩ => ⟨S2048x1024, .f32⟩
  | .hbm, ⟨43, _⟩ => ⟨S2048x1024, .f32⟩
  | .hbm, ⟨44, _⟩ => ⟨S2048x1024, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_call1_v0 : Ref sig .tc := ⟨.hbm, 32, rfl⟩
abbrev main_v18 : Ref sig .tc := ⟨.hbm, 33, rfl⟩
abbrev main_v19 : Ref sig .tc := ⟨.hbm, 34, rfl⟩
abbrev main_call2_v0 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Proof.Proto.lean ====
/-
# The protocol of the four chains

Every device talks to both ring neighbours: chains 0 and 1 send to the next device, chains 2 and 3 to the
previous one. A chain makes six transfers; transfer number `i` (of 24) is step `i / 4` of chain `i % 4`, and the
kernel starts and awaits the transfers in this order. Each transfer lands in a slot of the receiver's communication buffer that is used once,
so the only thing a sender must know is that the receiver has entered the kernel: that is what the barrier's two
signals say, and what hands the sender the receiver's slots.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.ValueKit.Geometry
public import Idealize.ShloMosaic.Lib.Tactic

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's -/

/-- The bookkeeping of the protocol's rounds, -/
abbrev UB : Type := URounds (GSem nD τ sig) Bool
/-- beside the pipeline's. -/
abbrev UU : Type := UR sig nD τ × UB

local notation "𝕄" => MT nD τ sig Unit (Elt F) ℕ UU ℕ

/-- Where the pipeline's lies in it, -/
abbrev EP : Emb (UR sig nD τ) (MT nD τ sig Unit (Elt F) ℕ UU ℕ) := embL
/-- and where the protocol's. -/
abbrev ER : Emb UB (MT nD τ sig Unit (Elt F) ℕ UU ℕ) := embR

/-- No loop of the body needs a measure. -/
abbrev 𝒱₀ : Variants := Variants.none

/-! ## The ring -/

set_option backward.proofsInPublic true in
/-- The next device around the ring, -/
def nxt (c : Dev nD) : Dev nD := ⟨(c.val + 1) % 4, Nat.mod_lt _ (by decide)⟩
set_option backward.proofsInPublic true in
/-- and the previous one. -/
def prv (c : Dev nD) : Dev nD := ⟨(c.val + 3) % 4, Nat.mod_lt _ (by decide)⟩

/-- Back undoes forward. -/
theorem prv_nxt (c : Dev nD) : prv (nxt c) = c := by revert c; decide
/-- Forward undoes back. -/
theorem nxt_prv (c : Dev nD) : nxt (prv c) = c := by revert c; decide

/-- The ring as a rearrangement of the devices. -/
def ring : Dev nD ≃ Dev nD := ⟨nxt, prv, prv_nxt, nxt_prv⟩

/-- Whether transfer `i` goes forward around the ring. -/
abbrev fwd (i : Fin 24) : Bool := decide (i.val % 4 < 2)
/-- The device transfer `i` of device `c` goes to. -/
def nbr (i : Fin 24) (c : Dev nD) : Dev nD := if fwd i then nxt c else prv c
/-- The device whose transfer `i` comes to device `c`. -/
def sndr (i : Fin 24) (c : Dev nD) : Dev nD := if fwd i then prv c else nxt c

/-- The sender to the device it sends to is itself. -/
theorem sndr_nbr (i : Fin 24) (c : Dev nD) : sndr i (nbr i c) = c := by
  unfold sndr nbr; split <;> simp [prv_nxt, nxt_prv]
/-- The receiver from a device's sender is that device. -/
theorem nbr_sndr (i : Fin 24) (c : Dev nD) : nbr i (sndr i c) = c := by
  unfold sndr nbr; split <;> simp [prv_nxt, nxt_prv]

/-- Transfer `i`'s pairing of senders with receivers. -/
def around (i : Fin 24) : Dev nD ≃ Dev nD := ⟨nbr i, sndr i, sndr_nbr i, nbr_sndr i⟩

/-! ## Slots -/

/-- A communication slot lies inside its buffer. -/
theorem inb5 (i : Fin 24) : ∀ a, (![i.val % 4, i.val / 4, 0, 0] : Fin 4 → ℕ) a + S1x1x512x256.size a ≤ S4x6x512x256.size a := by
  revert i; decide
/-- A staging slot lies inside its buffer. -/
theorem inb6 (j : Fin 16) : ∀ a, (![j.val % 4, j.val / 4, 0, 0] : Fin 4 → ℕ) a + S1x1x512x256.size a ≤ S4x4x512x256.size a := by
  revert j; decide

/-- The rectangle of communication slot `i`, -/
abbrev R5 (i : Fin 24) : Rect S4x6x512x256 := Rect.unit (s := S4x6x512x256) ![i.val % 4, i.val / 4, 0, 0] S1x1x512x256.size (inb5 i)
/-- and of staging slot `j`. -/
abbrev R6 (j : Fin 16) : Rect S4x4x512x256 := Rect.unit (s := S4x4x512x256) ![j.val % 4, j.val / 4, 0, 0] S1x1x512x256.size (inb6 j)

/-- Communication slot `i` and staging slot `j`. -/
abbrev M5 (i : Fin 24) : Memref sig .tc .vmem S1x1x512x256 .bf16 := (Memref.whole cc0_scratch0).slice (R5 i) (fun _ => rfl)
/-- Staging slot `j`. -/
abbrev M6 (j : Fin 16) : Memref sig .tc .vmem S1x1x512x256 .bf16 := (Memref.whole cc0_scratch1).slice (R6 j) (fun _ => rfl)

/-! ## Semaphore cells -/

/-- The barrier's semaphore. -/
abbrev barS : Sem sig := (SemArray.scalar (sig.barrier 0 rfl) : Sems sig S_).sem
set_option backward.proofsInPublic true in
/-- The semaphore that transfer `i`'s send credits, -/
def sS (i : Fin 24) : DmaSem sig := ⟨5 + (6 * (i.val % 4) + i.val / 4), by show _ < 53; omega⟩
set_option backward.proofsInPublic true in
/-- and the one its landing credits. -/
def rS (i : Fin 24) : DmaSem sig := ⟨29 + (6 * (i.val % 4) + i.val / 4), by show _ < 53; omega⟩

/-- A device's barrier cell. -/
abbrev barCell (c : Dev nD) : GSem nD τ sig := ((c : Thread nD τ), .reg barS)
/-- The cell that transfer `i`'s send credits, -/
abbrev sendCell (c : Dev nD) (i : Fin 24) : GSem nD τ sig := ((c : Thread nD τ), .dma (sS i))
/-- and the one its landing credits. -/
abbrev recvCell (c : Dev nD) (i : Fin 24) : GSem nD τ sig := ((c : Thread nD τ), .dma (rS i))

set_option backward.proofsInPublic true in
/-- The transfer a semaphore at place `n` of its array serves. -/
def dec (n : ℕ) : Fin 24 := ⟨(4 * (n % 6) + n / 6) % 24, Nat.mod_lt _ (by decide)⟩

/-- A send semaphore serves its own transfer, -/
theorem dec_sS (i : Fin 24) : dec ((sS i).val - 5) = i := by revert i; decide
/-- a receive semaphore likewise. -/
theorem dec_rS (i : Fin 24) : dec ((rS i).val - 29) = i := by revert i; decide
/-- Send semaphores come before receive semaphores, -/
theorem sS_lt (i : Fin 24) : (sS i).val < 29 := by revert i; decide
/-- after the pipeline's, -/
theorem sS_ge (i : Fin 24) : 5 ≤ (sS i).val := by revert i; decide
/-- and receive semaphores last. -/
theorem rS_ge (i : Fin 24) : 29 ≤ (rS i).val := by revert i; decide
/-- Different transfers have different receive semaphores -/
theorem rS_injective : Function.Injective rS := by decide
/-- and different send semaphores. -/
theorem sS_injective : Function.Injective sS := by decide

/-- The kernel's own semaphores, send then receive; -/
def osem (k : Fin 48) : SemLoc sig := if h : k.val < 24 then .dma (sS ⟨k.val, h⟩) else .dma (rS ⟨k.val - 24, by omega⟩)
/-- all of the protocol's: the barrier's first. -/
def csem (k : Fin 49) : SemLoc sig := if h : k.val = 0 then .reg barS else osem ⟨k.val - 1, by omega⟩
/-- A device's cells of the protocol. -/
abbrev kcell (ck : Dev nD × Fin 49) : GSem nD τ sig := ((ck.1 : Thread nD τ), csem ck.2)

/-- Where a send semaphore stands among them, -/
abbrev sIx (i : Fin 24) : Fin 49 := ⟨i.val + 1, by omega⟩
/-- and a receive semaphore. -/
abbrev rIx (i : Fin 24) : Fin 49 := ⟨i.val + 25, by omega⟩

/-- The place of a send semaphore holds it, -/
theorem csem_send (i : Fin 24) : csem (sIx i) = .dma (sS i) := by
  unfold csem osem; rw [dif_neg (by simp), dif_pos (by simp)]; rfl
/-- that of a receive semaphore too, -/
theorem csem_recv (i : Fin 24) : csem (rIx i) = .dma (rS i) := by
  unfold csem osem; rw [dif_neg (by simp), dif_neg (by simp)]; congr
/-- and after the barrier's come the kernel's own. -/
theorem csem_succ (k : Fin 48) : csem k.succ = osem k := by
  unfold csem; rw [dif_neg (by simp)]; congr

/-- The credit of one slot's transfer. -/
abbrev N : ℕ := ((M5 0).squeeze S512x256 squeezes_S1x1x512x256_S512x256).view.dmaCredit
/-- It is not nothing. -/
theorem N_pos : 0 < N := View.dmaCredit_pos _ (by decide)

/-! ## The schedule -/

/-- What a slot holds. -/
abbrev Slot (F : FTy → Type) : Type := S1x1x512x256.Idx → Elt F .bf16

/-- What each device's transfer sends. -/
abbrev Sent (F : FTy → Type) : Type := Fin 24 → Dev nD → Slot F

/-- Communication slot `i` held at contents, -/
abbrev own5 (c : Dev nD) (i : Fin 24) (q : PosShare TreeShare) (X : Slot F) : sProp 𝕄 := owns (c : Thread nD τ) (M5 i) q X
/-- staging slot `j` held at contents. -/
abbrev own6 (c : Dev nD) (j : Fin 16) (q : PosShare TreeShare) (X : Slot F) : sProp 𝕄 := owns (c : Thread nD τ) (M6 j) q X

variable (sv : Sent F)

/-- What the signal of the neighbour on the side `d` hands device `c`: that neighbour's slots `c` sends into. -/
def barPay (d : Bool) (c : Dev nD) : sProp 𝕄 :=
  bigSep (Finset.univ.filter fun i : Fin 24 => fwd i = d) fun i => iprop(∃ X : Slot F, own5 (nbr i c) i fullShare X)
/-- A landed slot. -/
def recvPay (i : Fin 24) (c : Dev nD) : sProp 𝕄 := own5 c i fullShare (sv i (sndr i c))
/-- The source of transfer `i`, back: a staging slot for the first four steps, half of the slot landed last for the other two. -/
def sendPay (i : Fin 24) (c : Dev nD) : sProp 𝕄 :=
  if h : i.val < 16 then own6 c ⟨i.val, h⟩ fullShare (sv i c) else own5 c ⟨i.val - 4, by omega⟩ fullShare.left (sv i c)

omit [FloatOps F] in
/-- The barrier's payload may lie in an invariant, -/
instance barPay_storable (d : Bool) (c : Dev nD) : BI.Storable (upEmb : UEmb _ 𝕄) (barPay (F := F) d c) := by unfold barPay; infer_instance
omit [FloatOps F] in
/-- a landing's too, -/
instance recvPay_storable (i : Fin 24) (c : Dev nD) : BI.Storable (upEmb : UEmb _ 𝕄) (recvPay sv i c) := by unfold recvPay; infer_instance
omit [FloatOps F] in
/-- a send's too, -/
instance sendPay_storable (i : Fin 24) (c : Dev nD) : BI.Storable (upEmb : UEmb _ 𝕄) (sendPay sv i c) := by
  unfold sendPay; split <;> infer_instance

/-- One round: a barrier cell has two duties of a unit each, a transfer's cells one duty of the slot's credit. -/
def Rd : Rounds.Schedule (GSem nD τ sig) Bool 𝕄 where
  duties g r := if r = 0 ∧ g.1.2 = .tc then (match g.2 with | .reg _ => Finset.univ | .dma s => if 5 ≤ s.val then {false} else ∅) else ∅
  unitless _ := False
  amount g _ _ := match g.2 with | .reg _ => 1 | .dma _ => N
  payload g _ d := match g.2 with
    | .reg _ => barPay d g.1.1
    | .dma s => if 29 ≤ s.val then recvPay sv (dec (s.val - 29)) g.1.1 else sendPay sv (dec (s.val - 5)) g.1.1
  amount_pos g _ _ _ := by
    rcases g with ⟨_, _ | _⟩
    · exact Nat.one_pos
    · exact N_pos

omit [FloatOps F] in
/-- so every payload may. -/
instance Rd_payload_storable (g : GSem nD τ sig) (r : ℕ) (d : Bool) : BI.Storable (upEmb : UEmb _ 𝕄) ((Rd sv).payload g r d) := by
  rcases g with ⟨t, s | s⟩
  · show BI.Storable upEmb (barPay d t.1); infer_instance
  · show BI.Storable upEmb (if 29 ≤ s.val then recvPay sv (dec (s.val - 29)) t.1 else sendPay sv (dec (s.val - 5)) t.1)
    split <;> infer_instance

section Sched
variable (c : Dev nD) (i : Fin 24)

omit [FloatOps F] in
/-- A barrier cell has both duties, -/
theorem duties_bar : (Rd sv).duties (barCell c) 0 = Finset.univ := by dsimp only [Rd]; exact if_pos ⟨rfl, rfl⟩
omit [FloatOps F] in
/-- a send cell one, -/
theorem duties_send : (Rd sv).duties (sendCell c i) 0 = {false} := by
  dsimp only [Rd]; rw [if_pos ⟨rfl, rfl⟩, if_pos (sS_ge i)]
omit [FloatOps F] in
/-- a receive cell one, -/
theorem duties_recv : (Rd sv).duties (recvCell c i) 0 = {false} := by
  dsimp only [Rd]; rw [if_pos ⟨rfl, rfl⟩, if_pos (le_trans (by decide) (rS_ge i))]
omit [FloatOps F] in
/-- and after round 0 there are none. -/
theorem duties_later (g : GSem nD τ sig) : ∀ r, 1 ≤ r → (Rd sv).duties g r = ∅ :=
  fun r hr => by dsimp only [Rd]; rw [if_neg fun h => by omega]

omit [FloatOps F] in
/-- A barrier's duty is a unit, -/
theorem amount_bar (d : Bool) : (Rd sv).amount (barCell c) 0 d = 1 := rfl
omit [FloatOps F] in
/-- a send's the slot's credit, -/
theorem amount_send (d : Bool) : (Rd sv).amount (sendCell c i) 0 d = N := rfl
omit [FloatOps F] in
/-- a landing's likewise. -/
theorem amount_recv (d : Bool) : (Rd sv).amount (recvCell c i) 0 d = N := rfl

omit [FloatOps F] in
/-- So a barrier cell's round is two units, -/
theorem expect_bar : (Rd sv).expect (barCell c) 0 = 2 := by
  unfold Schedule.expect Schedule.amountOf
  rw [duties_bar, Finset.sum_congr rfl fun d _ => amount_bar sv c d, Finset.sum_const, Finset.card_univ, Fintype.card_bool, smul_eq_mul]
omit [FloatOps F] in
/-- a send cell's one slot, -/
theorem expect_send : (Rd sv).expect (sendCell c i) 0 = N := by
  unfold Schedule.expect Schedule.amountOf; rw [duties_send, Finset.sum_singleton, amount_send]
omit [FloatOps F] in
/-- a receive cell's one slot. -/
theorem expect_recv : (Rd sv).expect (recvCell c i) 0 = N := by
  unfold Schedule.expect Schedule.amountOf; rw [duties_recv, Finset.sum_singleton, amount_recv]

omit [FloatOps F] in
/-- A barrier's payload is the neighbour's slots, -/
theorem payload_bar (d : Bool) : (Rd sv).payload (barCell c) 0 d = barPay d c := rfl
omit [FloatOps F] in
/-- a send's its source, -/
theorem payload_send (d : Bool) : (Rd sv).payload (sendCell c i) 0 d = sendPay sv i c := by
  dsimp only [Rd]; rw [if_neg (by have := sS_lt i; omega), dec_sS]
omit [FloatOps F] in
/-- a landing's the landed slot. -/
theorem payload_recv (d : Bool) : (Rd sv).payload (recvCell c i) 0 d = recvPay sv i c := by
  dsimp only [Rd]; rw [if_pos (rS_ge i), dec_rS]

omit [FloatOps F] in
/-- The barrier's whole round: both neighbours' slots. -/
theorem rest_bar : bigSep ((Rd sv).duties (barCell c) 0 \ ∅) (fun d => (Rd sv).payload (barCell c) 0 d)
    = (bigSep Finset.univ fun i : Fin 24 => iprop(∃ X : Slot F, own5 (nbr i c) i fullShare X) : sProp 𝕄) := by
  rw [Finset.sdiff_empty, duties_bar, bigSep_univ_eq_bigSepL [true, false] (by decide) (by decide), bigSepL_cons_cons, bigSepL_singleton,
    payload_bar, payload_bar]
  unfold barPay
  rw [BI.bigSep_filter_split Finset.univ (fun i : Fin 24 => fwd i = true)]
  simp only [Bool.not_eq_true]
omit [FloatOps F] in
/-- A send cell's whole round: the source. -/
theorem rest_send : bigSep ((Rd sv).duties (sendCell c i) 0 \ ∅) (fun d => (Rd sv).payload (sendCell c i) 0 d) = sendPay sv i c := by
  rw [Finset.sdiff_empty, duties_send, bigSep_singleton, payload_send]
omit [FloatOps F] in
/-- A receive cell's whole round: the landed slot. -/
theorem rest_recv : bigSep ((Rd sv).duties (recvCell c i) 0 \ ∅) (fun d => (Rd sv).payload (recvCell c i) 0 d) = recvPay sv i c := by
  rw [Finset.sdiff_empty, duties_recv, bigSep_singleton, payload_recv]

end Sched

/-! ## What is owed; the levels -/

/-- What device `c` owes once its first `n` transfers have started: the credits of the others. -/
def Oq (c : Dev nD) (n : ℕ) : CellTallies nD τ sig Unit :=
  ∑ i ∈ Finset.univ.filter (fun i : Fin 24 => n ≤ i.val), tallyAt (recvCell (nbr i c) i) () N
/-- After the first signal also a unit to the next device's barrier. -/
def O₁ (c : Dev nD) : CellTallies nD τ sig Unit := Oq c 0 + tallyAt (barCell (nxt c)) () 1
/-- At launch also a unit to each neighbour's barrier, the previous device's signalled first. -/
def O₀ (c : Dev nD) : CellTallies nD τ sig Unit := O₁ c + tallyAt (barCell (prv c)) () 1

/-- The transfers from `n` on are `n` and those after it, -/
theorem filter_step (n : Fin 24) :
    (Finset.univ.filter fun i : Fin 24 => n.val ≤ i.val) = insert n (Finset.univ.filter fun i : Fin 24 => n.val + 1 ≤ i.val) := by
  ext i; simp only [Finset.mem_filter, Finset.mem_univ, true_and, Finset.mem_insert, Fin.ext_iff]; omega
/-- which `n` is not among. -/
theorem filter_step_notMem (n : Fin 24) : n ∉ (Finset.univ.filter fun i : Fin 24 => n.val + 1 ≤ i.val) := by
  simp
/-- Starting transfer `n` pays its landing's credit. -/
theorem Oq_step (c : Dev nD) (n : Fin 24) : Oq c n.val = Oq c (n.val + 1) + tallyAt (recvCell (nbr n c) n) () N := by
  unfold Oq; rw [filter_step, Finset.sum_insert (filter_step_notMem n), add_comm]
/-- After the last transfer nothing is owed. -/
theorem Oq_last (c : Dev nD) : Oq c 24 = 0 := by
  unfold Oq; rw [Finset.filter_false_of_mem (fun i _ => by omega), Finset.sum_empty]

/-- Every cell of a device's own thread has one level. -/
def L (g : GSem nD τ sig) : Finset Unit := if g.1.2 = .tc then {()} else ∅
/-- A receive cell's level grows with its transfer's number, the barrier's is below them, all else at the bottom. -/
def lv (g : GSem nD τ sig) (_ : Unit) : ℕ := match g.2 with
  | .reg _ => 1
  | .dma s => if 29 ≤ s.val then (dec (s.val - 29)).val + 2 else 0

/-- Other threads' cells have none, -/
theorem L_of_ne (g : GSem nD τ sig) (h : g.1.2 ≠ .tc) : L g = ∅ := if_neg h
/-- a device's own have theirs. -/
theorem L_tc (c : Dev nD) (sm : SemLoc sig) : L ((c : Thread nD τ), sm) = {()} := if_pos rfl
/-- A receive cell's level, -/
theorem lv_recv (c : Dev nD) (i : Fin 24) (u : Unit) : lv (recvCell c i) u = i.val + 2 := by
  dsimp only [lv]; rw [if_pos (rS_ge i), dec_rS]
/-- a send cell's, -/
theorem lv_send (c : Dev nD) (i : Fin 24) (u : Unit) : lv (sendCell c i) u = 0 := by
  dsimp only [lv]; rw [if_neg (by have := sS_lt i; omega)]
/-- the barrier's, -/
theorem lv_bar (c : Dev nD) (u : Unit) : lv (barCell c) u = 1 := rfl
/-- and those of the pipeline's semaphores. -/
theorem lv_low (c : Dev nD) (s : DmaSem sig) (h : s.val < 29) (u : Unit) : lv ((c : Thread nD τ), .dma s) u = 0 := by
  dsimp only [lv]; rw [if_neg (by omega)]

/-- What is owed is owed to a receive cell of a transfer not yet started. -/
theorem Oq_pos {c : Dev nD} {n : ℕ} {g : GSem nD τ sig} {u : Unit} (h : 0 < Oq c n g u) :
    ∃ i : Fin 24, n ≤ i.val ∧ g = recvCell (nbr i c) i := by
  unfold Oq at h
  rw [Finset.sum_apply, Finsupp.finset_sum_apply] at h
  obtain ⟨i, hi, hp⟩ := Finset.exists_ne_zero_of_sum_ne_zero (Nat.pos_iff_ne_zero.mp h)
  refine ⟨i, (Finset.mem_filter.mp hi).2, ?_⟩
  rw [tallyAt_apply] at hp
  by_contra hne
  exact hp (if_neg fun h' => hne h'.1)
/-- At launch it may also be a barrier's unit. -/
theorem O₀_pos {c : Dev nD} {g : GSem nD τ sig} {u : Unit} (h : 0 < O₀ c g u) :
    (∃ i : Fin 24, g = recvCell (nbr i c) i) ∨ ∃ c', g = barCell c' := by
  unfold O₀ O₁ at h
  rw [Pi.add_apply, Finsupp.add_apply, Pi.add_apply, Finsupp.add_apply, tallyAt_apply, tallyAt_apply] at h
  by_cases h1 : g = barCell (nxt c)
  · exact .inr ⟨_, h1⟩
  by_cases h2 : g = barCell (prv c)
  · exact .inr ⟨_, h2⟩
  rw [if_neg (fun h' => h1 h'.1), if_neg (fun h' => h2 h'.1)] at h
  obtain ⟨i, -, hi⟩ := Oq_pos (c := c) (n := 0) (g := g) (u := u) (by omega)
  exact .inl ⟨i, hi⟩

omit [FloatOps F] in
/-- A wait at a cell of level at most `k + 1` while owing only transfers from `k` on. -/
theorem mayWait_of (c : Dev nD) (sm : SemLoc sig) (k n : ℕ) (hk : lv ((c : Thread nD τ), sm) () ≤ k) (hn : k < n + 2) :
    (levAts L lv : sProp 𝕄) ⊢ MayWait (c : Thread nD τ) sm () (Oq c n) :=
  MayOwe.of_cut (L := L) (lev := lv) k (fun p hp => by rw [Finset.mem_singleton.mp hp, L_tc]; exact Finset.mem_singleton_self _)
    (fun g u hg => by obtain ⟨i, -, rfl⟩ := Oq_pos hg; rw [L_tc]; exact Finset.mem_singleton_self _)
    (fun p hp => by rw [Finset.mem_singleton.mp hp]; exact hk)
    (fun g u hg => by obtain ⟨i, hi, rfl⟩ := Oq_pos hg; rw [lv_recv]; omega)
omit [FloatOps F] in
/-- A landing may be awaited while only later transfers are owed, -/
theorem mayWait_recv (c : Dev nD) (i : Fin 24) (n : ℕ) (h : i.val < n) :
    (levAts L lv : sProp 𝕄) ⊢ MayWait (c : Thread nD τ) (.dma (rS i)) () (Oq c n) :=
  mayWait_of c _ (i.val + 2) n (le_of_eq (lv_recv c i ())) (by omega)
omit [FloatOps F] in
/-- a send at any time, -/
theorem mayWait_send (c : Dev nD) (i : Fin 24) (n : ℕ) :
    (levAts L lv : sProp 𝕄) ⊢ MayWait (c : Thread nD τ) (.dma (sS i)) () (Oq c n) :=
  mayWait_of c _ 0 n (le_of_eq (lv_send c i ())) (by omega)
omit [FloatOps F] in
/-- the barrier before the first transfer, -/
theorem mayWait_bar (c : Dev nD) : (levAts L lv : sProp 𝕄) ⊢ MayWait (c : Thread nD τ) (.reg barS) () (Oq c 0) :=
  mayWait_of c _ 1 0 (le_of_eq (lv_bar c ())) (by omega)
omit [FloatOps F] in
/-- and the pipeline's own copies at launch and at the end. -/
theorem mayWait_stage (c : Dev nD) (q : DmaSem sig) (hq : q.val < 29) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨i, rfl⟩ | ⟨c', rfl⟩ <;> exact Finset.mem_singleton_self _)
      (fun p hp => by rw [Finset.mem_singleton.mp hp]; exact le_of_eq (lv_low c q hq ()))
      (fun g u hg => by
        rcases O₀_pos hg with ⟨i, rfl⟩ | ⟨c', rfl⟩
        · rw [lv_recv]; omega
        · rw [lv_bar]; omega)
  · rw [MayWait_zero]; iintro -; iempintro

end Cert.MoeProof

end
-- ==== Proof.Rules.lean ====
/-
# One rule per effect

`St` is a device's whole state between two effects of the kernel's body: its inputs, the blocks of its result and of
its expert scratch, how many transfers it has started (`n`), how many staging slots it has filled (`k`) and how many
transfers it has awaited (`j`). Each rule says what one effect makes of it.
-/
module

public import proofs.«01_k».proof.Proof.Proto
public import Idealize.ShloMosaic.Lib.Writes
public import Idealize.ShloMosaic.Lib.MemrefSat

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Blocks of the result and of the expert scratch -/

/-- A block of the result lies inside it. -/
theorem inbO (c : Dev nD) (w r : Fin 4) : ∀ a, (![512 * ((c.val + w.val) % 4), 256 * r.val] : Fin 2 → ℕ) a + S512x256.size a ≤ S2048x1024.size a := by
  revert c w r; decide
/-- Column block `r` of the row chunk `w` places after the device's own. -/
abbrev RO (c : Dev nD) (w r : Fin 4) : Rect S2048x1024 := Rect.unit (s := S2048x1024) ![512 * ((c.val + w.val) % 4), 256 * r.val] S512x256.size (inbO c w r)
/-- An expert's rows lie inside the scratch. -/
theorem inbE (j : Fin 8) : ∀ a, (![j.val, 0, 0] : Fin 3 → ℕ) a + S1x512x1024.size a ≤ S8x512x1024.size a := by
  revert j; decide
/-- The rows of expert `j` in the scratch. -/
abbrev RE (j : Fin 8) : Rect S8x512x1024 := Rect.unit (s := S8x512x1024) ![j.val, 0, 0] S1x512x1024.size (inbE j)
/-- A column block lies inside a row chunk. -/
theorem inbC (r : Fin 4) : ∀ a, (![0, 256 * r.val] : Fin 2 → ℕ) a + S512x256.size a ≤ S512x1024.size a := by
  revert r; decide
/-- Column block `r` of a row chunk. -/
abbrev RC (r : Fin 4) : Rect S512x1024 := Rect.unit (s := S512x1024) ![0, 256 * r.val] S512x256.size (inbC r)

/-- The tokens' staging buffer. -/
abbrev iM0 : Memref sig .tc .vmem S2048x512 .f32 := Memref.whole cc0_stg0_0
/-- The router's staging buffer. -/
abbrev iM1 : Memref sig .tc .vmem S512x32 .f32 := Memref.whole cc0_stg1_0
/-- The chosen experts' staging buffer. -/
abbrev iM2 : Memref sig .tc .vmem S2048x2 .i32 := Memref.whole cc0_stg2_0
/-- The experts' weights' staging buffer. -/
abbrev iM3 : Memref sig .tc .vmem S8x512x1024 .f32 := Memref.whole cc0_stg3_0
/-- The result's staging buffer. -/
abbrev oM : Memref sig .tc .vmem S2048x1024 .f32 := Memref.whole cc0_stg4_0
/-- The converted experts. -/
abbrev eM : Memref sig .tc .vmem S8x512x1024 .bf16 := Memref.whole cc0_scratch2
/-- The communication buffer. -/
abbrev cM : Memref sig .tc .vmem S4x6x512x256 .bf16 := Memref.whole cc0_scratch0
/-- The buffer the transfers send from. -/
abbrev gM : Memref sig .tc .vmem S4x4x512x256 .bf16 := Memref.whole cc0_scratch1

/-- A load through a rectangle a store's rectangle is apart from. -/
theorem read_apart {s : Shape} {e : EltTy} (b : View sig .tc .vmem s e) (r r' : Rect s) (h : Disjoint r.set r'.set) (f : b.ty.Contents (Elt F)) (w : r'.shape.Idx → Elt F e) :
    (b.slice r).read (Elt F) ((b.slice r').write (Elt F) f w Finset.univ) = (b.slice r).read (Elt F) f := by
  refine View.read_slice_write_slice_of_disjoint r r' f w _ ?_
  rw [View.set_slice, View.setOn_univ, View.set_slice]
  exact (Finset.disjoint_map b.emb).mpr h

/-- A load through the rectangle just stored. -/
theorem read_same {s : Shape} {e : EltTy} (b : View sig .tc .vmem s e) (r : Rect s) (f : b.ty.Contents (Elt F)) (w : r.shape.Idx → Elt F e) :
    (b.slice r).read (Elt F) ((b.slice r).write (Elt F) f w Finset.univ) = w := View.read_write_univ _ _
/-- A load through a rectangle inside the one just stored. -/
theorem read_inside {s : Shape} {e : EltTy} (b : View sig .tc .vmem s e) (r r' : Rect s) (g : r.shape.Idx → r'.shape.Idx) (hg : ∀ i, r.emb i = r'.emb (g i))
    (f : b.ty.Contents (Elt F)) (w : r'.shape.Idx → Elt F e) :
    (b.slice r).read (Elt F) ((b.slice r').write (Elt F) f w Finset.univ) = fun i => w (g i) := by
  funext i
  have h1 := View.read_slice_write_emb (Val := Elt F) (v := b) r' f w (Finset.mem_univ (g i))
  rw [← hg i] at h1
  exact h1

/-- Two blocks of the result have no entry in common. -/
theorem RO_disjoint (c : Dev nD) (w r w' r' : Fin 4) (h : ¬(w = w' ∧ r = r')) : Disjoint (RO c w r).set (RO c w' r').set := by
  by_cases hw : w = w'
  · have hr : r.val ≠ r'.val := fun e => h ⟨hw, Fin.ext e⟩
    exact Rect.unit_disjoint 1 (by show 256 * r.val + 256 ≤ 256 * r'.val ∨ 256 * r'.val + 256 ≤ 256 * r.val; omega)
  · have hr : w.val ≠ w'.val := fun e => hw (Fin.ext e)
    have := c.isLt
    exact Rect.unit_disjoint 0 (by
      show 512 * ((c.val + w.val) % 4) + 512 ≤ 512 * ((c.val + w'.val) % 4) ∨ 512 * ((c.val + w'.val) % 4) + 512 ≤ 512 * ((c.val + w.val) % 4)
      have := w.isLt; have := w'.isLt; omega)
/-- Two experts have no entry in common. -/
theorem RE_disjoint (j j' : Fin 8) (h : j ≠ j') : Disjoint (RE j).set (RE j').set := by
  have hr : j.val ≠ j'.val := fun e => h (Fin.ext e)
  exact Rect.unit_disjoint 0 (by show j.val + 1 ≤ j'.val ∨ j'.val + 1 ≤ j.val; omega)

/-- The blocks of a result buffer. -/
abbrev OBlk (F : FTy → Type) : Type := Fin 4 → Fin 4 → Vec F S512x256 .f32
/-- The experts of the scratch. -/
abbrev EBlk (F : FTy → Type) : Type := Fin 8 → Vec F S1x512x1024 .bf16

/-- The result's buffer, its blocks at `σ`. -/
def outP (c : Dev nD) (σ : OBlk F) : sProp 𝕄 :=
  iprop(∃ f : (cc0_stg4_0 : Ref sig .tc).ty.Contents (Elt F), ⌜∀ w r, (oM.access (RO c w r)).read (Elt F) f = σ w r⌝ ∗ (((c : Thread nD τ).loc cc0_stg4_0) ↦{fullShare} f))
/-- The scratch of experts at `σ`. -/
def ewbP (c : Dev nD) (σ : EBlk F) : sProp 𝕄 :=
  iprop(∃ f : (cc0_scratch2 : Ref sig .tc).ty.Contents (Elt F), ⌜∀ j, (eM.access (RE j)).read (Elt F) f = σ j⌝ ∗ (((c : Thread nD τ).loc cc0_scratch2) ↦{fullShare} f))

/-- One block replaced. -/
def setO (σ : OBlk F) (w r : Fin 4) (v : Vec F S512x256 .f32) : OBlk F := fun w' r' => if w' = w ∧ r' = r then v else σ w' r'
/-- A row chunk's four blocks replaced. -/
def setW (σ : OBlk F) (w : Fin 4) (v : Vec F S512x1024 .f32) : OBlk F := fun w' r' => if w' = w then (fun i => v ((RC r').emb i)) else σ w' r'
/-- One expert replaced. -/
def setE (σ : EBlk F) (j : Fin 8) (v : Vec F S1x512x1024 .bf16) : EBlk F := fun j' => if j' = j then v else σ j'

/-! ## A device's state -/

/-- The operands as each device holds them in its staging buffers. -/
structure Inp (F : FTy → Type) where
  a0 : Dev nD → (cc0_stg0_0 : Ref sig .tc).ty.Contents (Elt F)
  a1 : Dev nD → (cc0_stg1_0 : Ref sig .tc).ty.Contents (Elt F)
  a2 : Dev nD → (cc0_stg2_0 : Ref sig .tc).ty.Contents (Elt F)
  a3 : Dev nD → (cc0_stg3_0 : Ref sig .tc).ty.Contents (Elt F)

/-- The operands in their staging buffers. -/
def inP (I : Inp F) (c : Dev nD) : sProp 𝕄 :=
  iprop((((c : Thread nD τ).loc cc0_stg0_0) ↦{fullShare} I.a0 c) ∗ (((c : Thread nD τ).loc cc0_stg1_0) ↦{fullShare} I.a1 c)
    ∗ (((c : Thread nD τ).loc cc0_stg2_0) ↦{fullShare} I.a2 c) ∗ (((c : Thread nD τ).loc cc0_stg3_0) ↦{fullShare} I.a3 c))

/-- The cells' invariants and that each cell's round 0 is reached. -/
def recs (sv : Sent F) (K : Dev nD × Fin 49 → ℕ) : sProp 𝕄 :=
  iprop((bigSep Finset.univ fun ck : Dev nD × Fin 49 => cellInv ER (Rd sv) (K ck) (kcell ck))
    ∗ bigSep Finset.univ fun ck : Dev nD × Fin 49 => reached ER (kcell ck) 0)

omit [FloatOps F] in
/-- The records can be kept by everyone. -/
instance recs_persistent (sv : Sent F) (K : Dev nD × Fin 49 → ℕ) : BI.Persistent (recs sv K) := by unfold recs; infer_instance

omit [FloatOps F] in
/-- One member of a family over all. -/
theorem all_at {J : Type} [Fintype J] [DecidableEq J] (i : J) {Φ : J → sProp 𝕄} : (bigSep Finset.univ Φ : sProp 𝕄) ⊢ Φ i :=
  BI.bigSep_elim (Finset.mem_univ i)

omit [FloatOps F] in
/-- The records hold each cell's invariant, -/
theorem recs_inv (sv : Sent F) (K : Dev nD × Fin 49 → ℕ) (ck : Dev nD × Fin 49) {g} (hg : kcell ck = g) : recs sv K ⊢ cellInv ER (Rd sv) (K ck) g := by
  subst hg; unfold recs; iintro ⟨H, -⟩; iapply (all_at ck (Φ := fun ck : Dev nD × Fin 49 => cellInv ER (Rd sv) (K ck) (kcell ck))); iexact H
omit [FloatOps F] in
/-- and that its round 0 is reached. -/
theorem recs_reached (sv : Sent F) (K : Dev nD × Fin 49 → ℕ) (ck : Dev nD × Fin 49) {g} (hg : kcell ck = g) : recs sv K ⊢ reached ER g 0 := by
  subst hg; unfold recs; iintro ⟨-, H⟩; iapply (all_at ck (Φ := fun ck : Dev nD × Fin 49 => (reached ER (kcell ck) 0 : sProp 𝕄))); iexact H

/-- The barrier's cell is the first, -/
theorem kcell_bar (c : Dev nD) : kcell (c, 0) = barCell c := rfl
/-- the send cells follow, -/
theorem kcell_send (c : Dev nD) (i : Fin 24) : kcell (c, sIx i) = sendCell c i := by unfold kcell; rw [csem_send]
/-- and then the receive cells. -/
theorem kcell_recv (c : Dev nD) (i : Fin 24) : kcell (c, rIx i) = recvCell c i := by unfold kcell; rw [csem_recv]

omit [FloatOps F] in
/-- A family with one more member. -/
theorem bigSep_ins {J : Type} [DecidableEq J] {s : Finset J} {i : J} (hi : i ∉ s) (Φ : J → sProp 𝕄) :
    bigSep (insert i s) Φ = iprop(Φ i ∗ bigSep s Φ) := BI.bigSep_insert hi

/-- What transfer `i` needs beside its source: its two duties, its two cells' positions, the credit for its twin's landing. -/
def tok (c : Dev nD) (i : Fin 24) : sProp 𝕄 :=
  iprop(dutyTok ER (recvCell (nbr i c) i) 0 false ∗ dutyTok ER (sendCell c i) 0 false
    ∗ atPos ER (sendCell c i) 0 ∅ 0 ∗ atPos ER (recvCell c i) 0 ∅ 0 ∗ cred (tallyAt (recvCell c i) () N))
/-- All that is held for the transfers from number `n` on. -/
def Pend (c : Dev nD) (n : ℕ) : sProp 𝕄 :=
  iprop((∃ W : Waits sig Unit, owes (c : Thread nD τ) (Oq c n) W)
    ∗ bigSep (Finset.univ.filter fun i : Fin 24 => n ≤ i.val) fun i => iprop(tok c i ∗ ∃ X : Slot F, own5 (nbr i c) i fullShare X))
/-- The staging slots not filled yet. -/
def Stg (c : Dev nD) (k : ℕ) : sProp 𝕄 :=
  bigSep (Finset.univ.filter fun j : Fin 16 => k ≤ j.val) fun j => iprop(∃ X : Slot F, own6 c j fullShare X)
/-- What is back from the transfers awaited: the sources and the closed cells. -/
def Done (sv : Sent F) (c : Dev nD) (j : ℕ) : sProp 𝕄 :=
  bigSep (Finset.univ.filter fun i : Fin 24 => i.val < j) fun i => iprop(sendPay sv i c ∗ semVal (sendCell c i) 0 ∗ semVal (recvCell c i) 0)
/-- A transfer started and not awaited; -/
def fly (c : Dev nD) (i : Fin 24) : sProp 𝕄 :=
  iprop(atPos ER (sendCell c i) 0 ∅ 0 ∗ cred (tallyAt (sendCell c i) () N) ∗ atPos ER (recvCell c i) 0 ∅ 0 ∗ cred (tallyAt (recvCell c i) () N))
/-- one whose send is awaited. -/
def half (sv : Sent F) (c : Dev nD) (i : Fin 24) : sProp 𝕄 :=
  iprop(sendPay sv i c ∗ semVal (sendCell c i) 0 ∗ atPos ER (recvCell c i) 0 ∅ 0 ∗ cred (tallyAt (recvCell c i) () N))

variable (sv : Sent F) (I : Inp F) (K : Dev nD × Fin 49 → ℕ)

/-- The state between two operations: `n` transfers started, `k` staging slots filled, `j` transfers finished, the result at `σ` and the experts at `ε`. -/
def St (c : Dev nD) (n k j : ℕ) (σ : OBlk F) (ε : EBlk F) : sProp 𝕄 :=
  iprop(levAts L lv ∗ recs sv K ∗ inP I c ∗ outP c σ ∗ ewbP c ε ∗ Pend (F := F) c n ∗ Stg (F := F) c k ∗ Done sv c j)

omit [FloatOps F] in
/-- The next transfer's pieces taken out of what is pending. -/
theorem Pend_step (c : Dev nD) (n : Fin 24) : (Pend (F := F) c n.val : sProp 𝕄) ⊢
    iprop((∃ W : Waits sig Unit, owes (c : Thread nD τ) (Oq c (n.val + 1) + tallyAt (recvCell (nbr n c) n) () N) W) ∗ tok (F := F) c n ∗ (∃ X : Slot F, own5 (nbr n c) n fullShare X)
      ∗ bigSep (Finset.univ.filter fun i : Fin 24 => n.val + 1 ≤ i.val) fun i => iprop(tok c i ∗ ∃ X : Slot F, own5 (nbr i c) i fullShare X)) := by
  unfold Pend
  rw [filter_step n, bigSep_ins (filter_step_notMem n), Oq_step]
  iintro ⟨H1, ⟨H2, H3⟩, H4⟩
  isplitl [H1]; · iexact H1
  isplitl [H2]; · iexact H2
  isplitl [H3] <;> iassumption

omit [FloatOps F] in
/-- A finished transfer joined to those before it. -/
theorem Done_step (c : Dev nD) (j : Fin 24) :
    iprop(Done sv c j.val ∗ sendPay sv j c ∗ semVal (sendCell c j) 0 ∗ semVal (recvCell c j) 0) ⊢ (Done sv c (j.val + 1) : sProp 𝕄) := by
  have e : (Finset.univ.filter fun i : Fin 24 => i.val < j.val + 1) = insert j (Finset.univ.filter fun i : Fin 24 => i.val < j.val) := by
    ext i; simp only [Finset.mem_filter, Finset.mem_univ, true_and, Finset.mem_insert, Fin.ext_iff]; omega
  unfold Done
  rw [e, bigSep_ins (by simp)]
  iintro ⟨H1, H2⟩
  isplitl [H2]; · iexact H2
  iexact H1

omit [FloatOps F] in
/-- The next staging slot taken out of those not filled. -/
theorem Stg_step (c : Dev nD) (k : Fin 16) : (Stg (F := F) c k.val : sProp 𝕄) ⊢
    iprop((∃ X : Slot F, own6 c k fullShare X) ∗ Stg (F := F) c (k.val + 1)) := by
  have e : (Finset.univ.filter fun i : Fin 16 => k.val ≤ i.val) = insert k (Finset.univ.filter fun i : Fin 16 => k.val + 1 ≤ i.val) := by
    ext i; simp only [Finset.mem_filter, Finset.mem_univ, true_and, Finset.mem_insert, Fin.ext_iff]; omega
  unfold Stg
  rw [e, bigSep_ins (by simp)]
omit [FloatOps F] in
/-- And put back. -/
theorem Stg_back (c : Dev nD) (k : Fin 16) : iprop((∃ X : Slot F, own6 c k fullShare X) ∗ Stg (F := F) c (k.val + 1)) ⊢ (Stg (F := F) c k.val : sProp 𝕄) := by
  have e : (Finset.univ.filter fun i : Fin 16 => k.val ≤ i.val) = insert k (Finset.univ.filter fun i : Fin 16 => k.val + 1 ≤ i.val) := by
    ext i; simp only [Finset.mem_filter, Finset.mem_univ, true_and, Finset.mem_insert, Fin.ext_iff]; omega
  unfold Stg
  rw [e, bigSep_ins (by simp)]

/-! ## The rules -/

/-- The body's run from here, every promise kept. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable {c : Dev nD} {n k j : ℕ} {σ : OBlk F} {ε : EBlk F} {α : Type} {Q : α → sProp (MT nD τ sig Unit (Elt F) ℕ UU ℕ)}

/-- The program's end. -/
theorem r_ret {P : sProp 𝕄} {a b : α} (h : a = b) (hQ : P ⊢ Q b) : P ⊢ WP (F := F) c (.ret a) Q := by
  subst h; unfold WP; rw [wp_ret]; iintro H; imodintro; iapply hQ; iexact H

/-- A load of each operand, at the operand's contents. -/
theorem r_ld0 {r : LoadRect S2048x512} {hl : iM0.view.LoadsAt r} {kk : (r.shape.Idx → Elt F .f32) → Prog (TpuEff nD τ sig (Elt F) Λ₀ .tc) α} :
    St sv I K c n k j σ ε ⊢ iprop((St sv I K c n k j σ ε -∗ WP c (kk (iM0.view.readAt (Elt F) r (I.a0 c))) Q)
      -∗ WP c (.op (.load iM0 r hl) kk) Q) := by
  unfold St inP
  iintro ⟨H1, H2, ⟨A0, A1, A2, A3⟩, H4⟩ Hk
  iapply (wp_load 𝒱₀ (c : Thread nD τ) none Set.univ (m := iM0) (Finset.subset_univ _)) $$ A0; iintro A0
  iapply Hk
  isplitl [H1]; · iexact H1
  isplitl [H2]; · iexact H2
  isplitr [H4]
  · isplitl [A0]; · iexact A0
    isplitl [A1]; · iexact A1
    isplitl [A2] <;> iassumption
  iexact H4
/-- Of the router, -/
theorem r_ld1 {r : LoadRect S512x32} {hl : iM1.view.LoadsAt r} {kk : (r.shape.Idx → Elt F .f32) → Prog (TpuEff nD τ sig (Elt F) Λ₀ .tc) α} :
    St sv I K c n k j σ ε ⊢ iprop((St sv I K c n k j σ ε -∗ WP c (kk (iM1.view.readAt (Elt F) r (I.a1 c))) Q)
      -∗ WP c (.op (.load iM1 r hl) kk) Q) := by
  unfold St inP
  iintro ⟨H1, H2, ⟨A0, A1, A2, A3⟩, H4⟩ Hk
  iapply (wp_load 𝒱₀ (c : Thread nD τ) none Set.univ (m := iM1) (Finset.subset_univ _)) $$ A1; iintro A1
  iapply Hk
  isplitl [H1]; · iexact H1
  isplitl [H2]; · iexact H2
  isplitr [H4]
  · isplitl [A0]; · iexact A0
    isplitl [A1]; · iexact A1
    isplitl [A2] <;> iassumption
  iexact H4
/-- of the chosen experts, -/
theorem r_ld2 {r : LoadRect S2048x2} {hl : iM2.view.LoadsAt r} {kk : (r.shape.Idx → Elt F .i32) → Prog (TpuEff nD τ sig (Elt F) Λ₀ .tc) α} :
    St sv I K c n k j σ ε ⊢ iprop((St sv I K c n k j σ ε -∗ WP c (kk (iM2.view.readAt (Elt F) r (I.a2 c))) Q)
      -∗ WP c (.op (.load iM2 r hl) kk) Q) := by
  unfold St inP
  iintro ⟨H1, H2, ⟨A0, A1, A2, A3⟩, H4⟩ Hk
  iapply (wp_load 𝒱₀ (c : Thread nD τ) none Set.univ (m := iM2) (Finset.subset_univ _)) $$ A2; iintro A2
  iapply Hk
  isplitl [H1]; · iexact H1
  isplitl [H2]; · iexact H2
  isplitr [H4]
  · isplitl [A0]; · iexact A0
    isplitl [A1]; · iexact A1
    isplitl [A2] <;> iassumption
  iexact H4
/-- of the experts' weights. -/
theorem r_ld3 {r : LoadRect S8x512x1024} {hl : iM3.view.LoadsAt r} {kk : (r.shape.Idx → Elt F .f32) → Prog (TpuEff nD τ sig (Elt F) Λ₀ .tc) α} :
    St sv I K c n k j σ ε ⊢ iprop((St sv I K c n k j σ ε -∗ WP c (kk (iM3.view.readAt (Elt F) r (I.a3 c))) Q)
      -∗ WP c (.op (.load iM3 r hl) kk) Q) := by
  unfold St inP
  iintro ⟨H1, H2, ⟨A0, A1, A2, A3⟩, H4⟩ Hk
  iapply (wp_load 𝒱₀ (c : Thread nD τ) none Set.univ (m := iM3) (Finset.subset_univ _)) $$ A3; iintro A3
  iapply Hk
  isplitl [H1]; · iexact H1
  isplitl [H2]; · iexact H2
  isplitr [H4]
  · isplitl [A0]; · iexact A0
    isplitl [A1]; · iexact A1
    isplitl [A2] <;> iassumption
  iexact H4

/-- A load of the result buffer whose value the program drops; -/
theorem r_ldO_any {r : LoadRect S2048x1024} {hl : oM.view.LoadsAt r} {kk : (r.shape.Idx → Elt F .f32) → Prog (TpuEff nD τ sig (Elt F) Λ₀ .tc) α} :
    St sv I K c n k j σ ε ⊢ iprop((∀ v, St sv I K c n k j σ ε -∗ WP c (kk v) Q) -∗ WP c (.op (.load oM r hl) kk) Q) := by
  unfold St outP
  iintro ⟨H1, H2, H3, ⟨%f, %hf, A⟩, H4⟩ Hk
  iapply (wp_load 𝒱₀ (c : Thread nD τ) none Set.univ (m := oM) (Finset.subset_univ _)) $$ A; iintro A
  iapply Hk
  isplitl [H1]; · iexact H1
  isplitl [H2]; · iexact H2
  isplitl [H3]; · iexact H3
  isplitl [A]
  · iexists f; isplitr; · ipureintro; exact hf
    iexact A
  iexact H4
/-- of the expert scratch likewise; -/
theorem r_ldE_any {r : LoadRect S8x512x1024} {hl : eM.view.LoadsAt r} {kk : (r.shape.Idx → Elt F .bf16) → Prog (TpuEff nD τ sig (Elt F) Λ₀ .tc) α} :
    St sv I K c n k j σ ε ⊢ iprop((∀ v, St sv I K c n k j σ ε -∗ WP c (kk v) Q) -∗ WP c (.op (.load eM r hl) kk) Q) := by
  unfold St ewbP
  iintro ⟨H1, H2, H3, H5, ⟨%f, %hf, A⟩, H4⟩ Hk
  iapply (wp_load 𝒱₀ (c : Thread nD τ) none Set.univ (m := eM) (Finset.subset_univ _)) $$ A; iintro A
  iapply Hk
  isplitl [H1]; · iexact H1
  isplitl [H2]; · iexact H2
  isplitl [H3]; · iexact H3
  isplitl [H5]; · iexact H5
  isplitl [A]
  · iexists f; isplitr; · ipureintro; exact hf
    iexact A
  iexact H4
/-- of a block of the result, at the block's value; -/
theorem r_ldO (w r : Fin 4) (o : Fin 2 → ℕ) (ho : o = ![512 * ((c.val + w.val) % 4), 256 * r.val]) (v : Vec F S512x256 .f32) (hv : σ w r = v) {h}
    {hl : oM.view.LoadsAt (Rect.unit (s := S2048x1024) o S512x256.size h).toLoadRect}
    {kk : Vec F S512x256 .f32 → Prog (TpuEff nD τ sig (Elt F) Λ₀ .tc) α} :
    St sv I K c n k j σ ε ⊢ iprop((St sv I K c n k j σ ε -∗ WP c (kk v) Q)
      -∗ WP c (.op (.load oM (Rect.unit (s := S2048x1024) o S512x256.size h).toLoadRect hl) kk) Q) := by
  subst ho hv
  unfold St outP
  iintro ⟨H1, H2, H3, ⟨%f, %hf, A⟩, H4⟩ Hk
  iapply (wp_load 𝒱₀ (c : Thread nD τ) none Set.univ (m := oM) (Finset.subset_univ _)) $$ A; iintro A
  rw [← hf w r]
  iapply Hk
  isplitl [H1]; · iexact H1
  isplitl [H2]; · iexact H2
  isplitl [H3]; · iexact H3
  isplitl [A]
  · iexists f; isplitr; · ipureintro; exact hf
    iexact A
  iexact H4
/-- of an expert, at its value. -/
theorem r_ldE (e : Fin 8) (o : Fin 3 → ℕ) (ho : o = ![e.val, 0, 0]) (v : Vec F S1x512x1024 .bf16) (hv : ε e = v) {h}
    {hl : eM.view.LoadsAt (Rect.unit (s := S8x512x1024) o S1x512x1024.size h).toLoadRect}
    {kk : Vec F S1x512x1024 .bf16 → Prog (TpuEff nD τ sig (Elt F) Λ₀ .tc) α} :
    St sv I K c n k j σ ε ⊢ iprop((St sv I K c n k j σ ε -∗ WP c (kk v) Q)
      -∗ WP c (.op (.load eM (Rect.unit (s := S8x512x1024) o S1x512x1024.size h).toLoadRect hl) kk) Q) := by
  subst ho hv
  unfold St ewbP
  iintro ⟨H1, H2, H3, H5, ⟨%f, %hf, A⟩, H4⟩ Hk
  iapply (wp_load 𝒱₀ (c : Thread nD τ) none Set.univ (m := eM) (Finset.subset_univ _)) $$ A; iintro A
  rw [← hf e]
  iapply Hk
  isplitl [H1]; · iexact H1
  isplitl [H2]; · iexact H2
  isplitl [H3]; · iexact H3
  isplitl [H5]; · iexact H5
  isplitl [A]
  · iexists f; isplitr; · ipureintro; exact hf
    iexact A
  iexact H4

/-- A store of a block of the result; -/
theorem r_stO (w r : Fin 4) (o : Fin 2 → ℕ) (ho : o = ![512 * ((c.val + w.val) % 4), 256 * r.val]) (v : Vec F S512x256 .f32) {h}
    {vv : (Rect.unit (s := S2048x1024) o S512x256.size h).shape.Idx → Elt F .f32} (hv : vv = v) (σ' : OBlk F) (hσ : setO σ w r v = σ')
    {hx : (oM.access (Rect.unit (s := S2048x1024) o S512x256.size h)).Stores Finset.univ} {hm}
    {kk : PUnit → Prog (TpuEff nD τ sig (Elt F) Λ₀ .tc) α} :
    St sv I K c n k j σ ε ⊢ iprop((St sv I K c n k j σ' ε -∗ WP c (kk ⟨⟩) Q)
      -∗ WP c (.op (.store oM (Rect.unit (s := S2048x1024) o S512x256.size h) vv Finset.univ hx hm) kk) Q) := by
  subst ho hv hσ
  unfold St outP
  iintro ⟨H1, H2, H3, ⟨%f, %hf, A⟩, H4⟩ Hk
  iapply (wp_store 𝒱₀ (c : Thread nD τ) none Set.univ (m := oM) (r := RO c w r) (Mk := Finset.univ) (Finset.subset_univ _)) $$ A; iintro A
  iapply Hk
  isplitl [H1]; · iexact H1
  isplitl [H2]; · iexact H2
  isplitl [H3]; · iexact H3
  isplitl [A]
  · iexists ((oM.access (RO c w r)).write (Elt F) f vv Finset.univ)
    isplitr
    · ipureintro
      intro w' r'
      unfold setO
      split
      · rename_i e; obtain ⟨rfl, rfl⟩ := e; exact read_same oM.view (RO c w' r') f vv
      · rename_i e
        rw [← hf w' r']
        exact read_apart oM.view (RO c w' r') (RO c w r) (RO_disjoint c w' r' w r e) f vv
    iexact A
  iexact H4
/-- of a row chunk; -/
theorem r_stW (w : Fin 4) (o : Fin 2 → ℕ) (ho : o = ![512 * ((c.val + w.val) % 4), 0]) (v : Vec F S512x1024 .f32) {h}
    {vv : (Rect.unit (s := S2048x1024) o S512x1024.size h).shape.Idx → Elt F .f32} (hv : vv = v) (σ' : OBlk F) (hσ : setW σ w v = σ')
    {hx : (oM.access (Rect.unit (s := S2048x1024) o S512x1024.size h)).Stores Finset.univ} {hm}
    {kk : PUnit → Prog (TpuEff nD τ sig (Elt F) Λ₀ .tc) α} :
    St sv I K c n k j σ ε ⊢ iprop((St sv I K c n k j σ' ε -∗ WP c (kk ⟨⟩) Q)
      -∗ WP c (.op (.store oM (Rect.unit (s := S2048x1024) o S512x1024.size h) vv Finset.univ hx hm) kk) Q) := by
  subst ho hv hσ
  unfold St outP
  iintro ⟨H1, H2, H3, ⟨%f, %hf, A⟩, H4⟩ Hk
  iapply (wp_store 𝒱₀ (c : Thread nD τ) none Set.univ (m := oM) (r := Rect.unit (s := S2048x1024) ![512 * ((c.val + w.val) % 4), 0] S512x1024.size h)
    (Mk := Finset.univ) (Finset.subset_univ _)) $$ A; iintro A
  iapply Hk
  isplitl [H1]; · iexact H1
  isplitl [H2]; · iexact H2
  isplitl [H3]; · iexact H3
  isplitl [A]
  · iexists ((oM.access (Rect.unit (s := S2048x1024) ![512 * ((c.val + w.val) % 4), 0] S512x1024.size h)).write (Elt F) f vv Finset.univ)
    isplitr
    · ipureintro
      intro w' r'
      unfold setW
      split
      · rename_i e; subst e
        refine read_inside oM.view (RO c w' r') (Rect.unit (s := S2048x1024) ![512 * ((c.val + w'.val) % 4), 0] S512x1024.size h) (RC r').emb (fun i => ?_) f vv
        funext a; apply Fin.ext
        refine (ValueKit.rect_emb_unit_val _ _ (inbO c w' r') i a).trans
          (Eq.trans ?_ (ValueKit.rect_emb_unit_val _ _ h ((RC r').emb i) a).symm)
        have e2 := ValueKit.rect_emb_unit_val (s := S512x1024) (![0, 256 * r'.val]) S512x256.size (inbC r') i a
        rw [show (((RC r').emb i) a).val = _ from e2]
        fin_cases a
        · show 512 * ((c.val + w'.val) % 4) + _ = 512 * ((c.val + w'.val) % 4) + (0 + _); omega
        · show 256 * r'.val + _ = 0 + (256 * r'.val + _); omega
      · rename_i e
        rw [← hf w' r']
        refine read_apart oM.view (RO c w' r') (Rect.unit (s := S2048x1024) ![512 * ((c.val + w.val) % 4), 0] S512x1024.size h) ?_ f vv
        have hr : w'.val ≠ w.val := fun e' => e (Fin.ext e')
        have := c.isLt; have := w.isLt; have := w'.isLt
        exact Rect.unit_disjoint 0 (by
          show 512 * ((c.val + w'.val) % 4) + 512 ≤ 512 * ((c.val + w.val) % 4) ∨ 512 * ((c.val + w.val) % 4) + 512 ≤ 512 * ((c.val + w'.val) % 4)
          omega)
    iexact A
  iexact H4
/-- of an expert. -/
theorem r_stE (e : Fin 8) (o : Fin 3 → ℕ) (ho : o = ![e.val, 0, 0]) (v : Vec F S1x512x1024 .bf16) {h}
    {vv : (Rect.unit (s := S8x512x1024) o S1x512x1024.size h).shape.Idx → Elt F .bf16} (hv : vv = v) (ε' : EBlk F) (hε : setE ε e v = ε')
    {hx : (eM.access (Rect.unit (s := S8x512x1024) o S1x512x1024.size h)).Stores Finset.univ} {hm}
    {kk : PUnit → Prog (TpuEff nD τ sig (Elt F) Λ₀ .tc) α} :
    St sv I K c n k j σ ε ⊢ iprop((St sv I K c n k j σ ε' -∗ WP c (kk ⟨⟩) Q)
      -∗ WP c (.op (.store eM (Rect.unit (s := S8x512x1024) o S1x512x1024.size h) vv Finset.univ hx hm) kk) Q) := by
  subst ho hv hε
  unfold St ewbP
  iintro ⟨H1, H2, H3, H5, ⟨%f, %hf, A⟩, H4⟩ Hk
  iapply (wp_store 𝒱₀ (c : Thread nD τ) none Set.univ (m := eM) (r := RE e) (Mk := Finset.univ) (Finset.subset_univ _)) $$ A; iintro A
  iapply Hk
  isplitl [H1]; · iexact H1
  isplitl [H2]; · iexact H2
  isplitl [H3]; · iexact H3
  isplitl [H5]; · iexact H5
  isplitl [A]
  · iexists ((eM.access (RE e)).write (Elt F) f vv Finset.univ)
    isplitr
    · ipureintro
      intro e'
      unfold setE
      split
      · rename_i h; subst h; exact read_same eM.view (RE e') f vv
      · rename_i h
        rw [← hf e']
        exact read_apart eM.view (RE e') (RE e) (RE_disjoint e' e h) f vv
    iexact A
  iexact H4

end Cert.MoeProof

end
-- ==== Proof.Xfer.lean ====
/-
# The rules of the slots and of the transfers
-/
module

public import proofs.«01_k».proof.Proof.Rules

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (sv : Sent F) (I : Inp F) (K : Dev nD × Fin 49 → ℕ)
variable {c : Dev nD} {n k j : ℕ} {σ : OBlk F} {ε : EBlk F} {α : Type} {Q : α → sProp (MT nD τ sig Unit (Elt F) ℕ UU ℕ)}

/-- A load of the next staging slot, its value dropped; -/
theorem r_ldG_any (s : Fin 16) (hs : k = s.val) (o : Fin 4 → ℕ) (ho : o = ![s.val % 4, s.val / 4, 0, 0]) {h}
    {hl : gM.view.LoadsAt (Rect.unit (s := S4x4x512x256) o S1x1x512x256.size h).toLoadRect}
    {kk : Slot F → Prog (TpuEff nD τ sig (Elt F) Λ₀ .tc) α} :
    St sv I K c n k j σ ε ⊢ iprop((∀ v, St sv I K c n k j σ ε -∗ WP c (kk v) Q)
      -∗ WP c (.op (.load gM (Rect.unit (s := S4x4x512x256) o S1x1x512x256.size h).toLoadRect hl) kk) Q) := by
  subst ho hs
  unfold St
  iintro ⟨H1, H2, H3, H4, H5, H6, H7, H8⟩ Hk
  ihave H7 := (Stg_step (F := F) c s) $$ H7
  icases H7 with ⟨⟨%X, HX⟩, H7⟩
  unfold own6 owns
  icases HX with ⟨%f, %hf, A⟩
  iapply (wp_load_rect 𝒱₀ (c : Thread nD τ) none Set.univ (m := gM) (r := R6 s) (S := (M6 s).view.set) (f := f) (Finset.Subset.refl _)) $$ A; iintro A
  iapply Hk
  isplitl [H1]; · iexact H1
  isplitl [H2]; · iexact H2
  isplitl [H3]; · iexact H3
  isplitl [H4]; · iexact H4
  isplitl [H5]; · iexact H5
  isplitl [H6]; · iexact H6
  isplitr [H8]
  · iapply (Stg_back (F := F) c s)
    isplitl [A]
    · iexists X; unfold own6 owns; iexists f; isplitr; · ipureintro; exact hf
      iexact A
    iexact H7
  iexact H8
/-- the store that fills it. -/
theorem r_stG (s : Fin 16) (hs : k = s.val) (o : Fin 4 → ℕ) (ho : o = ![s.val % 4, s.val / 4, 0, 0]) (v : Slot F) {h}
    {vv : (Rect.unit (s := S4x4x512x256) o S1x1x512x256.size h).shape.Idx → Elt F .bf16} (hv : vv = v) (k' : ℕ) (hk : s.val + 1 = k')
    {hx : (gM.access (Rect.unit (s := S4x4x512x256) o S1x1x512x256.size h)).Stores Finset.univ} {hm}
    {kk : PUnit → Prog (TpuEff nD τ sig (Elt F) Λ₀ .tc) α} :
    St sv I K c n k j σ ε ⊢ iprop((St sv I K c n k' j σ ε -∗ own6 c s fullShare v -∗ WP c (kk ⟨⟩) Q)
      -∗ WP c (.op (.store gM (Rect.unit (s := S4x4x512x256) o S1x1x512x256.size h) vv Finset.univ hx hm) kk) Q) := by
  subst ho hv hs hk
  unfold St
  iintro ⟨H1, H2, H3, H4, H5, H6, H7, H8⟩ Hk
  ihave H7 := (Stg_step (F := F) c s) $$ H7
  icases H7 with ⟨⟨%X, HX⟩, H7⟩
  unfold own6 owns
  icases HX with ⟨%f, %hf, A⟩
  iapply (wp_store 𝒱₀ (c : Thread nD τ) none Set.univ (m := gM) (r := R6 s) (Mk := Finset.univ) (S := (M6 s).view.set) (f := f)
    (by rw [View.setOn_univ])) $$ A; iintro A
  iapply Hk $$ [H1 H2 H3 H4 H5 H6 H7 H8]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iexists ((gM.access (R6 s)).write (Elt F) f vv Finset.univ)
  isplitr; · ipureintro; exact read_same gM.view (R6 s) f vv
  iexact A

/-- A load of a landed slot. -/
theorem r_ldC (i : Fin 24) (q : PosShare TreeShare) (X : Slot F) (o : Fin 4 → ℕ) (ho : o = ![i.val % 4, i.val / 4, 0, 0]) {h}
    {hl : cM.view.LoadsAt (Rect.unit (s := S4x6x512x256) o S1x1x512x256.size h).toLoadRect}
    {kk : Slot F → Prog (TpuEff nD τ sig (Elt F) Λ₀ .tc) α} :
    own5 c i q X ⊢ iprop((own5 c i q X -∗ WP c (kk X) Q)
      -∗ WP c (.op (.load cM (Rect.unit (s := S4x6x512x256) o S1x1x512x256.size h).toLoadRect hl) kk) Q) := by
  subst ho
  unfold own5 owns
  iintro ⟨%f, %hf, A⟩ Hk
  iapply (wp_load_rect 𝒱₀ (c : Thread nD τ) none Set.univ (m := cM) (r := R5 i) (S := (M5 i).view.set) (f := f) (Finset.Subset.refl _)) $$ A; iintro A
  rw [show (cM.access (R5 i)).read (Elt F) f = X from hf]
  iapply Hk
  iexists f; isplitr; · ipureintro; exact hf
  iexact A

omit [FloatOps F] in
/-- A slot's elements are those of its squeezed view. -/
theorem pts_squeeze (m : Memref sig .tc .vmem S1x1x512x256 .bf16) (t : Dev nD) (q : PosShare TreeShare) (f : Buf (Elt F) (m.view.loc (t : Thread nD τ))) :
    (m.view.loc (t : Thread nD τ) ↦[m.view.set]{q} f : sProp 𝕄)
      = ((m.squeeze S512x256 squeezes_S1x1x512x256_S512x256).view.loc (t : Thread nD τ) ↦[(m.squeeze S512x256 squeezes_S1x1x512x256_S512x256).view.set]{q} f) := by
  have e : (m.squeeze S512x256 squeezes_S1x1x512x256_S512x256).view.set = m.view.set := View.set_reshape m.view _
  exact congrArg (fun S => (m.view.loc (t : Thread nD τ) ↦[S]{q} f : sProp 𝕄)) e.symm

omit [FloatOps F] in
/-- A slot holds what a squeezed view of another wrote into its squeezed view. -/
theorem read_squeeze (m m' : Memref sig .tc .vmem S1x1x512x256 .bf16) (f : m.view.ty.Contents (Elt F)) (f' : m'.view.ty.Contents (Elt F)) :
    m'.view.read (Elt F) ((m'.squeeze S512x256 squeezes_S1x1x512x256_S512x256).view.write (Elt F) f'
      ((m.squeeze S512x256 squeezes_S1x1x512x256_S512x256).view.read (Elt F) f) Finset.univ) = m.view.read (Elt F) f := by
  have e := View.write_reshape_univ (Val := Elt F) (v := m'.view) (squeezes_S1x1x512x256_S512x256).numel_eq f'
    ((m.squeeze S512x256 squeezes_S1x1x512x256_S512x256).view.read (Elt F) f)
  refine (congrArg (m'.view.read (Elt F)) e).trans ?_
  rw [View.read_write_univ]
  funext x
  show m.view.read (Elt F) f _ = _
  congr 1
  exact Equiv.apply_symm_apply _ _

/-- Transfer `i` starts, from any memref its source assertion covers. -/
theorem r_send (i : Fin 24) (hi : n = i.val) (src : Memref sig .tc .vmem S1x1x512x256 .bf16) (q : PosShare TreeShare)
    (hsrcP : owns (c : Thread nD τ) src q (sv i c) ⊢ (sendPay sv i c : sProp 𝕄))
    (d : Dev nD) (hd : d = nbr i c) (s : Memref sig .tc .vmem S512x256 .bf16) (hs : s = src.squeeze S512x256 squeezes_S1x1x512x256_S512x256)
    (t : Memref sig .tc .vmem S512x256 .bf16) (ht : t = (M5 i).squeeze S512x256 squeezes_S1x1x512x256_S512x256)
    (s1 s2 : DmaSem sig) (h1 : s1 = sS i) (h2 : s2 = rS i)
    (n' : ℕ) (hn' : i.val + 1 = n')
    {hsc : (show Memref sig (Dev.tc d : Thread nD τ).2.kind .vmem S512x256 .bf16 from t).view.ref.isScScratch = false} {hsrc : s.view.WordExact} {hdst : t.view.WordExact}
    {hsem : DmaTarget.Typed .vmem (.dma s2) (.remote (Dev.tc d : Thread nD τ) t (.dma s1) hsc)}
    {kk : PUnit → Prog (TpuEff nD τ sig (Elt F) Λ₀ .tc) α} :
    iprop(St sv I K c n k j σ ε ∗ owns (c : Thread nD τ) src q (sv i c)) ⊢ iprop((St sv I K c n' k j σ ε -∗ fly (F := F) c i -∗ WP c (kk ⟨⟩) Q)
      -∗ WP c (.op (.enqueueDma s (.remote (Dev.tc d : Thread nD τ) t (.dma s1) hsc) (.dma s2) hsrc hdst hsem) kk) Q) := by
  subst hi hd hs ht h1 h2 hn'
  unfold St
  iintro ⟨⟨H1, #H2, H3, H4, H5, H6, H7, H8⟩, Hs⟩ Hk
  ihave H6 := (Pend_step (F := F) c i) $$ H6
  unfold tok
  icases H6 with ⟨⟨%W, HO⟩, ⟨T1, T2, T3, T4, T5⟩, ⟨%X, HX⟩, H6⟩
  unfold own5 owns
  icases HX with ⟨%fd, %hfd, HX⟩
  icases Hs with ⟨%fs, %hfs, Hs⟩
  iapply (Rounds.wp_send_pointsTo 𝒱₀ ER (Rd sv) (c : Thread nD τ) none (κ₁ := K (c, sIx i)) (κ₂ := K (nbr i c, rIx i))
    (r₁ := 0) (r₂ := 0) (d₁ := false) (d₂ := false) (c' := (nbr i c : Thread nD τ)) (src := src.squeeze S512x256 squeezes_S1x1x512x256_S512x256) (dst := (M5 i).squeeze S512x256 squeezes_S1x1x512x256_S512x256) (q := q) (fs := fs) (fd := fd)
    (by rw [duties_send]; exact Finset.mem_singleton_self _) (by rw [duties_recv]; exact Finset.mem_singleton_self _)
    () () N rfl (amount_send sv c i false) (amount_recv sv (nbr i c) i false) (Oq c (i.val + 1)) rfl (W := W)
    (by
      rw [payload_send]
      refine BI.Entails.trans ?_ hsrcP
      refine (Entails.of_eq (pts_squeeze (F := F) src c q fs).symm).trans ?_
      unfold owns
      iintro H; iexists fs; isplitr; · ipureintro; exact hfs
      iexact H)
    (by
      rw [payload_recv]
      refine (Entails.of_eq (pts_squeeze (F := F) (M5 i) (nbr i c) fullShare _).symm).trans ?_
      unfold recvPay own5 owns
      rw [sndr_nbr]
      iintro H
      iexists _
      isplitr
      rotate_left
      · iexact H
      ipureintro
      exact (read_squeeze (F := F) src (M5 i) fs fd).trans hfs)) $$ [HO T1 T2 Hs HX]
  · isplitr; · iapply (recs_inv sv K (c, sIx i) (kcell_send c i)); iexact H2
    isplitr; · iapply (recs_inv sv K (nbr i c, rIx i) (kcell_recv (nbr i c) i)); iexact H2
    isplitl [Hs]; · iapply (Entails.of_eq (pts_squeeze (F := F) src c q fs)); iexact Hs
    isplitl [HX]; · iapply (Entails.of_eq (pts_squeeze (F := F) (M5 i) (nbr i c) fullShare fd)); iexact HX
    isplitl [HO]; · iexact HO
    isplitl [T2]; · iexact T2
    isplitr; · iapply (recs_reached sv K (c, sIx i) (kcell_send c i)); iexact H2
    isplitl [T1]; · iexact T1
    iapply (recs_reached sv K (nbr i c, rIx i) (kcell_recv (nbr i c) i)); iexact H2
  iintro ⟨HcS, HO⟩
  iapply Hk $$ [H1 H3 H4 H5 H6 H7 H8 HO]
  · isplitl [H1]; · iexact H1
    isplitr; · iexact H2
    isplitl [H3]; · iexact H3
    isplitl [H4]; · iexact H4
    isplitl [H5]; · iexact H5
    isplitl [H6 HO]
    · unfold Pend; isplitl [HO]; · iexists W; iexact HO
      iexact H6
    isplitl [H7]; · iexact H7
    iexact H8
  unfold fly
  isplitl [T3]; · iexact T3
  isplitl [HcS]; · iexact HcS
  isplitl [T4] <;> iassumption

/-- from a staging slot; -/
theorem r_sendG (i : Fin 24) (hi : n = i.val) (h16 : i.val < 16) (p : Fin 16) (hp : p = ⟨i.val, h16⟩) (v : Slot F) (hv : v = sv i c)
    (d : Dev nD) (hd : d = nbr i c) (s : Memref sig .tc .vmem S512x256 .bf16) (hs : s = (M6 ⟨i.val, h16⟩).squeeze S512x256 squeezes_S1x1x512x256_S512x256)
    (t : Memref sig .tc .vmem S512x256 .bf16) (ht : t = (M5 i).squeeze S512x256 squeezes_S1x1x512x256_S512x256)
    (s1 s2 : DmaSem sig) (h1 : s1 = sS i) (h2 : s2 = rS i)
    (n' : ℕ) (hn' : i.val + 1 = n')
    {hsc : (show Memref sig (Dev.tc d : Thread nD τ).2.kind .vmem S512x256 .bf16 from t).view.ref.isScScratch = false} {hsrc : s.view.WordExact} {hdst : t.view.WordExact}
    {hsem : DmaTarget.Typed .vmem (.dma s2) (.remote (Dev.tc d : Thread nD τ) t (.dma s1) hsc)}
    {kk : PUnit → Prog (TpuEff nD τ sig (Elt F) Λ₀ .tc) α} :
    iprop(St sv I K c n k j σ ε ∗ own6 c p fullShare v) ⊢ iprop((St sv I K c n' k j σ ε -∗ fly (F := F) c i -∗ WP c (kk ⟨⟩) Q)
      -∗ WP c (.op (.enqueueDma s (.remote (Dev.tc d : Thread nD τ) t (.dma s1) hsc) (.dma s2) hsrc hdst hsem) kk) Q) := by
  subst hv hp
  exact r_send sv I K i hi (M6 ⟨i.val, h16⟩) fullShare (by unfold sendPay; rw [dif_pos h16]) d hd s hs t ht s1 s2 h1 h2 n' hn'

/-- from half of a landed slot. -/
theorem r_sendC (i i' : Fin 24) (hi : n = i.val) (h16 : ¬ i.val < 16) (hi' : i' = ⟨i.val - 4, by omega⟩) (v : Slot F) (hv : v = sv i c)
    (d : Dev nD) (hd : d = nbr i c) (s : Memref sig .tc .vmem S512x256 .bf16) (hs : s = (M5 i').squeeze S512x256 squeezes_S1x1x512x256_S512x256)
    (t : Memref sig .tc .vmem S512x256 .bf16) (ht : t = (M5 i).squeeze S512x256 squeezes_S1x1x512x256_S512x256)
    (s1 s2 : DmaSem sig) (h1 : s1 = sS i) (h2 : s2 = rS i)
    (n' : ℕ) (hn' : i.val + 1 = n')
    {hsc : (show Memref sig (Dev.tc d : Thread nD τ).2.kind .vmem S512x256 .bf16 from t).view.ref.isScScratch = false} {hsrc : s.view.WordExact} {hdst : t.view.WordExact}
    {hsem : DmaTarget.Typed .vmem (.dma s2) (.remote (Dev.tc d : Thread nD τ) t (.dma s1) hsc)}
    {kk : PUnit → Prog (TpuEff nD τ sig (Elt F) Λ₀ .tc) α} :
    iprop(St sv I K c n k j σ ε ∗ own5 c i' fullShare v) ⊢ iprop((St sv I K c n' k j σ ε -∗ fly (F := F) c i -∗ own5 c i' fullShare.right v -∗ WP c (kk ⟨⟩) Q)
      -∗ WP c (.op (.enqueueDma s (.remote (Dev.tc d : Thread nD τ) t (.dma s1) hsc) (.dma s2) hsrc hdst hsem) kk) Q) := by
  subst hv
  iintro ⟨HS, HC⟩ Hk
  ihave HC := (owns_halves (c : Thread nD τ) (M5 i') fullShare (sv i c)).1 $$ HC
  icases HC with ⟨HL, HR⟩
  iapply (r_send sv I K i hi (M5 i') fullShare.left (by subst hi'; unfold sendPay; rw [dif_neg h16]) d hd s hs t ht s1 s2 h1 h2 n' hn') $$ [HS HL]
  · isplitl [HS] <;> iassumption
  iintro HS HF
  iapply Hk $$ HS HF HR

/-- The wait on a started transfer's send cell: its source is back, -/
theorem r_waitS (i : Fin 24) (s1 : DmaSem sig) (h1 : s1 = sS i)
    (s : Memref sig .tc .vmem S512x256 .bf16) (t : Memref sig .tc .vmem S512x256 .bf16) (ht : t.view.dmaCredit = N) {h1' h2'}
    {kk : PUnit → Prog (TpuEff nD τ sig (Elt F) Λ₀ .tc) α} :
    iprop(St sv I K c n k j σ ε ∗ fly (F := F) c i) ⊢ iprop((St sv I K c n k j σ ε -∗ half sv c i -∗ WP c (kk ⟨⟩) Q)
      -∗ WP c (.op (.waitDma2 (p := .tc) s1 s t h1' h2') kk) Q) := by
  subst h1
  unfold St fly Pend
  iintro ⟨⟨#H1, #H2, H3, H4, H5, ⟨⟨%W, HO⟩, H6⟩, H7, H8⟩, T3, HcS, T4, T5⟩ Hk
  iapply (Rounds.wp_wait_rest_token 𝒱₀ ER (Rd sv) (c : Thread nD τ) none (κ := K (c, sIx i)) (k' := N)
    (fun KK => (wpE_waitDma2_eq 𝒱₀ (c : Thread nD τ) none Set.univ KK).trans (by rw [ht])) (Set.mem_univ _) () (O := Oq c n) (W := W) (R := 0) (m := 0) (T := ∅)
    (by rw [Nat.zero_add, expect_send])) $$ [HcS HO T3]
  · isplitr; · iapply (recs_inv sv K (c, sIx i) (kcell_send c i)); iexact H2
    isplitl [HcS]; · iexact HcS
    isplitl [HO]; · iexact HO
    isplitr; · iapply (mayWait_send c i n); iexact H1
    iexact T3
  iintro ⟨HO, T3, -, Hpay⟩
  ihave Hpay := (Entails.of_eq (rest_send sv c i)) $$ Hpay
  imod (Rounds.cell_close ER (Rd sv) (Set.mem_univ (K (c, sIx i))) (fun h => h) (R := 0 + 1) (duties_later sv (sendCell c i))) $$ [T3] with HzS
  · isplitr; · iapply (recs_inv sv K (c, sIx i) (kcell_send c i)); iexact H2
    iexact T3
  iapply Hk $$ [H3 H4 H5 H6 H7 H8 HO]
  · isplitr; · iexact H1
    isplitr; · iexact H2
    isplitl [H3]; · iexact H3
    isplitl [H4]; · iexact H4
    isplitl [H5]; · iexact H5
    isplitl [H6 HO]
    · isplitl [HO]; · iexists _; iexact HO
      iexact H6
    isplitl [H7]; · iexact H7
    iexact H8
  unfold half
  isplitl [Hpay]; · iexact Hpay
  isplitl [HzS]; · iexact HzS
  isplitl [T4] <;> iassumption

/-- then on its receive cell: the slot landed from the other side. -/
theorem r_waitR (i : Fin 24) (hj : j = i.val) (hn : i.val < n) (j' : ℕ) (hj' : i.val + 1 = j') (v : Slot F) (hv : sv i (sndr i c) = v) (s1 : DmaSem sig) (h1 : s1 = rS i)
    (s : Memref sig .tc .vmem S512x256 .bf16) (t : Memref sig .tc .vmem S512x256 .bf16) (ht : t.view.dmaCredit = N) {h1' h2'}
    {kk : PUnit → Prog (TpuEff nD τ sig (Elt F) Λ₀ .tc) α} :
    iprop(St sv I K c n k j σ ε ∗ half sv c i) ⊢ iprop((St sv I K c n k j' σ ε -∗ own5 c i fullShare v -∗ WP c (kk ⟨⟩) Q)
      -∗ WP c (.op (.waitDma2 (p := .tc) s1 s t h1' h2') kk) Q) := by
  subst h1 hj hv hj'
  unfold St half Pend
  iintro ⟨⟨#H1, #H2, H3, H4, H5, ⟨⟨%W, HO⟩, H6⟩, H7, H8⟩, Hp, HzS, T4, T5⟩ Hk
  iapply (Rounds.wp_wait_rest_token 𝒱₀ ER (Rd sv) (c : Thread nD τ) none (κ := K (c, rIx i)) (k' := N)
    (fun KK => (wpE_waitDma2_eq 𝒱₀ (c : Thread nD τ) none Set.univ KK).trans (by rw [ht])) (Set.mem_univ _) () (O := Oq c n) (W := W) (R := 0) (m := 0) (T := ∅)
    (by rw [Nat.zero_add, expect_recv])) $$ [T5 HO T4]
  · isplitr; · iapply (recs_inv sv K (c, rIx i) (kcell_recv c i)); iexact H2
    isplitl [T5]; · iexact T5
    isplitl [HO]; · iexact HO
    isplitr; · iapply (mayWait_recv c i n hn); iexact H1
    iexact T4
  iintro ⟨HO, T4, -, Hpay⟩
  ihave Hpay := (Entails.of_eq (rest_recv sv c i)) $$ Hpay
  imod (Rounds.cell_close ER (Rd sv) (Set.mem_univ (K (c, rIx i))) (fun h => h) (R := 0 + 1) (duties_later sv (recvCell c i))) $$ [T4] with HzR
  · isplitr; · iapply (recs_inv sv K (c, rIx i) (kcell_recv c i)); iexact H2
    iexact T4
  iapply Hk $$ [H3 H4 H5 H6 H7 H8 HO Hp HzS HzR]
  · isplitr; · iexact H1
    isplitr; · iexact H2
    isplitl [H3]; · iexact H3
    isplitl [H4]; · iexact H4
    isplitl [H5]; · iexact H5
    isplitl [H6 HO]
    · isplitl [HO]; · iexists _; iexact HO
      iexact H6
    isplitl [H7]; · iexact H7
    iapply (Done_step sv c i)
    isplitl [H8]; · iexact H8
    isplitl [Hp]; · iexact Hp
    isplitl [HzS] <;> iassumption
  unfold recvPay
  iexact Hpay

end Cert.MoeProof

end
-- ==== Proof.Vals.lean ====
/-
# The kernel's values, by name

Each value one part of the body hands to the next, each value stored, and what every transfer carries, as functions of
the operands the devices hold.
-/
module

public import proofs.«01_k».proof.Proof.Xfer

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Where each block lies and where each transfer goes -/

/-- Rows: the chunk 0 places after the device's own. -/
theorem off3_0 (c : Dev nD) : k0_off3 c 0#32 = ![512 * ((c.val + (0 : Fin 4).val) % 4), 0] := by revert c; decide
/-- Rows: the chunk 1 places after the device's own. -/
theorem off3_1 (c : Dev nD) : k0_off3 c 1#32 = ![512 * ((c.val + (1 : Fin 4).val) % 4), 0] := by revert c; decide
/-- Rows: the chunk 2 places after the device's own. -/
theorem off3_2 (c : Dev nD) : k0_off3 c 2#32 = ![512 * ((c.val + (2 : Fin 4).val) % 4), 0] := by revert c; decide
/-- Rows: the chunk 3 places after the device's own. -/
theorem off3_3 (c : Dev nD) : k0_off3 c 4294967295#32 = ![512 * ((c.val + (3 : Fin 4).val) % 4), 0] := by revert c; decide
/-- The block of the chunk 0 places on, in column block 0. -/
theorem off4_0 (c : Dev nD) : k0_off4 c 0#32 = ![512 * ((c.val + (0 : Fin 4).val) % 4), 256 * (0 : Fin 4).val] := by revert c; decide
/-- The block of the chunk 1 places on, in column block 0. -/
theorem off4_1 (c : Dev nD) : k0_off4 c 1#32 = ![512 * ((c.val + (1 : Fin 4).val) % 4), 256 * (0 : Fin 4).val] := by revert c; decide
/-- The block of the chunk 2 places on, in column block 0. -/
theorem off4_2 (c : Dev nD) : k0_off4 c 4294967294#32 = ![512 * ((c.val + (2 : Fin 4).val) % 4), 256 * (0 : Fin 4).val] := by revert c; decide
/-- The block of the chunk 3 places on, in column block 0. -/
theorem off4_3 (c : Dev nD) : k0_off4 c 4294967295#32 = ![512 * ((c.val + (3 : Fin 4).val) % 4), 256 * (0 : Fin 4).val] := by revert c; decide
/-- The block of the chunk 0 places on, in column block 1. -/
theorem off5_0 (c : Dev nD) : k0_off5 c 0#32 = ![512 * ((c.val + (0 : Fin 4).val) % 4), 256 * (1 : Fin 4).val] := by revert c; decide
/-- The block of the chunk 1 places on, in column block 1. -/
theorem off5_1 (c : Dev nD) : k0_off5 c 1#32 = ![512 * ((c.val + (1 : Fin 4).val) % 4), 256 * (1 : Fin 4).val] := by revert c; decide
/-- The block of the chunk 2 places on, in column block 1. -/
theorem off5_2 (c : Dev nD) : k0_off5 c 4294967294#32 = ![512 * ((c.val + (2 : Fin 4).val) % 4), 256 * (1 : Fin 4).val] := by revert c; decide
/-- The block of the chunk 3 places on, in column block 1. -/
theorem off5_3 (c : Dev nD) : k0_off5 c 4294967295#32 = ![512 * ((c.val + (3 : Fin 4).val) % 4), 256 * (1 : Fin 4).val] := by revert c; decide
/-- The block of the chunk 0 places on, in column block 2. -/
theorem off6_0 (c : Dev nD) : k0_off6 c 0#32 = ![512 * ((c.val + (0 : Fin 4).val) % 4), 256 * (2 : Fin 4).val] := by revert c; decide
/-- The block of the chunk 1 places on, in column block 2. -/
theorem off6_1 (c : Dev nD) : k0_off6 c 1#32 = ![512 * ((c.val + (1 : Fin 4).val) % 4), 256 * (2 : Fin 4).val] := by revert c; decide
/-- The block of the chunk 2 places on, in column block 2. -/
theorem off6_2 (c : Dev nD) : k0_off6 c 2#32 = ![512 * ((c.val + (2 : Fin 4).val) % 4), 256 * (2 : Fin 4).val] := by revert c; decide
/-- The block of the chunk 3 places on, in column block 2. -/
theorem off6_3 (c : Dev nD) : k0_off6 c 4294967295#32 = ![512 * ((c.val + (3 : Fin 4).val) % 4), 256 * (2 : Fin 4).val] := by revert c; decide
/-- The block of the chunk 0 places on, in column block 3. -/
theorem off7_0 (c : Dev nD) : k0_off7 c 0#32 = ![512 * ((c.val + (0 : Fin 4).val) % 4), 256 * (3 : Fin 4).val] := by revert c; decide
/-- The block of the chunk 1 places on, in column block 3. -/
theorem off7_1 (c : Dev nD) : k0_off7 c 1#32 = ![512 * ((c.val + (1 : Fin 4).val) % 4), 256 * (3 : Fin 4).val] := by revert c; decide
/-- The block of the chunk 2 places on, in column block 3. -/
theorem off7_2 (c : Dev nD) : k0_off7 c 2#32 = ![512 * ((c.val + (2 : Fin 4).val) % 4), 256 * (3 : Fin 4).val] := by revert c; decide
/-- The block of the chunk 3 places on, in column block 3. -/
theorem off7_3 (c : Dev nD) : k0_off7 c 4294967295#32 = ![512 * ((c.val + (3 : Fin 4).val) % 4), 256 * (3 : Fin 4).val] := by revert c; decide
/-- Transfer 0 goes to its neighbour. -/
theorem dev0 (c : Dev nD) : (⟨k0_dev3 c, k0_dev3_lt c⟩ : Dev nD) = nbr 0 c := by revert c; decide
/-- Transfer 1 goes to its neighbour. -/
theorem dev1 (c : Dev nD) : (⟨k0_dev4 c, k0_dev4_lt c⟩ : Dev nD) = nbr 1 c := by revert c; decide
/-- Transfer 2 goes to its neighbour. -/
theorem dev2 (c : Dev nD) : (⟨k0_dev5 c, k0_dev5_lt c⟩ : Dev nD) = nbr 2 c := by revert c; decide
/-- Transfer 3 goes to its neighbour. -/
theorem dev3 (c : Dev nD) : (⟨k0_dev6 c, k0_dev6_lt c⟩ : Dev nD) = nbr 3 c := by revert c; decide
/-- Transfer 4 goes to its neighbour. -/
theorem dev4 (c : Dev nD) : (⟨k0_dev7 c, k0_dev7_lt c⟩ : Dev nD) = nbr 4 c := by revert c; decide
/-- Transfer 5 goes to its neighbour. -/
theorem dev5 (c : Dev nD) : (⟨k0_dev8 c, k0_dev8_lt c⟩ : Dev nD) = nbr 5 c := by revert c; decide
/-- Transfer 6 goes to its neighbour. -/
theorem dev6 (c : Dev nD) : (⟨k0_dev9 c, k0_dev9_lt c⟩ : Dev nD) = nbr 6 c := by revert c; decide
/-- Transfer 7 goes to its neighbour. -/
theorem dev7 (c : Dev nD) : (⟨k0_dev10 c, k0_dev10_lt c⟩ : Dev nD) = nbr 7 c := by revert c; decide
/-- Transfer 8 goes to its neighbour. -/
theorem dev8 (c : Dev nD) : (⟨k0_dev11 c, k0_dev11_lt c⟩ : Dev nD) = nbr 8 c := by revert c; decide
/-- Transfer 9 goes to its neighbour. -/
theorem dev9 (c : Dev nD) : (⟨k0_dev12 c, k0_dev12_lt c⟩ : Dev nD) = nbr 9 c := by revert c; decide
/-- Transfer 10 goes to its neighbour. -/
theorem dev10 (c : Dev nD) : (⟨k0_dev13 c, k0_dev13_lt c⟩ : Dev nD) = nbr 10 c := by revert c; decide
/-- Transfer 11 goes to its neighbour. -/
theorem dev11 (c : Dev nD) : (⟨k0_dev14 c, k0_dev14_lt c⟩ : Dev nD) = nbr 11 c := by revert c; decide
/-- Transfer 12 goes to its neighbour. -/
theorem dev12 (c : Dev nD) : (⟨k0_dev15 c, k0_dev15_lt c⟩ : Dev nD) = nbr 12 c := by revert c; decide
/-- Transfer 13 goes to its neighbour. -/
theorem dev13 (c : Dev nD) : (⟨k0_dev16 c, k0_dev16_lt c⟩ : Dev nD) = nbr 13 c := by revert c; decide
/-- Transfer 14 goes to its neighbour. -/
theorem dev14 (c : Dev nD) : (⟨k0_dev17 c, k0_dev17_lt c⟩ : Dev nD) = nbr 14 c := by revert c; decide
/-- Transfer 15 goes to its neighbour. -/
theorem dev15 (c : Dev nD) : (⟨k0_dev18 c, k0_dev18_lt c⟩ : Dev nD) = nbr 15 c := by revert c; decide
/-- Transfer 16 goes to its neighbour. -/
theorem dev16 (c : Dev nD) : (⟨k0_dev19 c, k0_dev19_lt c⟩ : Dev nD) = nbr 16 c := by revert c; decide
/-- Transfer 17 goes to its neighbour. -/
theorem dev17 (c : Dev nD) : (⟨k0_dev20 c, k0_dev20_lt c⟩ : Dev nD) = nbr 17 c := by revert c; decide
/-- Transfer 18 goes to its neighbour. -/
theorem dev18 (c : Dev nD) : (⟨k0_dev21 c, k0_dev21_lt c⟩ : Dev nD) = nbr 18 c := by revert c; decide
/-- Transfer 19 goes to its neighbour. -/
theorem dev19 (c : Dev nD) : (⟨k0_dev22 c, k0_dev22_lt c⟩ : Dev nD) = nbr 19 c := by revert c; decide
/-- Transfer 20 goes to its neighbour. -/
theorem dev20 (c : Dev nD) : (⟨k0_dev23 c, k0_dev23_lt c⟩ : Dev nD) = nbr 20 c := by revert c; decide
/-- Transfer 21 goes to its neighbour. -/
theorem dev21 (c : Dev nD) : (⟨k0_dev24 c, k0_dev24_lt c⟩ : Dev nD) = nbr 21 c := by revert c; decide
/-- Transfer 22 goes to its neighbour. -/
theorem dev22 (c : Dev nD) : (⟨k0_dev25 c, k0_dev25_lt c⟩ : Dev nD) = nbr 22 c := by revert c; decide
/-- Transfer 23 goes to its neighbour. -/
theorem dev23 (c : Dev nD) : (⟨k0_dev26 c, k0_dev26_lt c⟩ : Dev nD) = nbr 23 c := by revert c; decide

/-! ## The values -/

/-- The body's value 17. -/
def wv17 (I : Inp F) (c : Dev nD) : Vec F S512x512 .f32 := iM0.view.readAt (Elt F) (Rect.unit (s := S2048x512) (k0_off1 c 0#32) S512x512.size (k0_off1_inb c 0)).toLoadRect (I.a0 c)
/-- The body's value 19. -/
def wv19 (I : Inp F) (c : Dev nD) : Vec F S512x32 .f32 := iM1.view.readAt (Elt F) (Rect.unit (s := S512x32) ![0, 0] S512x32.size inb_S512x32_S512x32_0_0).toLoadRect (I.a1 c)
/-- The body's value 0. -/
def wv0 (I : Inp F) (c : Dev nD) : BitVec 32 := Dev.word c
/-- The body's value 1. -/
def wv1 (I : Inp F) (c : Dev nD) : BitVec 32 := Scalar.divsi (wv0 I c) 1#32
/-- The body's value 2. -/
def wv2 (I : Inp F) (c : Dev nD) : BitVec 32 := Scalar.remsi (wv1 I c) 4#32
/-- The body's value 3. -/
def wv3 (I : Inp F) (c : Dev nD) : BitVec 32 := Scalar.addi (wv2 I c) 3#32
/-- The body's value 4. -/
def wv4 (I : Inp F) (c : Dev nD) : BitVec 32 := Scalar.remsi (wv3 I c) 4#32
/-- The body's value 5. -/
def wv5 (I : Inp F) (c : Dev nD) : BitVec 32 := Scalar.addi (wv2 I c) 1#32
/-- The body's value 6. -/
def wv6 (I : Inp F) (c : Dev nD) : BitVec 32 := Scalar.remsi (wv5 I c) 4#32
/-- The body's value 12. -/
def wv12 (I : Inp F) (c : Dev nD) : BitVec 32 := Scalar.addi (wv2 I c) 0#32
/-- The body's value 13. -/
def wv13 (I : Inp F) (c : Dev nD) : BitVec 32 := Scalar.addi (wv12 I c) 8#32
/-- The body's value 14. -/
def wv14 (I : Inp F) (c : Dev nD) : BitVec 32 := Scalar.remsi (wv13 I c) 4#32
/-- The body's value 15. -/
def wv15 (I : Inp F) (c : Dev nD) : BitVec 32 := Scalar.muli (wv14 I c) 512#32
/-- The body's value 18. -/
def wv18 (I : Inp F) (c : Dev nD) : FVec F S512x512 .f32 := k0_pay1 (wv17 I c)
/-- The body's value 30. -/
def wv30 (I : Inp F) (c : Dev nD) : FVec F S512x32 .f32 := k0_pay2 (wv17 I c) (wv19 I c)
/-- The body's value 32. -/
def wv32 (I : Inp F) (c : Dev nD) : Vec F S512x2 .i32 := iM2.view.readAt (Elt F) (Rect.unit (s := S2048x2) (k0_off2 c 0#32) S512x2.size (k0_off2_inb c 0)).toLoadRect (I.a2 c)
/-- The body's value 54. -/
def wv54 (I : Inp F) (c : Dev nD) : Vec F S1x512x1024 .f32 := iM3.view.readAt (Elt F) (Rect.unit (s := S8x512x1024) ![0, 0, 0] S1x512x1024.size inb_S8x512x1024_S1x512x1024_0_0_0).toLoadRect (I.a3 c)
/-- Expert 0 of the device, converted. -/
def b0 (I : Inp F) (c : Dev nD) : Vec F S1x512x1024 .bf16 := (k0_pay13 (wv54 I c))
/-- The body's value 34. -/
def wv34 (I : Inp F) (c : Dev nD) : IVec S512x1 32 := k0_pay4 (wv32 I c)
/-- The body's value 35. -/
def wv35 (I : Inp F) (c : Dev nD) : IVec S512x1 32 := k0_pay5 (wv32 I c)
/-- The body's value 50. -/
def wv50 (I : Inp F) (c : Dev nD) : FVec F S512x1 .f32 := k0_pay9 (wv30 I c) (wv32 I c)
/-- The body's value 51. -/
def wv51 (I : Inp F) (c : Dev nD) : FVec F S512x1 .f32 := k0_pay10 (wv30 I c) (wv32 I c)
/-- The body's value 52. -/
def wv52 (I : Inp F) (c : Dev nD) : FVec F S512x512 .bf16 := k0_pay11 (wv18 I c)
/-- The body's value 53. -/
def wv53 (I : Inp F) (c : Dev nD) : FVec F S512x1024 .f32 := k0_pay12 (F := F)
/-- The body's value 73. -/
def wv73 (I : Inp F) (c : Dev nD) : FVec F S512x512 .bf16 := k0_pay14 (wv2 I c) (wv18 I c) (wv30 I c) (wv32 I c)
/-- The body's value 74. -/
def wv74 (I : Inp F) (c : Dev nD) : Vec F S1x512x1024 .bf16 := b0 I c
/-- The body's value 78. -/
def wv78 (I : Inp F) (c : Dev nD) : Vec F S1x512x1024 .f32 := iM3.view.readAt (Elt F) (Rect.unit (s := S8x512x1024) ![1, 0, 0] S1x512x1024.size inb_S8x512x1024_S1x512x1024_1_0_0).toLoadRect (I.a3 c)
/-- Expert 1 of the device, converted. -/
def b1 (I : Inp F) (c : Dev nD) : Vec F S1x512x1024 .bf16 := (k0_pay15 (wv78 I c))
/-- The body's value 98. -/
def wv98 (I : Inp F) (c : Dev nD) : Vec F S1x512x1024 .bf16 := b1 I c
/-- The body's value 102. -/
def wv102 (I : Inp F) (c : Dev nD) : Vec F S1x512x1024 .f32 := iM3.view.readAt (Elt F) (Rect.unit (s := S8x512x1024) ![2, 0, 0] S1x512x1024.size inb_S8x512x1024_S1x512x1024_2_0_0).toLoadRect (I.a3 c)
/-- Expert 2 of the device, converted. -/
def b2 (I : Inp F) (c : Dev nD) : Vec F S1x512x1024 .bf16 := (k0_pay17 (wv102 I c))
/-- The body's value 101. -/
def wv101 (I : Inp F) (c : Dev nD) : FVec F S512x1024 .f32 := k0_pay16 (wv2 I c) (wv34 I c) (wv35 I c) (wv50 I c) (wv51 I c) (wv52 I c) (wv53 I c) (wv73 I c) (wv74 I c) (wv98 I c)
/-- A constant of the body. -/
def wc8_i32_52 (I : Inp F) (c : Dev nD) : BitVec 32 := 8#32
/-- The body's value 122. -/
def wv122 (I : Inp F) (c : Dev nD) : Vec F S1x512x1024 .bf16 := b2 I c
/-- The body's value 126. -/
def wv126 (I : Inp F) (c : Dev nD) : Vec F S1x512x1024 .f32 := iM3.view.readAt (Elt F) (Rect.unit (s := S8x512x1024) ![3, 0, 0] S1x512x1024.size inb_S8x512x1024_S1x512x1024_3_0_0).toLoadRect (I.a3 c)
/-- Expert 3 of the device, converted. -/
def b3 (I : Inp F) (c : Dev nD) : Vec F S1x512x1024 .bf16 := (k0_pay19 (wv126 I c))
/-- The body's value 146. -/
def wv146 (I : Inp F) (c : Dev nD) : Vec F S1x512x1024 .bf16 := b3 I c
/-- The body's value 125. -/
def wv125 (I : Inp F) (c : Dev nD) : FVec F S512x1024 .f32 := k0_pay18 (wv2 I c) (wv34 I c) (wv35 I c) (wv50 I c) (wv51 I c) (wv52 I c) (wv101 I c) (wc8_i32_52 I c) (wv122 I c)
/-- The body's value 145. -/
def wv145 (I : Inp F) (c : Dev nD) : FVec F S512x512 .bf16 := k0_pay20 (wv2 I c) (wv34 I c) (wv35 I c) (wv50 I c) (wv51 I c) (wv52 I c)
/-- The body's value 150. -/
def wv150 (I : Inp F) (c : Dev nD) : Vec F S1x512x1024 .f32 := iM3.view.readAt (Elt F) (Rect.unit (s := S8x512x1024) ![4, 0, 0] S1x512x1024.size inb_S8x512x1024_S1x512x1024_4_0_0).toLoadRect (I.a3 c)
/-- Expert 4 of the device, converted. -/
def b4 (I : Inp F) (c : Dev nD) : Vec F S1x512x1024 .bf16 := (k0_pay21 (wv150 I c))
/-- The body's value 170. -/
def wv170 (I : Inp F) (c : Dev nD) : Vec F S1x512x1024 .bf16 := b4 I c
/-- The body's value 174. -/
def wv174 (I : Inp F) (c : Dev nD) : Vec F S1x512x1024 .f32 := iM3.view.readAt (Elt F) (Rect.unit (s := S8x512x1024) ![5, 0, 0] S1x512x1024.size inb_S8x512x1024_S1x512x1024_5_0_0).toLoadRect (I.a3 c)
/-- Expert 5 of the device, converted. -/
def b5 (I : Inp F) (c : Dev nD) : Vec F S1x512x1024 .bf16 := (k0_pay23 (wv174 I c))
/-- The body's value 173. -/
def wv173 (I : Inp F) (c : Dev nD) : FVec F S512x1024 .f32 := k0_pay22 (wv2 I c) (wv34 I c) (wv35 I c) (wv50 I c) (wv51 I c) (wv52 I c) (wv125 I c) (wv145 I c) (wv146 I c) (wv170 I c)
/-- The body's value 180. -/
def wv180 (I : Inp F) (c : Dev nD) : BitVec 32 := Scalar.muli (wv2 I c) 8#32
/-- The body's value 181. -/
def wv181 (I : Inp F) (c : Dev nD) : BitVec 32 := Scalar.addi (wv180 I c) 5#32
/-- The body's value 194. -/
def wv194 (I : Inp F) (c : Dev nD) : Vec F S1x512x1024 .bf16 := b5 I c
/-- The body's value 198. -/
def wv198 (I : Inp F) (c : Dev nD) : Vec F S1x512x1024 .f32 := iM3.view.readAt (Elt F) (Rect.unit (s := S8x512x1024) ![6, 0, 0] S1x512x1024.size inb_S8x512x1024_S1x512x1024_6_0_0).toLoadRect (I.a3 c)
/-- Expert 6 of the device, converted. -/
def b6 (I : Inp F) (c : Dev nD) : Vec F S1x512x1024 .bf16 := (k0_pay25 (wv198 I c))
/-- The body's value 218. -/
def wv218 (I : Inp F) (c : Dev nD) : Vec F S1x512x1024 .bf16 := b6 I c
/-- The body's value 197. -/
def wv197 (I : Inp F) (c : Dev nD) : FVec F S512x1024 .f32 := k0_pay24 (wv34 I c) (wv35 I c) (wv50 I c) (wv51 I c) (wv52 I c) (wv173 I c) (wv181 I c) (wv194 I c)
/-- The body's value 220. -/
def wv220 (I : Inp F) (c : Dev nD) : FVec F S512x1024 .f32 := k0_pay26 (wv2 I c) (wv34 I c) (wv35 I c) (wv50 I c) (wv51 I c) (wv52 I c) (wv218 I c)
/-- The body's value 222. -/
def wv222 (I : Inp F) (c : Dev nD) : Vec F S1x512x1024 .f32 := iM3.view.readAt (Elt F) (Rect.unit (s := S8x512x1024) ![7, 0, 0] S1x512x1024.size inb_S8x512x1024_S1x512x1024_7_0_0).toLoadRect (I.a3 c)
/-- Expert 7 of the device, converted. -/
def b7 (I : Inp F) (c : Dev nD) : Vec F S1x512x1024 .bf16 := (k0_pay27 (wv222 I c))
/-- The body's value 242. -/
def wv242 (I : Inp F) (c : Dev nD) : Vec F S1x512x1024 .bf16 := b7 I c
/-- What store 1 into the result writes. -/
def u1 (I : Inp F) (c : Dev nD) : Vec F S512x1024 .f32 := (k0_pay28 (wv2 I c) (wv34 I c) (wv35 I c) (wv50 I c) (wv51 I c) (wv52 I c) (wv197 I c) (wv220 I c) (wv242 I c))
/-- The body's value 253. -/
def wv253 (I : Inp F) (c : Dev nD) : Vec F S512x256 .f32 := fun i => u1 I c ((RC 0).emb i)
/-- The body's value 255. -/
def wv255 (I : Inp F) (c : Dev nD) : FVec F S512x256 .bf16 := k0_pay29 (wv253 I c)
/-- What transfer 0 carries. -/
def g0 (I : Inp F) (c : Dev nD) : Slot F := (k0_pay30 (wv255 I c))
/-- The body's value 274. -/
def wv274 (I : Inp F) (c : Dev nD) : Vec F S512x256 .f32 := fun i => u1 I c ((RC 1).emb i)
/-- What transfer 1 carries. -/
def g1 (I : Inp F) (c : Dev nD) : Slot F := (k0_pay31 (wv274 I c))
/-- A constant of the body. -/
def wc1_i32_162 (I : Inp F) (c : Dev nD) : BitVec 32 := 1#32
/-- The body's value 295. -/
def wv295 (I : Inp F) (c : Dev nD) : Vec F S512x256 .f32 := fun i => u1 I c ((RC 2).emb i)
/-- What transfer 2 carries. -/
def g2 (I : Inp F) (c : Dev nD) : Slot F := (k0_pay32 (wv295 I c))
/-- The body's value 316. -/
def wv316 (I : Inp F) (c : Dev nD) : Vec F S512x256 .f32 := fun i => u1 I c ((RC 3).emb i)
/-- What transfer 3 carries. -/
def g3 (I : Inp F) (c : Dev nD) : Slot F := (k0_pay33 (wv316 I c))
/-- The body's value 337. -/
def wv337 (I : Inp F) (c : Dev nD) : Vec F S512x512 .f32 := iM0.view.readAt (Elt F) (Rect.unit (s := S2048x512) (k0_off1 c 4294967295#32) S512x512.size (k0_off1_inb c 1)).toLoadRect (I.a0 c)
/-- The body's value 332. -/
def wv332 (I : Inp F) (c : Dev nD) : BitVec 32 := Scalar.addi (wv2 I c) 4294967295#32
/-- The body's value 333. -/
def wv333 (I : Inp F) (c : Dev nD) : BitVec 32 := Scalar.addi (wv332 I c) 8#32
/-- The body's value 334. -/
def wv334 (I : Inp F) (c : Dev nD) : BitVec 32 := Scalar.remsi (wv333 I c) 4#32
/-- The body's value 335. -/
def wv335 (I : Inp F) (c : Dev nD) : BitVec 32 := Scalar.muli (wv334 I c) 512#32
/-- The body's value 338. -/
def wv338 (I : Inp F) (c : Dev nD) : FVec F S512x512 .f32 := k0_pay34 (wv337 I c)
/-- The body's value 339. -/
def wv339 (I : Inp F) (c : Dev nD) : Vec F S512x32 .f32 := iM1.view.readAt (Elt F) (Rect.unit (s := S512x32) ![0, 0] S512x32.size inb_S512x32_S512x32_0_0).toLoadRect (I.a1 c)
/-- The body's value 352. -/
def wv352 (I : Inp F) (c : Dev nD) : Vec F S512x2 .i32 := iM2.view.readAt (Elt F) (Rect.unit (s := S2048x2) (k0_off2 c 4294967295#32) S512x2.size (k0_off2_inb c 1)).toLoadRect (I.a2 c)
/-- The body's value 354. -/
def wv354 (I : Inp F) (c : Dev nD) : IVec S512x1 32 := k0_pay37 (wv352 I c)
/-- The body's value 355. -/
def wv355 (I : Inp F) (c : Dev nD) : IVec S512x1 32 := k0_pay38 (wv352 I c)
/-- The body's value 370. -/
def wv370 (I : Inp F) (c : Dev nD) : FVec F S512x1 .f32 := k0_pay42 (wv338 I c) (wv339 I c) (wv352 I c)
/-- The body's value 371. -/
def wv371 (I : Inp F) (c : Dev nD) : FVec F S512x1 .f32 := k0_pay43 (wv338 I c) (wv339 I c) (wv352 I c)
/-- The body's value 372. -/
def wv372 (I : Inp F) (c : Dev nD) : FVec F S512x512 .bf16 := k0_pay44 (wv338 I c)
/-- The body's value 373. -/
def wv373 (I : Inp F) (c : Dev nD) : FVec F S512x1024 .f32 := k0_pay45 (F := F)
/-- The body's value 379. -/
def wv379 (I : Inp F) (c : Dev nD) : FVec F S512x1 .f32 := k0_pay46 (wv2 I c) (wv338 I c) (wv339 I c) (wv352 I c)
/-- The body's value 383. -/
def wv383 (I : Inp F) (c : Dev nD) : FVec F S512x1 .f32 := k0_pay47 (wv2 I c) (wv338 I c) (wv339 I c) (wv352 I c)
/-- The body's value 388. -/
def wv388 (I : Inp F) (c : Dev nD) : Vec F S1x512x1024 .bf16 := b0 I c
/-- The body's value 406. -/
def wv406 (I : Inp F) (c : Dev nD) : Vec F S1x512x1024 .bf16 := b1 I c
/-- The body's value 424. -/
def wv424 (I : Inp F) (c : Dev nD) : Vec F S1x512x1024 .bf16 := b2 I c
/-- The body's value 409. -/
def wv409 (I : Inp F) (c : Dev nD) : FVec F S512x1024 .f32 := k0_pay48 (wv2 I c) (wv354 I c) (wv355 I c) (wv370 I c) (wv371 I c) (wv372 I c) (wv373 I c) (wv379 I c) (wv383 I c) (wv388 I c) (wv406 I c)
/-- The body's value 423. -/
def wv423 (I : Inp F) (c : Dev nD) : FVec F S512x512 .bf16 := k0_pay49 (wv2 I c) (wv354 I c) (wv355 I c) (wv370 I c) (wv371 I c) (wv372 I c)
/-- The body's value 442. -/
def wv442 (I : Inp F) (c : Dev nD) : Vec F S1x512x1024 .bf16 := b3 I c
/-- The body's value 460. -/
def wv460 (I : Inp F) (c : Dev nD) : Vec F S1x512x1024 .bf16 := b4 I c
/-- The body's value 463. -/
def wv463 (I : Inp F) (c : Dev nD) : FVec F S512x1024 .f32 := k0_pay50 (wv2 I c) (wv354 I c) (wv355 I c) (wv370 I c) (wv371 I c) (wv372 I c) (wv409 I c) (wv423 I c) (wv424 I c) (wv442 I c) (wv460 I c)
/-- The body's value 464. -/
def wv464 (I : Inp F) (c : Dev nD) : BitVec 32 := Scalar.muli (wv2 I c) 8#32
/-- The body's value 465. -/
def wv465 (I : Inp F) (c : Dev nD) : BitVec 32 := Scalar.addi (wv464 I c) 5#32
/-- The body's value 478. -/
def wv478 (I : Inp F) (c : Dev nD) : Vec F S1x512x1024 .bf16 := b5 I c
/-- The body's value 496. -/
def wv496 (I : Inp F) (c : Dev nD) : Vec F S1x512x1024 .bf16 := b6 I c
/-- The body's value 499. -/
def wv499 (I : Inp F) (c : Dev nD) : FVec F S512x1024 .f32 := k0_pay51 (wv2 I c) (wv354 I c) (wv355 I c) (wv370 I c) (wv371 I c) (wv372 I c) (wv463 I c) (wv465 I c) (wv478 I c) (wv496 I c)
/-- The body's value 505. -/
def wv505 (I : Inp F) (c : Dev nD) : FVec F S512x1 .f32 := k0_pay52 (wv2 I c) (wv354 I c) (wv370 I c)
/-- The body's value 507. -/
def wv507 (I : Inp F) (c : Dev nD) : IVec S512x1 1 := k0_pay53 (wv2 I c) (wv355 I c)
/-- A constant of the body. -/
def wcst_286 (I : Inp F) (c : Dev nD) : F .f32 := Scalar.ofBits .f32 0x00000000#32
/-- The body's value 514. -/
def wv514 (I : Inp F) (c : Dev nD) : Vec F S1x512x1024 .bf16 := b7 I c
/-- What store 2 into the result writes. -/
def u2 (I : Inp F) (c : Dev nD) : Vec F S512x1024 .f32 := (k0_pay54 (wv371 I c) (wv372 I c) (wv499 I c) (wv505 I c) (wv507 I c) (wcst_286 I c) (wv514 I c))
/-- The body's value 537. -/
def wv537 (I : Inp F) (c : Dev nD) : Vec F S1x1x512x256 .bf16 := (g0 I (prv c))
/-- The body's value 542. -/
def wv542 (I : Inp F) (c : Dev nD) : Vec F S512x256 .f32 := fun i => u2 I c ((RC 0).emb i)
/-- What transfer 4 carries. -/
def g4 (I : Inp F) (c : Dev nD) : Slot F := (k0_pay55 (wv537 I c) (wv542 I c))
/-- The body's value 576. -/
def wv576 (I : Inp F) (c : Dev nD) : Vec F S1x1x512x256 .bf16 := (g1 I (prv c))
/-- The body's value 581. -/
def wv581 (I : Inp F) (c : Dev nD) : Vec F S512x256 .f32 := fun i => u2 I c ((RC 1).emb i)
/-- The body's value 584. -/
def wv584 (I : Inp F) (c : Dev nD) : FVec F S512x256 .bf16 := k0_pay56 (wv576 I c) (wv581 I c)
/-- What transfer 5 carries. -/
def g5 (I : Inp F) (c : Dev nD) : Slot F := (k0_pay57 (wv584 I c))
/-- The body's value 603. -/
def wv603 (I : Inp F) (c : Dev nD) : Vec F S512x512 .f32 := iM0.view.readAt (Elt F) (Rect.unit (s := S2048x512) (k0_off1 c 1#32) S512x512.size (k0_off1_inb c 2)).toLoadRect (I.a0 c)
/-- The body's value 605. -/
def wv605 (I : Inp F) (c : Dev nD) : Vec F S512x32 .f32 := iM1.view.readAt (Elt F) (Rect.unit (s := S512x32) ![0, 0] S512x32.size inb_S512x32_S512x32_0_0).toLoadRect (I.a1 c)
/-- The body's value 598. -/
def wv598 (I : Inp F) (c : Dev nD) : BitVec 32 := Scalar.addi (wv2 I c) 1#32
/-- The body's value 599. -/
def wv599 (I : Inp F) (c : Dev nD) : BitVec 32 := Scalar.addi (wv598 I c) 8#32
/-- The body's value 600. -/
def wv600 (I : Inp F) (c : Dev nD) : BitVec 32 := Scalar.remsi (wv599 I c) 4#32
/-- The body's value 601. -/
def wv601 (I : Inp F) (c : Dev nD) : BitVec 32 := Scalar.muli (wv600 I c) 512#32
/-- The body's value 604. -/
def wv604 (I : Inp F) (c : Dev nD) : FVec F S512x512 .f32 := k0_pay58 (wv603 I c)
/-- The body's value 612. -/
def wv612 (I : Inp F) (c : Dev nD) : FVec F S512x32 .f32 := k0_pay59 (wv603 I c) (wv605 I c)
/-- The body's value 615. -/
def wv615 (I : Inp F) (c : Dev nD) : FVec F S512x32 .f32 := k0_pay60 (wv603 I c) (wv605 I c)
/-- The body's value 618. -/
def wv618 (I : Inp F) (c : Dev nD) : Vec F S512x2 .i32 := iM2.view.readAt (Elt F) (Rect.unit (s := S2048x2) (k0_off2 c 1#32) S512x2.size (k0_off2_inb c 2)).toLoadRect (I.a2 c)
/-- The body's value 654. -/
def wv654 (I : Inp F) (c : Dev nD) : Vec F S1x512x1024 .bf16 := b0 I c
/-- The body's value 620. -/
def wv620 (I : Inp F) (c : Dev nD) : IVec S512x1 32 := k0_pay63 (wv618 I c)
/-- The body's value 621. -/
def wv621 (I : Inp F) (c : Dev nD) : IVec S512x1 32 := k0_pay64 (wv618 I c)
/-- The body's value 636. -/
def wv636 (I : Inp F) (c : Dev nD) : FVec F S512x1 .f32 := k0_pay68 (wv612 I c) (wv615 I c) (wv618 I c)
/-- The body's value 637. -/
def wv637 (I : Inp F) (c : Dev nD) : FVec F S512x1 .f32 := k0_pay69 (wv612 I c) (wv615 I c) (wv618 I c)
/-- The body's value 638. -/
def wv638 (I : Inp F) (c : Dev nD) : FVec F S512x512 .bf16 := k0_pay70 (wv604 I c)
/-- The body's value 657. -/
def wv657 (I : Inp F) (c : Dev nD) : FVec F S512x1024 .f32 := k0_pay71 (wv2 I c) (wv604 I c) (wv612 I c) (wv615 I c) (wv618 I c) (wv654 I c)
/-- The body's value 658. -/
def wv658 (I : Inp F) (c : Dev nD) : BitVec 32 := Scalar.muli (wv2 I c) 8#32
/-- The body's value 659. -/
def wv659 (I : Inp F) (c : Dev nD) : BitVec 32 := Scalar.addi (wv658 I c) 1#32
/-- The body's value 672. -/
def wv672 (I : Inp F) (c : Dev nD) : Vec F S1x512x1024 .bf16 := b1 I c
/-- The body's value 690. -/
def wv690 (I : Inp F) (c : Dev nD) : Vec F S1x512x1024 .bf16 := b2 I c
/-- The body's value 693. -/
def wv693 (I : Inp F) (c : Dev nD) : FVec F S512x1024 .f32 := k0_pay72 (wv2 I c) (wv620 I c) (wv621 I c) (wv636 I c) (wv637 I c) (wv638 I c) (wv657 I c) (wv659 I c) (wv672 I c) (wv690 I c)
/-- The body's value 699. -/
def wv699 (I : Inp F) (c : Dev nD) : FVec F S512x1 .f32 := k0_pay73 (wv2 I c) (wv620 I c) (wv636 I c)
/-- The body's value 701. -/
def wv701 (I : Inp F) (c : Dev nD) : IVec S512x1 1 := k0_pay74 (wv2 I c) (wv621 I c)
/-- A constant of the body. -/
def wcst_443 (I : Inp F) (c : Dev nD) : F .f32 := Scalar.ofBits .f32 0x00000000#32
/-- The body's value 708. -/
def wv708 (I : Inp F) (c : Dev nD) : Vec F S1x512x1024 .bf16 := b3 I c
/-- The body's value 726. -/
def wv726 (I : Inp F) (c : Dev nD) : Vec F S1x512x1024 .bf16 := b4 I c
/-- The body's value 729. -/
def wv729 (I : Inp F) (c : Dev nD) : FVec F S512x1024 .f32 := k0_pay75 (wv2 I c) (wv620 I c) (wv621 I c) (wv636 I c) (wv637 I c) (wv638 I c) (wv693 I c) (wv699 I c) (wv701 I c) (wcst_443 I c) (wv708 I c) (wv726 I c)
/-- The body's value 743. -/
def wv743 (I : Inp F) (c : Dev nD) : FVec F S512x512 .bf16 := k0_pay76 (wv2 I c) (wv620 I c) (wv621 I c) (wv636 I c) (wv637 I c) (wv638 I c)
/-- The body's value 744. -/
def wv744 (I : Inp F) (c : Dev nD) : Vec F S1x512x1024 .bf16 := b5 I c
/-- The body's value 762. -/
def wv762 (I : Inp F) (c : Dev nD) : Vec F S1x512x1024 .bf16 := b6 I c
/-- The body's value 780. -/
def wv780 (I : Inp F) (c : Dev nD) : Vec F S1x512x1024 .bf16 := b7 I c
/-- The body's value 783. -/
def wv783 (I : Inp F) (c : Dev nD) : FVec F S512x1024 .f32 := k0_pay77 (wv2 I c) (wv620 I c) (wv621 I c) (wv636 I c) (wv637 I c) (wv638 I c) (wv729 I c) (wv743 I c) (wv744 I c) (wv762 I c) (wv780 I c)
/-- What store 3 into the result writes. -/
def u3 (I : Inp F) (c : Dev nD) : Vec F S512x1024 .f32 := (wv783 I c)
/-- The body's value 803. -/
def wv803 (I : Inp F) (c : Dev nD) : Vec F S1x1x512x256 .bf16 := (g2 I (nxt c))
/-- The body's value 805. -/
def wv805 (I : Inp F) (c : Dev nD) : FVec F S512x256 .f32 := k0_pay78 (wv803 I c)
/-- The body's value 800. -/
def wv800 (I : Inp F) (c : Dev nD) : BitVec 32 := Scalar.addi (wv2 I c) 1#32
/-- The body's value 801. -/
def wv801 (I : Inp F) (c : Dev nD) : BitVec 32 := Scalar.addi (wv800 I c) 8#32
/-- The body's value 802. -/
def wv802 (I : Inp F) (c : Dev nD) : BitVec 32 := Scalar.remsi (wv801 I c) 4#32
/-- The body's value 806. -/
def wv806 (I : Inp F) (c : Dev nD) : BitVec 32 := Scalar.muli (wv802 I c) 512#32
/-- The body's value 808. -/
def wv808 (I : Inp F) (c : Dev nD) : Vec F S512x256 .f32 := fun i => u3 I c ((RC 2).emb i)
/-- What transfer 6 carries. -/
def g6 (I : Inp F) (c : Dev nD) : Slot F := (k0_pay79 (wv805 I c) (wv808 I c))
/-- The body's value 842. -/
def wv842 (I : Inp F) (c : Dev nD) : Vec F S1x1x512x256 .bf16 := (g3 I (nxt c))
/-- The body's value 847. -/
def wv847 (I : Inp F) (c : Dev nD) : Vec F S512x256 .f32 := fun i => u3 I c ((RC 3).emb i)
/-- What transfer 7 carries. -/
def g7 (I : Inp F) (c : Dev nD) : Slot F := (k0_pay80 (wv842 I c) (wv847 I c))
/-- A constant of the body. -/
def wc1_i32_583 (I : Inp F) (c : Dev nD) : BitVec 32 := 1#32
/-- The body's value 869. -/
def wv869 (I : Inp F) (c : Dev nD) : Vec F S512x512 .f32 := iM0.view.readAt (Elt F) (Rect.unit (s := S2048x512) (k0_off1 c 2#32) S512x512.size (k0_off1_inb c 3)).toLoadRect (I.a0 c)
/-- The body's value 871. -/
def wv871 (I : Inp F) (c : Dev nD) : Vec F S512x32 .f32 := iM1.view.readAt (Elt F) (Rect.unit (s := S512x32) ![0, 0] S512x32.size inb_S512x32_S512x32_0_0).toLoadRect (I.a1 c)
/-- The body's value 884. -/
def wv884 (I : Inp F) (c : Dev nD) : Vec F S512x2 .i32 := iM2.view.readAt (Elt F) (Rect.unit (s := S2048x2) (k0_off2 c 2#32) S512x2.size (k0_off2_inb c 3)).toLoadRect (I.a2 c)
/-- The body's value 864. -/
def wv864 (I : Inp F) (c : Dev nD) : BitVec 32 := Scalar.addi (wv2 I c) 2#32
/-- The body's value 865. -/
def wv865 (I : Inp F) (c : Dev nD) : BitVec 32 := Scalar.addi (wv864 I c) 8#32
/-- The body's value 866. -/
def wv866 (I : Inp F) (c : Dev nD) : BitVec 32 := Scalar.remsi (wv865 I c) 4#32
/-- The body's value 867. -/
def wv867 (I : Inp F) (c : Dev nD) : BitVec 32 := Scalar.muli (wv866 I c) 512#32
/-- The body's value 870. -/
def wv870 (I : Inp F) (c : Dev nD) : FVec F S512x512 .f32 := k0_pay81 (wv869 I c)
/-- The body's value 882. -/
def wv882 (I : Inp F) (c : Dev nD) : FVec F S512x32 .f32 := k0_pay82 (wv869 I c) (wv871 I c)
/-- The body's value 886. -/
def wv886 (I : Inp F) (c : Dev nD) : IVec S512x1 32 := k0_pay84 (wv884 I c)
/-- The body's value 887. -/
def wv887 (I : Inp F) (c : Dev nD) : IVec S512x1 32 := k0_pay85 (wv884 I c)
/-- The body's value 888. -/
def wv888 (I : Inp F) (c : Dev nD) : IVec S512x32 32 := iota .tc S512x32 32 [1] iota_S512x32_d1_w32
/-- The body's value 894. -/
def wv894 (I : Inp F) (c : Dev nD) : FVec F S512x1 .f32 := k0_pay86 (wv869 I c) (wv871 I c) (wv884 I c)
/-- The body's value 920. -/
def wv920 (I : Inp F) (c : Dev nD) : Vec F S1x512x1024 .bf16 := b0 I c
/-- The body's value 902. -/
def wv902 (I : Inp F) (c : Dev nD) : FVec F S512x1 .f32 := k0_pay89 (wv882 I c) (wv887 I c) (wv888 I c) (wv894 I c)
/-- The body's value 903. -/
def wv903 (I : Inp F) (c : Dev nD) : FVec F S512x1 .f32 := k0_pay90 (wv882 I c) (wv887 I c) (wv888 I c) (wv894 I c)
/-- The body's value 904. -/
def wv904 (I : Inp F) (c : Dev nD) : FVec F S512x512 .bf16 := k0_pay91 (wv870 I c)
/-- The body's value 923. -/
def wv923 (I : Inp F) (c : Dev nD) : FVec F S512x1024 .f32 := k0_pay92 (wv2 I c) (wv870 I c) (wv882 I c) (wv886 I c) (wv887 I c) (wv888 I c) (wv894 I c) (wv920 I c)
/-- The body's value 937. -/
def wv937 (I : Inp F) (c : Dev nD) : FVec F S512x512 .bf16 := k0_pay93 (wv2 I c) (wv870 I c) (wv882 I c) (wv886 I c) (wv887 I c) (wv888 I c) (wv894 I c)
/-- The body's value 938. -/
def wv938 (I : Inp F) (c : Dev nD) : Vec F S1x512x1024 .bf16 := b1 I c
/-- The body's value 956. -/
def wv956 (I : Inp F) (c : Dev nD) : Vec F S1x512x1024 .bf16 := b2 I c
/-- The body's value 974. -/
def wv974 (I : Inp F) (c : Dev nD) : Vec F S1x512x1024 .bf16 := b3 I c
/-- The body's value 977. -/
def wv977 (I : Inp F) (c : Dev nD) : FVec F S512x1024 .f32 := k0_pay94 (wv2 I c) (wv886 I c) (wv887 I c) (wv902 I c) (wv903 I c) (wv904 I c) (wv923 I c) (wv937 I c) (wv938 I c) (wv956 I c) (wv974 I c)
/-- The body's value 978. -/
def wv978 (I : Inp F) (c : Dev nD) : BitVec 32 := Scalar.muli (wv2 I c) 8#32
/-- The body's value 992. -/
def wv992 (I : Inp F) (c : Dev nD) : Vec F S1x512x1024 .bf16 := b4 I c
/-- The body's value 1010. -/
def wv1010 (I : Inp F) (c : Dev nD) : Vec F S1x512x1024 .bf16 := b5 I c
/-- The body's value 1013. -/
def wv1013 (I : Inp F) (c : Dev nD) : FVec F S512x1024 .f32 := k0_pay95 (wv2 I c) (wv886 I c) (wv887 I c) (wv902 I c) (wv903 I c) (wv904 I c) (wv977 I c) (wv978 I c) (wv992 I c) (wv1010 I c)
/-- The body's value 1019. -/
def wv1019 (I : Inp F) (c : Dev nD) : FVec F S512x1 .f32 := k0_pay96 (wv2 I c) (wv886 I c) (wv902 I c)
/-- The body's value 1020. -/
def wv1020 (I : Inp F) (c : Dev nD) : IVec S512x1 32 := k0_pay97 (wv2 I c)
/-- The body's value 1028. -/
def wv1028 (I : Inp F) (c : Dev nD) : Vec F S1x512x1024 .bf16 := b6 I c
/-- The body's value 1046. -/
def wv1046 (I : Inp F) (c : Dev nD) : Vec F S1x512x1024 .bf16 := b7 I c
/-- What store 4 into the result writes. -/
def u4 (I : Inp F) (c : Dev nD) : Vec F S512x1024 .f32 := (k0_pay98 (wv2 I c) (wv886 I c) (wv887 I c) (wv902 I c) (wv903 I c) (wv904 I c) (wv1013 I c) (wv1019 I c) (wv1020 I c) (wv1028 I c) (wv1046 I c))
/-- The body's value 1069. -/
def wv1069 (I : Inp F) (c : Dev nD) : Vec F S1x1x512x256 .bf16 := (g4 I (prv c))
/-- The body's value 1074. -/
def wv1074 (I : Inp F) (c : Dev nD) : Vec F S512x256 .f32 := fun i => u4 I c ((RC 0).emb i)
/-- What transfer 8 carries. -/
def g8 (I : Inp F) (c : Dev nD) : Slot F := (k0_pay99 (wv1069 I c) (wv1074 I c))
/-- The body's value 1108. -/
def wv1108 (I : Inp F) (c : Dev nD) : Vec F S1x1x512x256 .bf16 := (g5 I (prv c))
/-- The body's value 1113. -/
def wv1113 (I : Inp F) (c : Dev nD) : Vec F S512x256 .f32 := fun i => u4 I c ((RC 1).emb i)
/-- What transfer 9 carries. -/
def g9 (I : Inp F) (c : Dev nD) : Slot F := (k0_pay100 (wv1108 I c) (wv1113 I c))
/-- The body's value 1147. -/
def wv1147 (I : Inp F) (c : Dev nD) : Vec F S1x1x512x256 .bf16 := (g6 I (nxt c))
/-- The body's value 1149. -/
def wv1149 (I : Inp F) (c : Dev nD) : FVec F S512x256 .f32 := k0_pay101 (wv1147 I c)
/-- The body's value 1152. -/
def wv1152 (I : Inp F) (c : Dev nD) : Vec F S512x256 .f32 := fun i => u4 I c ((RC 2).emb i)
/-- What transfer 10 carries. -/
def g10 (I : Inp F) (c : Dev nD) : Slot F := (k0_pay102 (wv1149 I c) (wv1152 I c))
/-- The body's value 1186. -/
def wv1186 (I : Inp F) (c : Dev nD) : Vec F S1x1x512x256 .bf16 := (g7 I (nxt c))
/-- The body's value 1191. -/
def wv1191 (I : Inp F) (c : Dev nD) : Vec F S512x256 .f32 := fun i => u4 I c ((RC 3).emb i)
/-- What transfer 11 carries. -/
def g11 (I : Inp F) (c : Dev nD) : Slot F := (k0_pay103 (wv1186 I c) (wv1191 I c))
/-- The body's value 1198. -/
def wv1198 (I : Inp F) (c : Dev nD) : BitVec 32 := Scalar.muli (wv4 I c) 1#32
/-- A constant of the body. -/
def wc0_i32_880 (I : Inp F) (c : Dev nD) : BitVec 32 := 0#32
/-- The body's value 1208. -/
def wv1208 (I : Inp F) (c : Dev nD) : BitVec 32 := Scalar.addi (wv2 I c) 1#32
/-- The body's value 1209. -/
def wv1209 (I : Inp F) (c : Dev nD) : BitVec 32 := Scalar.addi (wv1208 I c) 8#32
/-- The body's value 1210. -/
def wv1210 (I : Inp F) (c : Dev nD) : BitVec 32 := Scalar.remsi (wv1209 I c) 4#32
/-- The body's value 1227. -/
def wv1227 (I : Inp F) (c : Dev nD) : Vec F S512x256 .f32 := fun i => u3 I c ((RC 0).emb i)
/-- The body's value 1229. -/
def wv1229 (I : Inp F) (c : Dev nD) : Vec F S1x1x512x256 .bf16 := (g8 I (prv c))
/-- What store 5 into the result writes. -/
def u5 (I : Inp F) (c : Dev nD) : Vec F S512x256 .f32 := (k0_pay104 (wv1227 I c) (wv1229 I c))
/-- The body's value 1237. -/
def wv1237 (I : Inp F) (c : Dev nD) : Vec F S512x256 .f32 := u5 I c
/-- What transfer 12 carries. -/
def g12 (I : Inp F) (c : Dev nD) : Slot F := (k0_pay105 (wv1237 I c))
/-- The body's value 1272. -/
def wv1272 (I : Inp F) (c : Dev nD) : Vec F S512x256 .f32 := fun i => u3 I c ((RC 1).emb i)
/-- The body's value 1253. -/
def wv1253 (I : Inp F) (c : Dev nD) : BitVec 32 := Scalar.addi (wv2 I c) 1#32
/-- The body's value 1254. -/
def wv1254 (I : Inp F) (c : Dev nD) : BitVec 32 := Scalar.addi (wv1253 I c) 8#32
/-- The body's value 1255. -/
def wv1255 (I : Inp F) (c : Dev nD) : BitVec 32 := Scalar.remsi (wv1254 I c) 4#32
/-- The body's value 1270. -/
def wv1270 (I : Inp F) (c : Dev nD) : BitVec 32 := Scalar.muli (wv1255 I c) 512#32
/-- The body's value 1273. -/
def wv1273 (I : Inp F) (c : Dev nD) : FVec F S512x256 .f32 := k0_pay106 (wv1272 I c)
/-- The body's value 1274. -/
def wv1274 (I : Inp F) (c : Dev nD) : Vec F S1x1x512x256 .bf16 := (g9 I (prv c))
/-- What store 6 into the result writes. -/
def u6 (I : Inp F) (c : Dev nD) : Vec F S512x256 .f32 := (k0_pay107 (wv1273 I c) (wv1274 I c))
/-- The body's value 1282. -/
def wv1282 (I : Inp F) (c : Dev nD) : Vec F S512x256 .f32 := u6 I c
/-- What transfer 13 carries. -/
def g13 (I : Inp F) (c : Dev nD) : Slot F := (k0_pay108 (wv1282 I c))
/-- The body's value 1298. -/
def wv1298 (I : Inp F) (c : Dev nD) : BitVec 32 := Scalar.addi (wv2 I c) 4294967295#32
/-- The body's value 1299. -/
def wv1299 (I : Inp F) (c : Dev nD) : BitVec 32 := Scalar.addi (wv1298 I c) 8#32
/-- The body's value 1300. -/
def wv1300 (I : Inp F) (c : Dev nD) : BitVec 32 := Scalar.remsi (wv1299 I c) 4#32
/-- The body's value 1317. -/
def wv1317 (I : Inp F) (c : Dev nD) : Vec F S512x256 .f32 := fun i => u2 I c ((RC 2).emb i)
/-- The body's value 1319. -/
def wv1319 (I : Inp F) (c : Dev nD) : Vec F S1x1x512x256 .bf16 := (g10 I (nxt c))
/-- What store 7 into the result writes. -/
def u7 (I : Inp F) (c : Dev nD) : Vec F S512x256 .f32 := (k0_pay109 (wv1317 I c) (wv1319 I c))
/-- The body's value 1327. -/
def wv1327 (I : Inp F) (c : Dev nD) : Vec F S512x256 .f32 := u7 I c
/-- What transfer 14 carries. -/
def g14 (I : Inp F) (c : Dev nD) : Slot F := (k0_pay110 (wv1327 I c))
/-- The body's value 1343. -/
def wv1343 (I : Inp F) (c : Dev nD) : BitVec 32 := Scalar.addi (wv2 I c) 4294967295#32
/-- The body's value 1344. -/
def wv1344 (I : Inp F) (c : Dev nD) : BitVec 32 := Scalar.addi (wv1343 I c) 8#32
/-- The body's value 1345. -/
def wv1345 (I : Inp F) (c : Dev nD) : BitVec 32 := Scalar.remsi (wv1344 I c) 4#32
/-- The body's value 1362. -/
def wv1362 (I : Inp F) (c : Dev nD) : Vec F S512x256 .f32 := fun i => u2 I c ((RC 3).emb i)
/-- The body's value 1364. -/
def wv1364 (I : Inp F) (c : Dev nD) : Vec F S1x1x512x256 .bf16 := (g11 I (nxt c))
/-- What store 8 into the result writes. -/
def u8 (I : Inp F) (c : Dev nD) : Vec F S512x256 .f32 := (k0_pay111 (wv1362 I c) (wv1364 I c))
/-- The body's value 1372. -/
def wv1372 (I : Inp F) (c : Dev nD) : Vec F S512x256 .f32 := u8 I c
/-- What transfer 15 carries. -/
def g15 (I : Inp F) (c : Dev nD) : Slot F := (k0_pay112 (wv1372 I c))
/-- What transfer 16 carries. -/
def g16 (I : Inp F) (c : Dev nD) : Slot F := (g12 I (prv c))
/-- The body's value 1415. -/
def wv1415 (I : Inp F) (c : Dev nD) : Vec F S1x1x512x256 .bf16 := (g12 I (prv c))
/-- What store 9 into the result writes. -/
def u9 (I : Inp F) (c : Dev nD) : Vec F S512x256 .f32 := (k0_pay113 (wv1415 I c))
/-- What transfer 17 carries. -/
def g17 (I : Inp F) (c : Dev nD) : Slot F := (g13 I (prv c))
/-- The body's value 1445. -/
def wv1445 (I : Inp F) (c : Dev nD) : BitVec 32 := Scalar.addi (wv2 I c) 0#32
/-- A constant of the body. -/
def wc8_i32_1205 (I : Inp F) (c : Dev nD) : BitVec 32 := 8#32
/-- The body's value 1448. -/
def wv1448 (I : Inp F) (c : Dev nD) : Vec F S1x1x512x256 .bf16 := (g13 I (prv c))
/-- What store 10 into the result writes. -/
def u10 (I : Inp F) (c : Dev nD) : Vec F S512x256 .f32 := (k0_pay114 (wv1448 I c))
/-- What transfer 18 carries. -/
def g18 (I : Inp F) (c : Dev nD) : Slot F := (g14 I (nxt c))
/-- The body's value 1481. -/
def wv1481 (I : Inp F) (c : Dev nD) : Vec F S1x1x512x256 .bf16 := (g14 I (nxt c))
/-- What store 11 into the result writes. -/
def u11 (I : Inp F) (c : Dev nD) : Vec F S512x256 .f32 := (k0_pay115 (wv1481 I c))
/-- What transfer 19 carries. -/
def g19 (I : Inp F) (c : Dev nD) : Slot F := (g15 I (nxt c))
/-- The body's value 1511. -/
def wv1511 (I : Inp F) (c : Dev nD) : BitVec 32 := Scalar.addi (wv2 I c) 0#32
/-- The body's value 1512. -/
def wv1512 (I : Inp F) (c : Dev nD) : BitVec 32 := Scalar.addi (wv1511 I c) 8#32
/-- The body's value 1513. -/
def wv1513 (I : Inp F) (c : Dev nD) : BitVec 32 := Scalar.remsi (wv1512 I c) 4#32
/-- The body's value 1514. -/
def wv1514 (I : Inp F) (c : Dev nD) : Vec F S1x1x512x256 .bf16 := (g15 I (nxt c))
/-- What store 12 into the result writes. -/
def u12 (I : Inp F) (c : Dev nD) : Vec F S512x256 .f32 := (k0_pay116 (wv1514 I c))
/-- What transfer 20 carries. -/
def g20 (I : Inp F) (c : Dev nD) : Slot F := (g16 I (prv c))
/-- The body's value 1547. -/
def wv1547 (I : Inp F) (c : Dev nD) : Vec F S1x1x512x256 .bf16 := (g16 I (prv c))
/-- What store 13 into the result writes. -/
def u13 (I : Inp F) (c : Dev nD) : Vec F S512x256 .f32 := (k0_pay117 (wv1547 I c))
/-- What transfer 21 carries. -/
def g21 (I : Inp F) (c : Dev nD) : Slot F := (g17 I (prv c))
/-- The body's value 1580. -/
def wv1580 (I : Inp F) (c : Dev nD) : Vec F S1x1x512x256 .bf16 := (g17 I (prv c))
/-- The body's value 1582. -/
def wv1582 (I : Inp F) (c : Dev nD) : FVec F S512x256 .f32 := k0_pay118 (wv1580 I c)
/-- The body's value 1577. -/
def wv1577 (I : Inp F) (c : Dev nD) : BitVec 32 := Scalar.addi (wv2 I c) 4294967295#32
/-- The body's value 1578. -/
def wv1578 (I : Inp F) (c : Dev nD) : BitVec 32 := Scalar.addi (wv1577 I c) 8#32
/-- The body's value 1579. -/
def wv1579 (I : Inp F) (c : Dev nD) : BitVec 32 := Scalar.remsi (wv1578 I c) 4#32
/-- The body's value 1583. -/
def wv1583 (I : Inp F) (c : Dev nD) : BitVec 32 := Scalar.muli (wv1579 I c) 512#32
/-- What store 14 into the result writes. -/
def u14 (I : Inp F) (c : Dev nD) : Vec F S512x256 .f32 := (wv1582 I c)
/-- What transfer 22 carries. -/
def g22 (I : Inp F) (c : Dev nD) : Slot F := (g18 I (nxt c))
/-- The body's value 1613. -/
def wv1613 (I : Inp F) (c : Dev nD) : Vec F S1x1x512x256 .bf16 := (g18 I (nxt c))
/-- What store 15 into the result writes. -/
def u15 (I : Inp F) (c : Dev nD) : Vec F S512x256 .f32 := (k0_pay119 (wv1613 I c))
/-- A constant of the body. -/
def wc1_i32_1484 (I : Inp F) (c : Dev nD) : BitVec 32 := 1#32
/-- What transfer 23 carries. -/
def g23 (I : Inp F) (c : Dev nD) : Slot F := (g19 I (nxt c))
/-- The body's value 1646. -/
def wv1646 (I : Inp F) (c : Dev nD) : Vec F S1x1x512x256 .bf16 := (g19 I (nxt c))
/-- What store 16 into the result writes. -/
def u16 (I : Inp F) (c : Dev nD) : Vec F S512x256 .f32 := (k0_pay120 (wv1646 I c))
/-- The body's value 1669. -/
def wv1669 (I : Inp F) (c : Dev nD) : Vec F S1x1x512x256 .bf16 := (g20 I (prv c))
/-- What store 17 into the result writes. -/
def u17 (I : Inp F) (c : Dev nD) : Vec F S512x256 .f32 := (k0_pay121 (wv1669 I c))
/-- The body's value 1692. -/
def wv1692 (I : Inp F) (c : Dev nD) : Vec F S1x1x512x256 .bf16 := (g21 I (prv c))
/-- The body's value 1694. -/
def wv1694 (I : Inp F) (c : Dev nD) : FVec F S512x256 .f32 := k0_pay122 (wv1692 I c)
/-- What store 18 into the result writes. -/
def u18 (I : Inp F) (c : Dev nD) : Vec F S512x256 .f32 := (wv1694 I c)
/-- The body's value 1715. -/
def wv1715 (I : Inp F) (c : Dev nD) : Vec F S1x1x512x256 .bf16 := (g22 I (nxt c))
/-- The body's value 1717. -/
def wv1717 (I : Inp F) (c : Dev nD) : FVec F S512x256 .f32 := k0_pay123 (wv1715 I c)
/-- The body's value 1712. -/
def wv1712 (I : Inp F) (c : Dev nD) : BitVec 32 := Scalar.addi (wv2 I c) 2#32
/-- The body's value 1713. -/
def wv1713 (I : Inp F) (c : Dev nD) : BitVec 32 := Scalar.addi (wv1712 I c) 8#32
/-- The body's value 1714. -/
def wv1714 (I : Inp F) (c : Dev nD) : BitVec 32 := Scalar.remsi (wv1713 I c) 4#32
/-- The body's value 1718. -/
def wv1718 (I : Inp F) (c : Dev nD) : BitVec 32 := Scalar.muli (wv1714 I c) 512#32
/-- What store 19 into the result writes. -/
def u19 (I : Inp F) (c : Dev nD) : Vec F S512x256 .f32 := (wv1717 I c)
/-- The body's value 1738. -/
def wv1738 (I : Inp F) (c : Dev nD) : Vec F S1x1x512x256 .bf16 := (g23 I (nxt c))
/-- The body's value 1735. -/
def wv1735 (I : Inp F) (c : Dev nD) : BitVec 32 := Scalar.addi (wv2 I c) 2#32
/-- The body's value 1736. -/
def wv1736 (I : Inp F) (c : Dev nD) : BitVec 32 := Scalar.addi (wv1735 I c) 8#32
/-- The body's value 1737. -/
def wv1737 (I : Inp F) (c : Dev nD) : BitVec 32 := Scalar.remsi (wv1736 I c) 4#32
/-- The body's value 1740. -/
def wv1740 (I : Inp F) (c : Dev nD) : FVec F S512x256 .f32 := k0_pay124 (wv1738 I c)
/-- What store 20 into the result writes. -/
def u20 (I : Inp F) (c : Dev nD) : Vec F S512x256 .f32 := (wv1740 I c)

/-- What each transfer carries, by its sender. -/
def svI (I : Inp F) : Sent F := fun i c => ![g0 I c, g1 I c, g2 I c, g3 I c, g4 I c, g5 I c, g6 I c, g7 I c, g8 I c, g9 I c, g10 I c, g11 I c, g12 I c, g13 I c, g14 I c, g15 I c, g16 I c, g17 I c, g18 I c, g19 I c, g20 I c, g21 I c, g22 I c, g23 I c] i

/-! ## The result buffer after each store, and the expert scratch -/

/-- The result's blocks after 0 stores. -/
def o0 (I : Inp F) (c : Dev nD) (σ : OBlk F) : OBlk F := σ
/-- The result's blocks after 1 stores. -/
def o1 (I : Inp F) (c : Dev nD) (σ : OBlk F) : OBlk F := setW (o0 I c σ) 0 (u1 I c)
/-- The result's blocks after 2 stores. -/
def o2 (I : Inp F) (c : Dev nD) (σ : OBlk F) : OBlk F := setW (o1 I c σ) 3 (u2 I c)
/-- The result's blocks after 3 stores. -/
def o3 (I : Inp F) (c : Dev nD) (σ : OBlk F) : OBlk F := setW (o2 I c σ) 1 (u3 I c)
/-- The result's blocks after 4 stores. -/
def o4 (I : Inp F) (c : Dev nD) (σ : OBlk F) : OBlk F := setW (o3 I c σ) 2 (u4 I c)
/-- The result's blocks after 5 stores. -/
def o5 (I : Inp F) (c : Dev nD) (σ : OBlk F) : OBlk F := setO (o4 I c σ) 1 0 (u5 I c)
/-- The result's blocks after 6 stores. -/
def o6 (I : Inp F) (c : Dev nD) (σ : OBlk F) : OBlk F := setO (o5 I c σ) 1 1 (u6 I c)
/-- The result's blocks after 7 stores. -/
def o7 (I : Inp F) (c : Dev nD) (σ : OBlk F) : OBlk F := setO (o6 I c σ) 3 2 (u7 I c)
/-- The result's blocks after 8 stores. -/
def o8 (I : Inp F) (c : Dev nD) (σ : OBlk F) : OBlk F := setO (o7 I c σ) 3 3 (u8 I c)
/-- The result's blocks after 9 stores. -/
def o9 (I : Inp F) (c : Dev nD) (σ : OBlk F) : OBlk F := setO (o8 I c σ) 0 0 (u9 I c)
/-- The result's blocks after 10 stores. -/
def o10 (I : Inp F) (c : Dev nD) (σ : OBlk F) : OBlk F := setO (o9 I c σ) 0 1 (u10 I c)
/-- The result's blocks after 11 stores. -/
def o11 (I : Inp F) (c : Dev nD) (σ : OBlk F) : OBlk F := setO (o10 I c σ) 0 2 (u11 I c)
/-- The result's blocks after 12 stores. -/
def o12 (I : Inp F) (c : Dev nD) (σ : OBlk F) : OBlk F := setO (o11 I c σ) 0 3 (u12 I c)
/-- The result's blocks after 13 stores. -/
def o13 (I : Inp F) (c : Dev nD) (σ : OBlk F) : OBlk F := setO (o12 I c σ) 3 0 (u13 I c)
/-- The result's blocks after 14 stores. -/
def o14 (I : Inp F) (c : Dev nD) (σ : OBlk F) : OBlk F := setO (o13 I c σ) 3 1 (u14 I c)
/-- The result's blocks after 15 stores. -/
def o15 (I : Inp F) (c : Dev nD) (σ : OBlk F) : OBlk F := setO (o14 I c σ) 1 2 (u15 I c)
/-- The result's blocks after 16 stores. -/
def o16 (I : Inp F) (c : Dev nD) (σ : OBlk F) : OBlk F := setO (o15 I c σ) 1 3 (u16 I c)
/-- The result's blocks after 17 stores. -/
def o17 (I : Inp F) (c : Dev nD) (σ : OBlk F) : OBlk F := setO (o16 I c σ) 2 0 (u17 I c)
/-- The result's blocks after 18 stores. -/
def o18 (I : Inp F) (c : Dev nD) (σ : OBlk F) : OBlk F := setO (o17 I c σ) 2 1 (u18 I c)
/-- The result's blocks after 19 stores. -/
def o19 (I : Inp F) (c : Dev nD) (σ : OBlk F) : OBlk F := setO (o18 I c σ) 2 2 (u19 I c)
/-- The result's blocks after 20 stores. -/
def o20 (I : Inp F) (c : Dev nD) (σ : OBlk F) : OBlk F := setO (o19 I c σ) 2 3 (u20 I c)
/-- The experts' scratch after 0 stores. -/
def x0 (I : Inp F) (c : Dev nD) (ε : EBlk F) : EBlk F := ε
/-- The experts' scratch after 1 stores. -/
def x1 (I : Inp F) (c : Dev nD) (ε : EBlk F) : EBlk F := setE (x0 I c ε) 0 (b0 I c)
/-- The experts' scratch after 2 stores. -/
def x2 (I : Inp F) (c : Dev nD) (ε : EBlk F) : EBlk F := setE (x1 I c ε) 1 (b1 I c)
/-- The experts' scratch after 3 stores. -/
def x3 (I : Inp F) (c : Dev nD) (ε : EBlk F) : EBlk F := setE (x2 I c ε) 2 (b2 I c)
/-- The experts' scratch after 4 stores. -/
def x4 (I : Inp F) (c : Dev nD) (ε : EBlk F) : EBlk F := setE (x3 I c ε) 3 (b3 I c)
/-- The experts' scratch after 5 stores. -/
def x5 (I : Inp F) (c : Dev nD) (ε : EBlk F) : EBlk F := setE (x4 I c ε) 4 (b4 I c)
/-- The experts' scratch after 6 stores. -/
def x6 (I : Inp F) (c : Dev nD) (ε : EBlk F) : EBlk F := setE (x5 I c ε) 5 (b5 I c)
/-- The experts' scratch after 7 stores. -/
def x7 (I : Inp F) (c : Dev nD) (ε : EBlk F) : EBlk F := setE (x6 I c ε) 6 (b6 I c)
/-- The experts' scratch after 8 stores. -/
def x8 (I : Inp F) (c : Dev nD) (ε : EBlk F) : EBlk F := setE (x7 I c ε) 7 (b7 I c)

/-- The program's end, in the proof mode. -/
theorem r_end {c : Dev nD} {α : Type} {Q : α → sProp (MT nD τ sig Unit (Elt F) ℕ UU ℕ)} {a b : α} :
    iprop(⌜a = b⌝ ∗ Q b) ⊢ WP (F := F) c (.ret a) Q := by
  iintro ⟨%h, H⟩
  iapply (r_ret h (BI.Entails.refl _)); iexact H

/-- One program after another. -/
theorem r_bind {c : Dev nD} {α β : Type} {Q : β → sProp (MT nD τ sig Unit (Elt F) ℕ UU ℕ)} {p : Prog (TpuEff nD τ sig (Elt F) Λ₀ .tc) α}
    {f : α → Prog (TpuEff nD τ sig (Elt F) Λ₀ .tc) β} : WP (F := F) c p (fun x => WP c (f x) Q) ⊢ WP c (p >>= f) Q := by
  exact Entails.of_eq (wp_bind _ _ _ p f Q).symm

end Cert.MoeProof

end
-- ==== Proof.Part0.lean ====
/-
# The handshake

The first part of the body: a signal to each neighbour, which hands it this device's slots it sends into, and the wait
for both neighbours' signals, which brings theirs.
-/
module

public import proofs.«01_k».proof.Proof.Vals

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Where the two signals go -/

/-- The first barrier signal goes to the previous device. -/
theorem sig1 (c : Dev nD) : (⟨k0_dev1 c, k0_dev1_lt c⟩ : Dev nD) = prv c := by revert c; decide
/-- The second barrier signal goes to the next device. -/
theorem sig2 (c : Dev nD) : (⟨k0_dev2 c, k0_dev2_lt c⟩ : Dev nD) = nxt c := by revert c; decide

variable (I : Inp F) (K : Dev nD × Fin 49 → ℕ) (c : Dev nD) (σ : OBlk F) (ε : EBlk F)
variable (h0 : iM0.IsWhole) (h1 : iM1.IsWhole) (h2 : iM2.IsWhole) (h3 : iM3.IsWhole) (h4 : oM.IsWhole) (h5 : cM.IsWhole) (h6 : gM.IsWhole) (h7 : eM.IsWhole)

/-- What a device holds as it enters the body. -/
def Enter : sProp 𝕄 :=
  iprop(levAts L lv ∗ recs (svI I) K ∗ inP I c ∗ outP c σ ∗ ewbP c ε ∗ (∃ W : Waits sig Unit, owes (c : Thread nD τ) (O₀ c) W)
    ∗ atPos ER (barCell c) 0 ∅ 0 ∗ cred (tallyAt (barCell c) () 2) ∗ dutyTok ER (barCell (prv c)) 0 true ∗ dutyTok ER (barCell (nxt c)) 0 false
    ∗ (bigSep Finset.univ fun i : Fin 24 => iprop(∃ X : Slot F, own5 c i fullShare X))
    ∗ (bigSep Finset.univ fun i : Fin 24 => tok c i)
    ∗ (bigSep Finset.univ fun j : Fin 16 => iprop(∃ X : Slot F, own6 c j fullShare X)))

omit [FloatOps F] in
/-- A device's slots, dealt to the neighbours that send into them. -/
theorem slots_dealt : (bigSep Finset.univ fun i : Fin 24 => iprop(∃ X : Slot F, own5 c i fullShare X) : sProp 𝕄)
    ⊢ iprop(barPay true (prv c) ∗ barPay false (nxt c)) := by
  rw [BI.bigSep_filter_split Finset.univ (fun i : Fin 24 => fwd i = true)]
  simp only [Bool.not_eq_true]
  unfold barPay
  refine BI.sep_mono (BI.bigSep_mono fun i hi => ?_) (BI.bigSep_mono fun i hi => ?_)
  · rw [show nbr i (prv c) = c from by unfold nbr; rw [if_pos (Finset.mem_filter.mp hi).2, nxt_prv]]; exact BI.Entails.refl _
  · rw [show nbr i (nxt c) = c from by unfold nbr; rw [if_neg (by rw [(Finset.mem_filter.mp hi).2]; decide), prv_nxt]]; exact BI.Entails.refl _

/-- The state after the handshake. -/
theorem St_zero : iprop(levAts L lv ∗ recs (svI I) K ∗ inP I c ∗ outP c σ ∗ ewbP c ε ∗ (∃ W : Waits sig Unit, owes (c : Thread nD τ) (Oq c 0) W)
    ∗ (bigSep Finset.univ fun i : Fin 24 => tok c i) ∗ (bigSep Finset.univ fun i : Fin 24 => iprop(∃ X : Slot F, own5 (nbr i c) i fullShare X))
    ∗ (bigSep Finset.univ fun j : Fin 16 => iprop(∃ X : Slot F, own6 c j fullShare X))) ⊢ (St (svI I) I K c 0 0 0 (o0 I c σ) (x0 I c ε) : sProp 𝕄) := by
  unfold St Pend Stg Done o0 x0
  rw [Finset.filter_true_of_mem (fun _ _ => Nat.zero_le _), Finset.filter_true_of_mem (fun _ _ => Nat.zero_le _), Finset.filter_false_of_mem (fun _ _ => Nat.not_lt_zero _),
    bigSep_sep', BI.bigSep_empty]
  iintro ⟨H1, H2, H3, H4, H5, H6, H7, H8, H9⟩
  isplitl [H1]; · iexact H1
  isplitl [H2]; · iexact H2
  isplitl [H3]; · iexact H3
  isplitl [H4]; · iexact H4
  isplitl [H5]; · iexact H5
  isplitl [H6 H7 H8]
  · isplitl [H6]; · iexact H6
    isplitl [H7] <;> iassumption
  isplitl [H9]; · iexact H9
  iempintro

/-- Part 1 of the body. -/
theorem p1 {Q} : Enter I K c σ ε ⊢
    iprop((St (svI I) I K c 0 0 0 (o0 I c σ) (x0 I c ε) -∗ semVal (barCell c) 0 -∗ Q ⟨c, wv2 I c, wv4 I c, wv6 I c, wv15 I c, wv18 I c, wv30 I c⟩)
      -∗ WP c (k0_part1 (F := F) iM0 h0 iM1 h1 iM2 h2 iM3 h3 oM h4 cM h5 gM h6 eM h7 cc0_scratch3 cc0_scratch4) Q) := by
  rw [k0_part1_eq_skeleton]
  unfold k0_part1_skel WP
  simp only [semSignalWord, semWaitWord, Prog.lift, Prog.bind_op, Prog.bind_ret, Prog.pure_eq_ret, wp_deviceId]
  unfold Enter
  iintro ⟨#HL, #HR, HI, Ho, He, ⟨%W, HO⟩, Hat, Hc, Ht1, Ht2, H5, Htok, H6⟩ Hk
  ihave H5 := (slots_dealt (F := F) c) $$ H5
  icases H5 with ⟨Ha, Hb⟩
  simp only [sig1 c, sig2 c]
  iapply (Rounds.wp_signal 𝒱₀ ER (Rd (svI I)) (c : Thread nD τ) none (dst := (prv c : Thread nD τ)) (κ := K (prv c, 0))
      (d := true) (by rw [duties_bar]; exact Finset.mem_univ _) ((amount_bar (svI I) (prv c) true).trans (by decide)) () (O₁ c) rfl)
    $$ [HO Ht1 Ha]
  · isplitr; · iapply (recs_inv (svI I) K (prv c, 0) (kcell_bar (prv c))); iexact HR
    isplitl [HO]; · iexact HO
    isplitl [Ht1]; · iexact Ht1
    isplitl [Ha]; · rw [payload_bar]; iexact Ha
    iapply (recs_reached (svI I) K (prv c, 0) (kcell_bar (prv c))); iexact HR
  iintro HO
  unfold O₁
  iapply (Rounds.wp_signal 𝒱₀ ER (Rd (svI I)) (c : Thread nD τ) none (dst := (nxt c : Thread nD τ)) (κ := K (nxt c, 0))
      (d := false) (by rw [duties_bar]; exact Finset.mem_univ _) ((amount_bar (svI I) (nxt c) false).trans (by decide)) () (Oq c 0) rfl)
    $$ [HO Ht2 Hb]
  · isplitr; · iapply (recs_inv (svI I) K (nxt c, 0) (kcell_bar (nxt c))); iexact HR
    isplitl [HO]; · iexact HO
    isplitl [Ht2]; · iexact Ht2
    isplitl [Hb]; · rw [payload_bar]; iexact Hb
    iapply (recs_reached (svI I) K (nxt c, 0) (kcell_bar (nxt c))); iexact HR
  iintro HO
  iapply (Rounds.wp_wait_rest_token 𝒱₀ ER (Rd (svI I)) (c : Thread nD τ) none (κ := K (c, 0))
      (wpE_semWait_eq 𝒱₀ (c : Thread nD τ) none Set.univ) (Set.mem_univ _) () (O := Oq c 0) (W := W) (R := 0) (m := 0) (T := ∅)
      (by rw [expect_bar]; decide)) $$ [Hc HO Hat]
  · isplitr; · iapply (recs_inv (svI I) K (c, 0) (kcell_bar c)); iexact HR
    isplitl [Hc]; · iexact Hc
    isplitl [HO]; · iexact HO
    isplitr; · iapply (mayWait_bar c); iexact HL
    iexact Hat
  iintro ⟨HO, Hat, -, Hpay⟩
  ihave Hp := (Entails.of_eq (rest_bar (svI I) c)) $$ Hpay
  imod (Rounds.cell_close ER (Rd (svI I)) (Set.mem_univ _) (fun h => h) (R := 0 + 1) (duties_later (svI I) _)) $$ [Hat] with Hz
  · isplitr; · iapply (recs_inv (svI I) K (c, 0) (kcell_bar c)); iexact HR
    iexact Hat
  ihave HS := (St_zero I K c σ ε) $$ [HI Ho He HO Htok Hp H6]
  · isplitr; · iexact HL
    isplitr; · iexact HR
    isplitl [HI]; · iexact HI
    isplitl [Ho]; · iexact Ho
    isplitl [He]; · iexact He
    isplitl [HO]; · iexists _; iexact HO
    isplitl [Htok]; · iexact Htok
    isplitl [Hp]; · iexact Hp
    iexact H6
  iapply (r_ld0 (svI I) I K) $$ HS; iintro HS
  iapply (r_ld1 (svI I) I K) $$ HS; iintro HS
  iapply (r_end (b := ⟨c, wv2 I c, wv4 I c, wv6 I c, wv15 I c, wv18 I c, wv30 I c⟩))
  isplitr; · ipureintro; rfl
  iapply Hk $$ HS Hz

end Cert.MoeProof

end
-- ==== Proof.Parts1.lean ====
/-
# Parts 2 to 7 of the body

Each part takes a device from its state before to its state after, with what is in flight beside it.
-/
module

public import proofs.«01_k».proof.Proof.Vals

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Inp F) (K : Dev nD × Fin 49 → ℕ) (c : Dev nD) (σ : OBlk F) (ε : EBlk F)
variable (h0 : iM0.IsWhole) (h1 : iM1.IsWhole) (h2 : iM2.IsWhole) (h3 : iM3.IsWhole) (h4 : oM.IsWhole) (h5 : cM.IsWhole) (h6 : gM.IsWhole) (h7 : eM.IsWhole)

/-- Part 2 of the body. -/
theorem p2 {Q} : iprop(St (svI I) I K c 0 0 0 (o0 I c σ) (x0 I c ε)) ⊢
    iprop((St (svI I) I K c 0 0 0 (o0 I c σ) (x1 I c ε) -∗ Q ⟨wv34 I c, wv35 I c, wv50 I c, wv51 I c, wv52 I c, wv53 I c, wv73 I c⟩)
      -∗ WP c (k0_part2 (F := F) iM0 h0 iM1 h1 iM2 h2 iM3 h3 oM h4 cM h5 gM h6 eM h7 cc0_scratch3 cc0_scratch4 c (wv2 I c) (wv18 I c) (wv30 I c)) Q) := by
  rw [k0_part2_eq_skeleton]
  unfold k0_part2_skel
  simp only [Prog.lift, Prog.bind_op, Prog.bind_ret, Prog.pure_eq_ret]
  iintro HS Hk
  iapply (r_ld2 (svI I) I K) $$ HS; iintro HS
  iapply (r_ld3 (svI I) I K) $$ HS; iintro HS
  iapply (r_ldE_any (svI I) I K) $$ HS; iintro %_ HS
  iapply (r_stE (svI I) I K 0 ![0, 0, 0] rfl (b0 I c) rfl (x1 I c ε) rfl) $$ HS; iintro HS
  iapply (r_end (b := ⟨wv34 I c, wv35 I c, wv50 I c, wv51 I c, wv52 I c, wv53 I c, wv73 I c⟩))
  isplitr; · ipureintro; rfl
  iapply Hk $$ HS

/-- Part 3 of the body. -/
theorem p3 {Q} : iprop(St (svI I) I K c 0 0 0 (o0 I c σ) (x1 I c ε)) ⊢
    iprop((St (svI I) I K c 0 0 0 (o0 I c σ) (x3 I c ε) -∗ Q ⟨wv101 I c, wc8_i32_52 I c⟩)
      -∗ WP c (k0_part3 (F := F) iM0 h0 iM1 h1 iM2 h2 iM3 h3 oM h4 cM h5 gM h6 eM h7 cc0_scratch3 cc0_scratch4 (wv2 I c) (wv34 I c) (wv35 I c) (wv50 I c) (wv51 I c) (wv52 I c) (wv53 I c) (wv73 I c)) Q) := by
  rw [k0_part3_eq_skeleton]
  unfold k0_part3_skel
  simp only [Prog.lift, Prog.bind_op, Prog.bind_ret, Prog.pure_eq_ret]
  iintro HS Hk
  iapply (r_ldE (svI I) I K 0 ![0, 0, 0] rfl (wv74 I c) rfl) $$ HS; iintro HS
  iapply (r_ld3 (svI I) I K) $$ HS; iintro HS
  iapply (r_ldE_any (svI I) I K) $$ HS; iintro %_ HS
  iapply (r_stE (svI I) I K 1 ![1, 0, 0] rfl (b1 I c) rfl (x2 I c ε) rfl) $$ HS; iintro HS
  iapply (r_ldE (svI I) I K 1 ![1, 0, 0] rfl (wv98 I c) rfl) $$ HS; iintro HS
  iapply (r_ld3 (svI I) I K) $$ HS; iintro HS
  iapply (r_ldE_any (svI I) I K) $$ HS; iintro %_ HS
  iapply (r_stE (svI I) I K 2 ![2, 0, 0] rfl (b2 I c) rfl (x3 I c ε) rfl) $$ HS; iintro HS
  iapply (r_end (b := ⟨wv101 I c, wc8_i32_52 I c⟩))
  isplitr; · ipureintro; rfl
  iapply Hk $$ HS

/-- Part 4 of the body. -/
theorem p4 {Q} : iprop(St (svI I) I K c 0 0 0 (o0 I c σ) (x3 I c ε)) ⊢
    iprop((St (svI I) I K c 0 0 0 (o0 I c σ) (x4 I c ε) -∗ Q ⟨wv125 I c, wv145 I c, wv146 I c⟩)
      -∗ WP c (k0_part4 (F := F) iM0 h0 iM1 h1 iM2 h2 iM3 h3 oM h4 cM h5 gM h6 eM h7 cc0_scratch3 cc0_scratch4 (wv2 I c) (wv34 I c) (wv35 I c) (wv50 I c) (wv51 I c) (wv52 I c) (wv101 I c) (wc8_i32_52 I c)) Q) := by
  rw [k0_part4_eq_skeleton]
  unfold k0_part4_skel
  simp only [Prog.lift, Prog.bind_op, Prog.bind_ret, Prog.pure_eq_ret]
  iintro HS Hk
  iapply (r_ldE (svI I) I K 2 ![2, 0, 0] rfl (wv122 I c) rfl) $$ HS; iintro HS
  iapply (r_ld3 (svI I) I K) $$ HS; iintro HS
  iapply (r_ldE_any (svI I) I K) $$ HS; iintro %_ HS
  iapply (r_stE (svI I) I K 3 ![3, 0, 0] rfl (b3 I c) rfl (x4 I c ε) rfl) $$ HS; iintro HS
  iapply (r_ldE (svI I) I K 3 ![3, 0, 0] rfl (wv146 I c) rfl) $$ HS; iintro HS
  iapply (r_end (b := ⟨wv125 I c, wv145 I c, wv146 I c⟩))
  isplitr; · ipureintro; rfl
  iapply Hk $$ HS

/-- Part 5 of the body. -/
theorem p5 {Q} : iprop(St (svI I) I K c 0 0 0 (o0 I c σ) (x4 I c ε)) ⊢
    iprop((St (svI I) I K c 0 0 0 (o0 I c σ) (x6 I c ε) -∗ Q ⟨wv173 I c, wv181 I c⟩)
      -∗ WP c (k0_part5 (F := F) iM0 h0 iM1 h1 iM2 h2 iM3 h3 oM h4 cM h5 gM h6 eM h7 cc0_scratch3 cc0_scratch4 (wv2 I c) (wv34 I c) (wv35 I c) (wv50 I c) (wv51 I c) (wv52 I c) (wv125 I c) (wv145 I c) (wv146 I c)) Q) := by
  rw [k0_part5_eq_skeleton]
  unfold k0_part5_skel
  simp only [Prog.lift, Prog.bind_op, Prog.bind_ret, Prog.pure_eq_ret]
  iintro HS Hk
  iapply (r_ld3 (svI I) I K) $$ HS; iintro HS
  iapply (r_ldE_any (svI I) I K) $$ HS; iintro %_ HS
  iapply (r_stE (svI I) I K 4 ![4, 0, 0] rfl (b4 I c) rfl (x5 I c ε) rfl) $$ HS; iintro HS
  iapply (r_ldE (svI I) I K 4 ![4, 0, 0] rfl (wv170 I c) rfl) $$ HS; iintro HS
  iapply (r_ld3 (svI I) I K) $$ HS; iintro HS
  iapply (r_ldE_any (svI I) I K) $$ HS; iintro %_ HS
  iapply (r_stE (svI I) I K 5 ![5, 0, 0] rfl (b5 I c) rfl (x6 I c ε) rfl) $$ HS; iintro HS
  iapply (r_end (b := ⟨wv173 I c, wv181 I c⟩))
  isplitr; · ipureintro; rfl
  iapply Hk $$ HS

/-- Part 6 of the body. -/
theorem p6 {Q} : iprop(St (svI I) I K c 0 0 0 (o0 I c σ) (x6 I c ε)) ⊢
    iprop((St (svI I) I K c 0 0 0 (o0 I c σ) (x7 I c ε) -∗ Q ⟨wv197 I c, wv220 I c⟩)
      -∗ WP c (k0_part6 (F := F) iM0 h0 iM1 h1 iM2 h2 iM3 h3 oM h4 cM h5 gM h6 eM h7 cc0_scratch3 cc0_scratch4 (wv2 I c) (wv34 I c) (wv35 I c) (wv50 I c) (wv51 I c) (wv52 I c) (wv173 I c) (wv181 I c)) Q) := by
  rw [k0_part6_eq_skeleton]
  unfold k0_part6_skel
  simp only [Prog.lift, Prog.bind_op, Prog.bind_ret, Prog.pure_eq_ret]
  iintro HS Hk
  iapply (r_ldE (svI I) I K 5 ![5, 0, 0] rfl (wv194 I c) rfl) $$ HS; iintro HS
  iapply (r_ld3 (svI I) I K) $$ HS; iintro HS
  iapply (r_ldE_any (svI I) I K) $$ HS; iintro %_ HS
  iapply (r_stE (svI I) I K 6 ![6, 0, 0] rfl (b6 I c) rfl (x7 I c ε) rfl) $$ HS; iintro HS
  iapply (r_ldE (svI I) I K 6 ![6, 0, 0] rfl (wv218 I c) rfl) $$ HS; iintro HS
  iapply (r_end (b := ⟨wv197 I c, wv220 I c⟩))
  isplitr; · ipureintro; rfl
  iapply Hk $$ HS

/-- Part 7 of the body. -/
theorem p7 {Q} : iprop(St (svI I) I K c 0 0 0 (o0 I c σ) (x7 I c ε)) ⊢
    iprop((St (svI I) I K c 0 0 0 (o1 I c σ) (x8 I c ε) -∗ Q (wv255 I c))
      -∗ WP c (k0_part7 (F := F) iM0 h0 iM1 h1 iM2 h2 iM3 h3 oM h4 cM h5 gM h6 eM h7 cc0_scratch3 cc0_scratch4 c (wv2 I c) (wv15 I c) (wv34 I c) (wv35 I c) (wv50 I c) (wv51 I c) (wv52 I c) (wv197 I c) (wv220 I c)) Q) := by
  rw [k0_part7_eq_skeleton]
  unfold k0_part7_skel
  simp only [Prog.lift, Prog.bind_op, Prog.bind_ret, Prog.pure_eq_ret]
  iintro HS Hk
  iapply (r_ld3 (svI I) I K) $$ HS; iintro HS
  iapply (r_ldE_any (svI I) I K) $$ HS; iintro %_ HS
  iapply (r_stE (svI I) I K 7 ![7, 0, 0] rfl (b7 I c) rfl (x8 I c ε) rfl) $$ HS; iintro HS
  iapply (r_ldE (svI I) I K 7 ![7, 0, 0] rfl (wv242 I c) rfl) $$ HS; iintro HS
  iapply (r_ldO_any (svI I) I K) $$ HS; iintro %_ HS
  iapply (r_stW (svI I) I K 0 _ (off3_0 c) (u1 I c) rfl (o1 I c σ) rfl) $$ HS; iintro HS
  iapply (r_ldO (svI I) I K 0 0 _ (off4_0 c) (wv253 I c) rfl) $$ HS; iintro HS
  iapply (r_end (b := (wv255 I c)))
  isplitr; · ipureintro; rfl
  iapply Hk $$ HS

end Cert.MoeProof

end
-- ==== Proof.Parts2.lean ====
/-
# Parts 8 to 12 of the body

Each part takes a device from its state before to its state after, with what is in flight beside it.
-/
module

public import proofs.«01_k».proof.Proof.Vals

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Inp F) (K : Dev nD × Fin 49 → ℕ) (c : Dev nD) (σ : OBlk F) (ε : EBlk F)
variable (h0 : iM0.IsWhole) (h1 : iM1.IsWhole) (h2 : iM2.IsWhole) (h3 : iM3.IsWhole) (h4 : oM.IsWhole) (h5 : cM.IsWhole) (h6 : gM.IsWhole) (h7 : eM.IsWhole)

/-- Part 8 of the body. -/
theorem p8 {Q} : iprop(St (svI I) I K c 0 0 0 (o1 I c σ) (x8 I c ε)) ⊢
    iprop((St (svI I) I K c 1 2 0 (o1 I c σ) (x8 I c ε)
        -∗ fly (F := F) c (0 : Fin 24)
        -∗ own6 c (1 : Fin 16) fullShare (g1 I c) -∗ Q (wc1_i32_162 I c))
      -∗ WP c (k0_part8 (F := F) iM0 h0 iM1 h1 iM2 h2 iM3 h3 oM h4 cM h5 gM h6 eM h7 cc0_scratch3 cc0_scratch4 c (wv2 I c) (wv6 I c) (wv255 I c)) Q) := by
  rw [k0_part8_eq_skeleton]
  unfold k0_part8_skel
  simp only [Prog.lift, Prog.bind_op, Prog.bind_ret, Prog.pure_eq_ret]
  iintro HS Hk
  iapply (r_ldG_any (svI I) I K (k := 0) 0 rfl ![0, 0, 0, 0] rfl) $$ HS; iintro %_ HS
  iapply (r_stG (svI I) I K (k := 0) 0 rfl ![0, 0, 0, 0] rfl (g0 I c) rfl 1 rfl) $$ HS; iintro HS HG_0
  iapply (r_sendG (svI I) I K (n := 0) 0 rfl (by decide) 0 rfl (g0 I c) rfl _ (dev0 c)
    ((gM.slice (Rect.unit (s := S4x4x512x256) ![0, 0, 0, 0] S1x1x512x256.size inb_S4x4x512x256_S1x1x512x256_0_0_0_0) (fun _ => rfl)).squeeze S512x256 squeezes_S1x1x512x256_S512x256) rfl
    ((cM.slice (Rect.unit (s := S4x6x512x256) ![0, 0, 0, 0] S1x1x512x256.size inb_S4x6x512x256_S1x1x512x256_0_0_0_0) (fun _ => rfl)).squeeze S512x256 squeezes_S1x1x512x256_S512x256) rfl
    (((cc0_scratch3.slice (Rect.unit (s := S4x6) ![0, 0] S1x1.size inb_S4x6_S1x1_0_0)).squeeze S_ squeezes_S1x1_S_).sem) (((cc0_scratch4.slice (Rect.unit (s := S4x6) ![0, 0] S1x1.size inb_S4x6_S1x1_0_0)).squeeze S_ squeezes_S1x1_S_).sem) rfl rfl 1 rfl) $$ [HS HG_0]
  · isplitl [HS]; · iexact HS
    iexact HG_0
  iintro HS HF_0
  iapply (r_ldO (svI I) I K 0 1 _ (off5_0 c) (wv274 I c) rfl) $$ HS; iintro HS
  iapply (r_ldG_any (svI I) I K (k := 1) 1 rfl ![1, 0, 0, 0] rfl) $$ HS; iintro %_ HS
  iapply (r_stG (svI I) I K (k := 1) 1 rfl ![1, 0, 0, 0] rfl (g1 I c) rfl 2 rfl) $$ HS; iintro HS HG_1
  iapply (r_end (b := (wc1_i32_162 I c)))
  isplitr; · ipureintro; rfl
  iapply Hk $$ HS HF_0 HG_1

/-- Part 9 of the body. -/
theorem p9 {Q} : iprop(St (svI I) I K c 1 2 0 (o1 I c σ) (x8 I c ε)
      ∗ own6 c (1 : Fin 16) fullShare (g1 I c)) ⊢
    iprop((St (svI I) I K c 2 3 0 (o1 I c σ) (x8 I c ε)
        -∗ fly (F := F) c (1 : Fin 24)
        -∗ own6 c (2 : Fin 16) fullShare (g2 I c) -∗ Q ⟨⟩)
      -∗ WP c (k0_part9 (F := F) iM0 h0 iM1 h1 iM2 h2 iM3 h3 oM h4 cM h5 gM h6 eM h7 cc0_scratch3 cc0_scratch4 c (wv2 I c) (wv4 I c) (wv6 I c) (wc1_i32_162 I c)) Q) := by
  rw [k0_part9_eq_skeleton]
  unfold k0_part9_skel
  simp only [Prog.lift, Prog.bind_op, Prog.bind_ret, Prog.pure_eq_ret]
  iintro ⟨HS, HG_1⟩ Hk
  iapply (r_sendG (svI I) I K (n := 1) 1 rfl (by decide) 1 rfl (g1 I c) rfl _ (dev1 c)
    ((gM.slice (Rect.unit (s := S4x4x512x256) ![1, 0, 0, 0] S1x1x512x256.size inb_S4x4x512x256_S1x1x512x256_1_0_0_0) (fun _ => rfl)).squeeze S512x256 squeezes_S1x1x512x256_S512x256) rfl
    ((cM.slice (Rect.unit (s := S4x6x512x256) ![1, 0, 0, 0] S1x1x512x256.size inb_S4x6x512x256_S1x1x512x256_1_0_0_0) (fun _ => rfl)).squeeze S512x256 squeezes_S1x1x512x256_S512x256) rfl
    (((cc0_scratch3.slice (Rect.unit (s := S4x6) ![1, 0] S1x1.size inb_S4x6_S1x1_1_0)).squeeze S_ squeezes_S1x1_S_).sem) (((cc0_scratch4.slice (Rect.unit (s := S4x6) ![1, 0] S1x1.size inb_S4x6_S1x1_1_0)).squeeze S_ squeezes_S1x1_S_).sem) rfl rfl 2 rfl) $$ [HS HG_1]
  · isplitl [HS]; · iexact HS
    iexact HG_1
  iintro HS HF_1
  iapply (r_ldO (svI I) I K 0 2 _ (off6_0 c) (wv295 I c) rfl) $$ HS; iintro HS
  iapply (r_ldG_any (svI I) I K (k := 2) 2 rfl ![2, 0, 0, 0] rfl) $$ HS; iintro %_ HS
  iapply (r_stG (svI I) I K (k := 2) 2 rfl ![2, 0, 0, 0] rfl (g2 I c) rfl 3 rfl) $$ HS; iintro HS HG_2
  iapply (r_end (b := ⟨⟩))
  isplitr; · ipureintro; rfl
  iapply Hk $$ HS HF_1 HG_2

/-- Part 10 of the body. -/
theorem p10 {Q} : iprop(St (svI I) I K c 2 3 0 (o1 I c σ) (x8 I c ε)
      ∗ own6 c (2 : Fin 16) fullShare (g2 I c)) ⊢
    iprop((St (svI I) I K c 4 4 0 (o1 I c σ) (x8 I c ε)
        -∗ fly (F := F) c (2 : Fin 24)
        -∗ fly (F := F) c (3 : Fin 24) -∗ Q ⟨wv335 I c, wv338 I c⟩)
      -∗ WP c (k0_part10 (F := F) iM0 h0 iM1 h1 iM2 h2 iM3 h3 oM h4 cM h5 gM h6 eM h7 cc0_scratch3 cc0_scratch4 c (wv2 I c) (wv4 I c)) Q) := by
  rw [k0_part10_eq_skeleton]
  unfold k0_part10_skel
  simp only [Prog.lift, Prog.bind_op, Prog.bind_ret, Prog.pure_eq_ret]
  iintro ⟨HS, HG_2⟩ Hk
  iapply (r_sendG (svI I) I K (n := 2) 2 rfl (by decide) 2 rfl (g2 I c) rfl _ (dev2 c)
    ((gM.slice (Rect.unit (s := S4x4x512x256) ![2, 0, 0, 0] S1x1x512x256.size inb_S4x4x512x256_S1x1x512x256_2_0_0_0) (fun _ => rfl)).squeeze S512x256 squeezes_S1x1x512x256_S512x256) rfl
    ((cM.slice (Rect.unit (s := S4x6x512x256) ![2, 0, 0, 0] S1x1x512x256.size inb_S4x6x512x256_S1x1x512x256_2_0_0_0) (fun _ => rfl)).squeeze S512x256 squeezes_S1x1x512x256_S512x256) rfl
    (((cc0_scratch3.slice (Rect.unit (s := S4x6) ![2, 0] S1x1.size inb_S4x6_S1x1_2_0)).squeeze S_ squeezes_S1x1_S_).sem) (((cc0_scratch4.slice (Rect.unit (s := S4x6) ![2, 0] S1x1.size inb_S4x6_S1x1_2_0)).squeeze S_ squeezes_S1x1_S_).sem) rfl rfl 3 rfl) $$ [HS HG_2]
  · isplitl [HS]; · iexact HS
    iexact HG_2
  iintro HS HF_2
  iapply (r_ldO (svI I) I K 0 3 _ (off7_0 c) (wv316 I c) rfl) $$ HS; iintro HS
  iapply (r_ldG_any (svI I) I K (k := 3) 3 rfl ![3, 0, 0, 0] rfl) $$ HS; iintro %_ HS
  iapply (r_stG (svI I) I K (k := 3) 3 rfl ![3, 0, 0, 0] rfl (g3 I c) rfl 4 rfl) $$ HS; iintro HS HG_3
  iapply (r_sendG (svI I) I K (n := 3) 3 rfl (by decide) 3 rfl (g3 I c) rfl _ (dev3 c)
    ((gM.slice (Rect.unit (s := S4x4x512x256) ![3, 0, 0, 0] S1x1x512x256.size inb_S4x4x512x256_S1x1x512x256_3_0_0_0) (fun _ => rfl)).squeeze S512x256 squeezes_S1x1x512x256_S512x256) rfl
    ((cM.slice (Rect.unit (s := S4x6x512x256) ![3, 0, 0, 0] S1x1x512x256.size inb_S4x6x512x256_S1x1x512x256_3_0_0_0) (fun _ => rfl)).squeeze S512x256 squeezes_S1x1x512x256_S512x256) rfl
    (((cc0_scratch3.slice (Rect.unit (s := S4x6) ![3, 0] S1x1.size inb_S4x6_S1x1_3_0)).squeeze S_ squeezes_S1x1_S_).sem) (((cc0_scratch4.slice (Rect.unit (s := S4x6) ![3, 0] S1x1.size inb_S4x6_S1x1_3_0)).squeeze S_ squeezes_S1x1_S_).sem) rfl rfl 4 rfl) $$ [HS HG_3]
  · isplitl [HS]; · iexact HS
    iexact HG_3
  iintro HS HF_3
  iapply (r_ld0 (svI I) I K) $$ HS; iintro HS
  iapply (r_end (b := ⟨wv335 I c, wv338 I c⟩))
  isplitr; · ipureintro; rfl
  iapply Hk $$ HS HF_2 HF_3

/-- Part 11 of the body. -/
theorem p11 {Q} : iprop(St (svI I) I K c 4 4 0 (o1 I c σ) (x8 I c ε)) ⊢
    iprop((St (svI I) I K c 4 4 0 (o1 I c σ) (x8 I c ε) -∗ Q ⟨wv354 I c, wv355 I c, wv370 I c, wv371 I c, wv372 I c, wv373 I c, wv379 I c, wv383 I c⟩)
      -∗ WP c (k0_part11 (F := F) iM0 h0 iM1 h1 iM2 h2 iM3 h3 oM h4 cM h5 gM h6 eM h7 cc0_scratch3 cc0_scratch4 c (wv2 I c) (wv335 I c) (wv338 I c)) Q) := by
  rw [k0_part11_eq_skeleton]
  unfold k0_part11_skel
  simp only [Prog.lift, Prog.bind_op, Prog.bind_ret, Prog.pure_eq_ret]
  iintro HS Hk
  iapply (r_ld1 (svI I) I K) $$ HS; iintro HS
  iapply (r_ld2 (svI I) I K) $$ HS; iintro HS
  iapply (r_end (b := ⟨wv354 I c, wv355 I c, wv370 I c, wv371 I c, wv372 I c, wv373 I c, wv379 I c, wv383 I c⟩))
  isplitr; · ipureintro; rfl
  iapply Hk $$ HS

/-- Part 12 of the body. -/
theorem p12 {Q} : iprop(St (svI I) I K c 4 4 0 (o1 I c σ) (x8 I c ε)) ⊢
    iprop((St (svI I) I K c 4 4 0 (o1 I c σ) (x8 I c ε) -∗ Q ⟨wv409 I c, wv423 I c, wv424 I c⟩)
      -∗ WP c (k0_part12 (F := F) iM0 h0 iM1 h1 iM2 h2 iM3 h3 oM h4 cM h5 gM h6 eM h7 cc0_scratch3 cc0_scratch4 (wv2 I c) (wv354 I c) (wv355 I c) (wv370 I c) (wv371 I c) (wv372 I c) (wv373 I c) (wv379 I c) (wv383 I c)) Q) := by
  rw [k0_part12_eq_skeleton]
  unfold k0_part12_skel
  simp only [Prog.lift, Prog.bind_op, Prog.bind_ret, Prog.pure_eq_ret]
  iintro HS Hk
  iapply (r_ldE (svI I) I K 0 ![0, 0, 0] rfl (wv388 I c) rfl) $$ HS; iintro HS
  iapply (r_ldE (svI I) I K 1 ![1, 0, 0] rfl (wv406 I c) rfl) $$ HS; iintro HS
  iapply (r_ldE (svI I) I K 2 ![2, 0, 0] rfl (wv424 I c) rfl) $$ HS; iintro HS
  iapply (r_end (b := ⟨wv409 I c, wv423 I c, wv424 I c⟩))
  isplitr; · ipureintro; rfl
  iapply Hk $$ HS

end Cert.MoeProof

end
-- ==== Proof.Parts3.lean ====
/-
# Parts 13 to 18 of the body

Each part takes a device from its state before to its state after, with what is in flight beside it.
-/
module

public import proofs.«01_k».proof.Proof.Vals

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Inp F) (K : Dev nD × Fin 49 → ℕ) (c : Dev nD) (σ : OBlk F) (ε : EBlk F)
variable (h0 : iM0.IsWhole) (h1 : iM1.IsWhole) (h2 : iM2.IsWhole) (h3 : iM3.IsWhole) (h4 : oM.IsWhole) (h5 : cM.IsWhole) (h6 : gM.IsWhole) (h7 : eM.IsWhole)

/-- Part 13 of the body. -/
theorem p13 {Q} : iprop(St (svI I) I K c 4 4 0 (o1 I c σ) (x8 I c ε)) ⊢
    iprop((St (svI I) I K c 4 4 0 (o1 I c σ) (x8 I c ε) -∗ Q ⟨wv463 I c, wv465 I c⟩)
      -∗ WP c (k0_part13 (F := F) iM0 h0 iM1 h1 iM2 h2 iM3 h3 oM h4 cM h5 gM h6 eM h7 cc0_scratch3 cc0_scratch4 (wv2 I c) (wv354 I c) (wv355 I c) (wv370 I c) (wv371 I c) (wv372 I c) (wv409 I c) (wv423 I c) (wv424 I c)) Q) := by
  rw [k0_part13_eq_skeleton]
  unfold k0_part13_skel
  simp only [Prog.lift, Prog.bind_op, Prog.bind_ret, Prog.pure_eq_ret]
  iintro HS Hk
  iapply (r_ldE (svI I) I K 3 ![3, 0, 0] rfl (wv442 I c) rfl) $$ HS; iintro HS
  iapply (r_ldE (svI I) I K 4 ![4, 0, 0] rfl (wv460 I c) rfl) $$ HS; iintro HS
  iapply (r_end (b := ⟨wv463 I c, wv465 I c⟩))
  isplitr; · ipureintro; rfl
  iapply Hk $$ HS

/-- Part 14 of the body. -/
theorem p14 {Q} : iprop(St (svI I) I K c 4 4 0 (o1 I c σ) (x8 I c ε)) ⊢
    iprop((St (svI I) I K c 4 4 0 (o1 I c σ) (x8 I c ε) -∗ Q ⟨wv499 I c, wv505 I c, wv507 I c, wcst_286 I c⟩)
      -∗ WP c (k0_part14 (F := F) iM0 h0 iM1 h1 iM2 h2 iM3 h3 oM h4 cM h5 gM h6 eM h7 cc0_scratch3 cc0_scratch4 (wv2 I c) (wv354 I c) (wv355 I c) (wv370 I c) (wv371 I c) (wv372 I c) (wv463 I c) (wv465 I c)) Q) := by
  rw [k0_part14_eq_skeleton]
  unfold k0_part14_skel
  simp only [Prog.lift, Prog.bind_op, Prog.bind_ret, Prog.pure_eq_ret]
  iintro HS Hk
  iapply (r_ldE (svI I) I K 5 ![5, 0, 0] rfl (wv478 I c) rfl) $$ HS; iintro HS
  iapply (r_ldE (svI I) I K 6 ![6, 0, 0] rfl (wv496 I c) rfl) $$ HS; iintro HS
  iapply (r_end (b := ⟨wv499 I c, wv505 I c, wv507 I c, wcst_286 I c⟩))
  isplitr; · ipureintro; rfl
  iapply Hk $$ HS

/-- Part 15 of the body. -/
theorem p15 {Q} : iprop(St (svI I) I K c 4 4 0 (o1 I c σ) (x8 I c ε)
      ∗ fly (F := F) c (0 : Fin 24)) ⊢
    iprop((St (svI I) I K c 4 4 0 (o2 I c σ) (x8 I c ε)
        -∗ half (svI I) c (0 : Fin 24) -∗ Q ⟨⟩)
      -∗ WP c (k0_part15 (F := F) iM0 h0 iM1 h1 iM2 h2 iM3 h3 oM h4 cM h5 gM h6 eM h7 cc0_scratch3 cc0_scratch4 c (wv6 I c) (wv335 I c) (wv371 I c) (wv372 I c) (wv499 I c) (wv505 I c) (wv507 I c) (wcst_286 I c)) Q) := by
  rw [k0_part15_eq_skeleton]
  unfold k0_part15_skel
  simp only [Prog.lift, Prog.bind_op, Prog.bind_ret, Prog.pure_eq_ret]
  iintro ⟨HS, HF_0⟩ Hk
  iapply (r_ldE (svI I) I K 7 ![7, 0, 0] rfl (wv514 I c) rfl) $$ HS; iintro HS
  iapply (r_ldO_any (svI I) I K) $$ HS; iintro %_ HS
  iapply (r_stW (svI I) I K 3 _ (off3_3 c) (u2 I c) rfl (o2 I c σ) rfl) $$ HS; iintro HS
  iapply (r_waitS (svI I) I K 0 (((cc0_scratch3.slice (Rect.unit (s := S4x6) ![0, 0] S1x1.size inb_S4x6_S1x1_0_0)).squeeze S_ squeezes_S1x1_S_).sem) rfl ((cM.slice (Rect.unit (s := S4x6x512x256) ![0, 0, 0, 0] S1x1x512x256.size inb_S4x6x512x256_S1x1x512x256_0_0_0_0) (fun _ => rfl)).squeeze S512x256 squeezes_S1x1x512x256_S512x256) ((gM.slice (Rect.unit (s := S4x4x512x256) ![0, 0, 0, 0] S1x1x512x256.size inb_S4x4x512x256_S1x1x512x256_0_0_0_0) (fun _ => rfl)).squeeze S512x256 squeezes_S1x1x512x256_S512x256) rfl) $$ [HS HF_0]
  · isplitl [HS]; · iexact HS
    iexact HF_0
  iintro HS HA_0
  iapply (r_end (b := ⟨⟩))
  isplitr; · ipureintro; rfl
  iapply Hk $$ HS HA_0

/-- Part 16 of the body. -/
theorem p16 {Q} : iprop(St (svI I) I K c 4 4 0 (o2 I c σ) (x8 I c ε)
      ∗ half (svI I) c (0 : Fin 24)) ⊢
    iprop((St (svI I) I K c 5 5 1 (o2 I c σ) (x8 I c ε)
        -∗ own5 c (0 : Fin 24) fullShare (g0 I (prv c))
        -∗ fly (F := F) c (4 : Fin 24) -∗ Q ⟨⟩)
      -∗ WP c (k0_part16 (F := F) iM0 h0 iM1 h1 iM2 h2 iM3 h3 oM h4 cM h5 gM h6 eM h7 cc0_scratch3 cc0_scratch4 c (wv2 I c) (wv6 I c)) Q) := by
  rw [k0_part16_eq_skeleton]
  unfold k0_part16_skel
  simp only [Prog.lift, Prog.bind_op, Prog.bind_ret, Prog.pure_eq_ret]
  iintro ⟨HS, HA_0⟩ Hk
  iapply (r_waitR (svI I) I K (n := 4) (j := 0) 0 rfl (by decide) 1 rfl (g0 I (prv c)) rfl (((cc0_scratch4.slice (Rect.unit (s := S4x6) ![0, 0] S1x1.size inb_S4x6_S1x1_0_0)).squeeze S_ squeezes_S1x1_S_).sem) rfl ((gM.slice (Rect.unit (s := S4x4x512x256) ![0, 0, 0, 0] S1x1x512x256.size inb_S4x4x512x256_S1x1x512x256_0_0_0_0) (fun _ => rfl)).squeeze S512x256 squeezes_S1x1x512x256_S512x256) ((cM.slice (Rect.unit (s := S4x6x512x256) ![0, 0, 0, 0] S1x1x512x256.size inb_S4x6x512x256_S1x1x512x256_0_0_0_0) (fun _ => rfl)).squeeze S512x256 squeezes_S1x1x512x256_S512x256) rfl) $$ [HS HA_0]
  · isplitl [HS]; · iexact HS
    iexact HA_0
  iintro HS HC_0
  iapply (r_ldC 0 fullShare (g0 I (prv c)) ![0, 0, 0, 0] rfl) $$ HC_0; iintro HC_0
  iapply (r_ldO (svI I) I K 3 0 _ (off4_3 c) (wv542 I c) rfl) $$ HS; iintro HS
  iapply (r_ldG_any (svI I) I K (k := 4) 4 rfl ![0, 1, 0, 0] rfl) $$ HS; iintro %_ HS
  iapply (r_stG (svI I) I K (k := 4) 4 rfl ![0, 1, 0, 0] rfl (g4 I c) rfl 5 rfl) $$ HS; iintro HS HG_4
  iapply (r_sendG (svI I) I K (n := 4) 4 rfl (by decide) 4 rfl (g4 I c) rfl _ (dev4 c)
    ((gM.slice (Rect.unit (s := S4x4x512x256) ![0, 1, 0, 0] S1x1x512x256.size inb_S4x4x512x256_S1x1x512x256_0_1_0_0) (fun _ => rfl)).squeeze S512x256 squeezes_S1x1x512x256_S512x256) rfl
    ((cM.slice (Rect.unit (s := S4x6x512x256) ![0, 1, 0, 0] S1x1x512x256.size inb_S4x6x512x256_S1x1x512x256_0_1_0_0) (fun _ => rfl)).squeeze S512x256 squeezes_S1x1x512x256_S512x256) rfl
    (((cc0_scratch3.slice (Rect.unit (s := S4x6) ![0, 1] S1x1.size inb_S4x6_S1x1_0_1)).squeeze S_ squeezes_S1x1_S_).sem) (((cc0_scratch4.slice (Rect.unit (s := S4x6) ![0, 1] S1x1.size inb_S4x6_S1x1_0_1)).squeeze S_ squeezes_S1x1_S_).sem) rfl rfl 5 rfl) $$ [HS HG_4]
  · isplitl [HS]; · iexact HS
    iexact HG_4
  iintro HS HF_4
  iapply (r_end (b := ⟨⟩))
  isplitr; · ipureintro; rfl
  iapply Hk $$ HS HC_0 HF_4

/-- Part 17 of the body. -/
theorem p17 {Q} : iprop(St (svI I) I K c 5 5 1 (o2 I c σ) (x8 I c ε)
      ∗ fly (F := F) c (1 : Fin 24)) ⊢
    iprop((St (svI I) I K c 5 5 2 (o2 I c σ) (x8 I c ε)
        -∗ own5 c (1 : Fin 24) fullShare (g1 I (prv c)) -∗ Q (wv584 I c))
      -∗ WP c (k0_part17 (F := F) iM0 h0 iM1 h1 iM2 h2 iM3 h3 oM h4 cM h5 gM h6 eM h7 cc0_scratch3 cc0_scratch4 c (wv2 I c) (wv6 I c)) Q) := by
  rw [k0_part17_eq_skeleton]
  unfold k0_part17_skel
  simp only [Prog.lift, Prog.bind_op, Prog.bind_ret, Prog.pure_eq_ret]
  iintro ⟨HS, HF_1⟩ Hk
  iapply (r_waitS (svI I) I K 1 (((cc0_scratch3.slice (Rect.unit (s := S4x6) ![1, 0] S1x1.size inb_S4x6_S1x1_1_0)).squeeze S_ squeezes_S1x1_S_).sem) rfl ((cM.slice (Rect.unit (s := S4x6x512x256) ![1, 0, 0, 0] S1x1x512x256.size inb_S4x6x512x256_S1x1x512x256_1_0_0_0) (fun _ => rfl)).squeeze S512x256 squeezes_S1x1x512x256_S512x256) ((gM.slice (Rect.unit (s := S4x4x512x256) ![1, 0, 0, 0] S1x1x512x256.size inb_S4x4x512x256_S1x1x512x256_1_0_0_0) (fun _ => rfl)).squeeze S512x256 squeezes_S1x1x512x256_S512x256) rfl) $$ [HS HF_1]
  · isplitl [HS]; · iexact HS
    iexact HF_1
  iintro HS HA_1
  iapply (r_waitR (svI I) I K (n := 5) (j := 1) 1 rfl (by decide) 2 rfl (g1 I (prv c)) rfl (((cc0_scratch4.slice (Rect.unit (s := S4x6) ![1, 0] S1x1.size inb_S4x6_S1x1_1_0)).squeeze S_ squeezes_S1x1_S_).sem) rfl ((gM.slice (Rect.unit (s := S4x4x512x256) ![1, 0, 0, 0] S1x1x512x256.size inb_S4x4x512x256_S1x1x512x256_1_0_0_0) (fun _ => rfl)).squeeze S512x256 squeezes_S1x1x512x256_S512x256) ((cM.slice (Rect.unit (s := S4x6x512x256) ![1, 0, 0, 0] S1x1x512x256.size inb_S4x6x512x256_S1x1x512x256_1_0_0_0) (fun _ => rfl)).squeeze S512x256 squeezes_S1x1x512x256_S512x256) rfl) $$ [HS HA_1]
  · isplitl [HS]; · iexact HS
    iexact HA_1
  iintro HS HC_1
  iapply (r_ldC 1 fullShare (g1 I (prv c)) ![1, 0, 0, 0] rfl) $$ HC_1; iintro HC_1
  iapply (r_ldO (svI I) I K 3 1 _ (off5_3 c) (wv581 I c) rfl) $$ HS; iintro HS
  iapply (r_end (b := (wv584 I c)))
  isplitr; · ipureintro; rfl
  iapply Hk $$ HS HC_1

/-- Part 18 of the body. -/
theorem p18 {Q} : iprop(St (svI I) I K c 5 5 2 (o2 I c σ) (x8 I c ε)) ⊢
    iprop((St (svI I) I K c 6 6 2 (o2 I c σ) (x8 I c ε)
        -∗ fly (F := F) c (5 : Fin 24) -∗ Q ⟨wv601 I c, wv604 I c, wv612 I c, wv615 I c⟩)
      -∗ WP c (k0_part18 (F := F) iM0 h0 iM1 h1 iM2 h2 iM3 h3 oM h4 cM h5 gM h6 eM h7 cc0_scratch3 cc0_scratch4 c (wv2 I c) (wv6 I c) (wv584 I c)) Q) := by
  rw [k0_part18_eq_skeleton]
  unfold k0_part18_skel
  simp only [Prog.lift, Prog.bind_op, Prog.bind_ret, Prog.pure_eq_ret]
  iintro HS Hk
  iapply (r_ldG_any (svI I) I K (k := 5) 5 rfl ![1, 1, 0, 0] rfl) $$ HS; iintro %_ HS
  iapply (r_stG (svI I) I K (k := 5) 5 rfl ![1, 1, 0, 0] rfl (g5 I c) rfl 6 rfl) $$ HS; iintro HS HG_5
  iapply (r_sendG (svI I) I K (n := 5) 5 rfl (by decide) 5 rfl (g5 I c) rfl _ (dev5 c)
    ((gM.slice (Rect.unit (s := S4x4x512x256) ![1, 1, 0, 0] S1x1x512x256.size inb_S4x4x512x256_S1x1x512x256_1_1_0_0) (fun _ => rfl)).squeeze S512x256 squeezes_S1x1x512x256_S512x256) rfl
    ((cM.slice (Rect.unit (s := S4x6x512x256) ![1, 1, 0, 0] S1x1x512x256.size inb_S4x6x512x256_S1x1x512x256_1_1_0_0) (fun _ => rfl)).squeeze S512x256 squeezes_S1x1x512x256_S512x256) rfl
    (((cc0_scratch3.slice (Rect.unit (s := S4x6) ![1, 1] S1x1.size inb_S4x6_S1x1_1_1)).squeeze S_ squeezes_S1x1_S_).sem) (((cc0_scratch4.slice (Rect.unit (s := S4x6) ![1, 1] S1x1.size inb_S4x6_S1x1_1_1)).squeeze S_ squeezes_S1x1_S_).sem) rfl rfl 6 rfl) $$ [HS HG_5]
  · isplitl [HS]; · iexact HS
    iexact HG_5
  iintro HS HF_5
  iapply (r_ld0 (svI I) I K) $$ HS; iintro HS
  iapply (r_ld1 (svI I) I K) $$ HS; iintro HS
  iapply (r_end (b := ⟨wv601 I c, wv604 I c, wv612 I c, wv615 I c⟩))
  isplitr; · ipureintro; rfl
  iapply Hk $$ HS HF_5

end Cert.MoeProof

end
-- ==== Proof.Parts4.lean ====
/-
# Parts 19 to 24 of the body

Each part takes a device from its state before to its state after, with what is in flight beside it.
-/
module

public import proofs.«01_k».proof.Proof.Vals

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Inp F) (K : Dev nD × Fin 49 → ℕ) (c : Dev nD) (σ : OBlk F) (ε : EBlk F)
variable (h0 : iM0.IsWhole) (h1 : iM1.IsWhole) (h2 : iM2.IsWhole) (h3 : iM3.IsWhole) (h4 : oM.IsWhole) (h5 : cM.IsWhole) (h6 : gM.IsWhole) (h7 : eM.IsWhole)

/-- Part 19 of the body. -/
theorem p19 {Q} : iprop(St (svI I) I K c 6 6 2 (o2 I c σ) (x8 I c ε)) ⊢
    iprop((St (svI I) I K c 6 6 2 (o2 I c σ) (x8 I c ε) -∗ Q ⟨wv620 I c, wv621 I c, wv636 I c, wv637 I c, wv638 I c, wv657 I c, wv659 I c⟩)
      -∗ WP c (k0_part19 (F := F) iM0 h0 iM1 h1 iM2 h2 iM3 h3 oM h4 cM h5 gM h6 eM h7 cc0_scratch3 cc0_scratch4 c (wv2 I c) (wv601 I c) (wv604 I c) (wv612 I c) (wv615 I c)) Q) := by
  rw [k0_part19_eq_skeleton]
  unfold k0_part19_skel
  simp only [Prog.lift, Prog.bind_op, Prog.bind_ret, Prog.pure_eq_ret]
  iintro HS Hk
  iapply (r_ld2 (svI I) I K) $$ HS; iintro HS
  iapply (r_ldE (svI I) I K 0 ![0, 0, 0] rfl (wv654 I c) rfl) $$ HS; iintro HS
  iapply (r_end (b := ⟨wv620 I c, wv621 I c, wv636 I c, wv637 I c, wv638 I c, wv657 I c, wv659 I c⟩))
  isplitr; · ipureintro; rfl
  iapply Hk $$ HS

/-- Part 20 of the body. -/
theorem p20 {Q} : iprop(St (svI I) I K c 6 6 2 (o2 I c σ) (x8 I c ε)) ⊢
    iprop((St (svI I) I K c 6 6 2 (o2 I c σ) (x8 I c ε) -∗ Q ⟨wv693 I c, wv699 I c, wv701 I c, wcst_443 I c⟩)
      -∗ WP c (k0_part20 (F := F) iM0 h0 iM1 h1 iM2 h2 iM3 h3 oM h4 cM h5 gM h6 eM h7 cc0_scratch3 cc0_scratch4 (wv2 I c) (wv620 I c) (wv621 I c) (wv636 I c) (wv637 I c) (wv638 I c) (wv657 I c) (wv659 I c)) Q) := by
  rw [k0_part20_eq_skeleton]
  unfold k0_part20_skel
  simp only [Prog.lift, Prog.bind_op, Prog.bind_ret, Prog.pure_eq_ret]
  iintro HS Hk
  iapply (r_ldE (svI I) I K 1 ![1, 0, 0] rfl (wv672 I c) rfl) $$ HS; iintro HS
  iapply (r_ldE (svI I) I K 2 ![2, 0, 0] rfl (wv690 I c) rfl) $$ HS; iintro HS
  iapply (r_end (b := ⟨wv693 I c, wv699 I c, wv701 I c, wcst_443 I c⟩))
  isplitr; · ipureintro; rfl
  iapply Hk $$ HS

/-- Part 21 of the body. -/
theorem p21 {Q} : iprop(St (svI I) I K c 6 6 2 (o2 I c σ) (x8 I c ε)) ⊢
    iprop((St (svI I) I K c 6 6 2 (o2 I c σ) (x8 I c ε) -∗ Q ⟨wv729 I c, wv743 I c⟩)
      -∗ WP c (k0_part21 (F := F) iM0 h0 iM1 h1 iM2 h2 iM3 h3 oM h4 cM h5 gM h6 eM h7 cc0_scratch3 cc0_scratch4 (wv2 I c) (wv620 I c) (wv621 I c) (wv636 I c) (wv637 I c) (wv638 I c) (wv693 I c) (wv699 I c) (wv701 I c) (wcst_443 I c)) Q) := by
  rw [k0_part21_eq_skeleton]
  unfold k0_part21_skel
  simp only [Prog.lift, Prog.bind_op, Prog.bind_ret, Prog.pure_eq_ret]
  iintro HS Hk
  iapply (r_ldE (svI I) I K 3 ![3, 0, 0] rfl (wv708 I c) rfl) $$ HS; iintro HS
  iapply (r_ldE (svI I) I K 4 ![4, 0, 0] rfl (wv726 I c) rfl) $$ HS; iintro HS
  iapply (r_end (b := ⟨wv729 I c, wv743 I c⟩))
  isplitr; · ipureintro; rfl
  iapply Hk $$ HS

/-- Part 22 of the body. -/
theorem p22 {Q} : iprop(St (svI I) I K c 6 6 2 (o2 I c σ) (x8 I c ε)) ⊢
    iprop((St (svI I) I K c 6 6 2 (o2 I c σ) (x8 I c ε) -∗ Q (wv783 I c))
      -∗ WP c (k0_part22 (F := F) iM0 h0 iM1 h1 iM2 h2 iM3 h3 oM h4 cM h5 gM h6 eM h7 cc0_scratch3 cc0_scratch4 (wv2 I c) (wv601 I c) (wv620 I c) (wv621 I c) (wv636 I c) (wv637 I c) (wv638 I c) (wv729 I c) (wv743 I c)) Q) := by
  rw [k0_part22_eq_skeleton]
  unfold k0_part22_skel
  simp only [Prog.lift, Prog.bind_op, Prog.bind_ret, Prog.pure_eq_ret]
  iintro HS Hk
  iapply (r_ldE (svI I) I K 5 ![5, 0, 0] rfl (wv744 I c) rfl) $$ HS; iintro HS
  iapply (r_ldE (svI I) I K 6 ![6, 0, 0] rfl (wv762 I c) rfl) $$ HS; iintro HS
  iapply (r_ldE (svI I) I K 7 ![7, 0, 0] rfl (wv780 I c) rfl) $$ HS; iintro HS
  iapply (r_end (b := (wv783 I c)))
  isplitr; · ipureintro; rfl
  iapply Hk $$ HS

/-- Part 23 of the body. -/
theorem p23 {Q} : iprop(St (svI I) I K c 6 6 2 (o2 I c σ) (x8 I c ε)
      ∗ fly (F := F) c (2 : Fin 24)) ⊢
    iprop((St (svI I) I K c 6 6 3 (o3 I c σ) (x8 I c ε)
        -∗ own5 c (2 : Fin 24) fullShare (g2 I (nxt c)) -∗ Q ⟨wv805 I c, wv806 I c⟩)
      -∗ WP c (k0_part23 (F := F) iM0 h0 iM1 h1 iM2 h2 iM3 h3 oM h4 cM h5 gM h6 eM h7 cc0_scratch3 cc0_scratch4 c (wv2 I c) (wv4 I c) (wv783 I c)) Q) := by
  rw [k0_part23_eq_skeleton]
  unfold k0_part23_skel
  simp only [Prog.lift, Prog.bind_op, Prog.bind_ret, Prog.pure_eq_ret]
  iintro ⟨HS, HF_2⟩ Hk
  iapply (r_ldO_any (svI I) I K) $$ HS; iintro %_ HS
  iapply (r_stW (svI I) I K 1 _ (off3_1 c) (u3 I c) rfl (o3 I c σ) rfl) $$ HS; iintro HS
  iapply (r_waitS (svI I) I K 2 (((cc0_scratch3.slice (Rect.unit (s := S4x6) ![2, 0] S1x1.size inb_S4x6_S1x1_2_0)).squeeze S_ squeezes_S1x1_S_).sem) rfl ((cM.slice (Rect.unit (s := S4x6x512x256) ![2, 0, 0, 0] S1x1x512x256.size inb_S4x6x512x256_S1x1x512x256_2_0_0_0) (fun _ => rfl)).squeeze S512x256 squeezes_S1x1x512x256_S512x256) ((gM.slice (Rect.unit (s := S4x4x512x256) ![2, 0, 0, 0] S1x1x512x256.size inb_S4x4x512x256_S1x1x512x256_2_0_0_0) (fun _ => rfl)).squeeze S512x256 squeezes_S1x1x512x256_S512x256) rfl) $$ [HS HF_2]
  · isplitl [HS]; · iexact HS
    iexact HF_2
  iintro HS HA_2
  iapply (r_waitR (svI I) I K (n := 6) (j := 2) 2 rfl (by decide) 3 rfl (g2 I (nxt c)) rfl (((cc0_scratch4.slice (Rect.unit (s := S4x6) ![2, 0] S1x1.size inb_S4x6_S1x1_2_0)).squeeze S_ squeezes_S1x1_S_).sem) rfl ((gM.slice (Rect.unit (s := S4x4x512x256) ![2, 0, 0, 0] S1x1x512x256.size inb_S4x4x512x256_S1x1x512x256_2_0_0_0) (fun _ => rfl)).squeeze S512x256 squeezes_S1x1x512x256_S512x256) ((cM.slice (Rect.unit (s := S4x6x512x256) ![2, 0, 0, 0] S1x1x512x256.size inb_S4x6x512x256_S1x1x512x256_2_0_0_0) (fun _ => rfl)).squeeze S512x256 squeezes_S1x1x512x256_S512x256) rfl) $$ [HS HA_2]
  · isplitl [HS]; · iexact HS
    iexact HA_2
  iintro HS HC_2
  iapply (r_ldC 2 fullShare (g2 I (nxt c)) ![2, 0, 0, 0] rfl) $$ HC_2; iintro HC_2
  iapply (r_end (b := ⟨wv805 I c, wv806 I c⟩))
  isplitr; · ipureintro; rfl
  iapply Hk $$ HS HC_2

/-- Part 24 of the body. -/
theorem p24 {Q} : iprop(St (svI I) I K c 6 6 3 (o3 I c σ) (x8 I c ε)
      ∗ fly (F := F) c (3 : Fin 24)) ⊢
    iprop((St (svI I) I K c 7 7 3 (o3 I c σ) (x8 I c ε)
        -∗ fly (F := F) c (6 : Fin 24)
        -∗ half (svI I) c (3 : Fin 24) -∗ Q ⟨⟩)
      -∗ WP c (k0_part24 (F := F) iM0 h0 iM1 h1 iM2 h2 iM3 h3 oM h4 cM h5 gM h6 eM h7 cc0_scratch3 cc0_scratch4 c (wv4 I c) (wv805 I c) (wv806 I c)) Q) := by
  rw [k0_part24_eq_skeleton]
  unfold k0_part24_skel
  simp only [Prog.lift, Prog.bind_op, Prog.bind_ret, Prog.pure_eq_ret]
  iintro ⟨HS, HF_3⟩ Hk
  iapply (r_ldO (svI I) I K 1 2 _ (off6_1 c) (wv808 I c) rfl) $$ HS; iintro HS
  iapply (r_ldG_any (svI I) I K (k := 6) 6 rfl ![2, 1, 0, 0] rfl) $$ HS; iintro %_ HS
  iapply (r_stG (svI I) I K (k := 6) 6 rfl ![2, 1, 0, 0] rfl (g6 I c) rfl 7 rfl) $$ HS; iintro HS HG_6
  iapply (r_sendG (svI I) I K (n := 6) 6 rfl (by decide) 6 rfl (g6 I c) rfl _ (dev6 c)
    ((gM.slice (Rect.unit (s := S4x4x512x256) ![2, 1, 0, 0] S1x1x512x256.size inb_S4x4x512x256_S1x1x512x256_2_1_0_0) (fun _ => rfl)).squeeze S512x256 squeezes_S1x1x512x256_S512x256) rfl
    ((cM.slice (Rect.unit (s := S4x6x512x256) ![2, 1, 0, 0] S1x1x512x256.size inb_S4x6x512x256_S1x1x512x256_2_1_0_0) (fun _ => rfl)).squeeze S512x256 squeezes_S1x1x512x256_S512x256) rfl
    (((cc0_scratch3.slice (Rect.unit (s := S4x6) ![2, 1] S1x1.size inb_S4x6_S1x1_2_1)).squeeze S_ squeezes_S1x1_S_).sem) (((cc0_scratch4.slice (Rect.unit (s := S4x6) ![2, 1] S1x1.size inb_S4x6_S1x1_2_1)).squeeze S_ squeezes_S1x1_S_).sem) rfl rfl 7 rfl) $$ [HS HG_6]
  · isplitl [HS]; · iexact HS
    iexact HG_6
  iintro HS HF_6
  iapply (r_waitS (svI I) I K 3 (((cc0_scratch3.slice (Rect.unit (s := S4x6) ![3, 0] S1x1.size inb_S4x6_S1x1_3_0)).squeeze S_ squeezes_S1x1_S_).sem) rfl ((cM.slice (Rect.unit (s := S4x6x512x256) ![3, 0, 0, 0] S1x1x512x256.size inb_S4x6x512x256_S1x1x512x256_3_0_0_0) (fun _ => rfl)).squeeze S512x256 squeezes_S1x1x512x256_S512x256) ((gM.slice (Rect.unit (s := S4x4x512x256) ![3, 0, 0, 0] S1x1x512x256.size inb_S4x4x512x256_S1x1x512x256_3_0_0_0) (fun _ => rfl)).squeeze S512x256 squeezes_S1x1x512x256_S512x256) rfl) $$ [HS HF_3]
  · isplitl [HS]; · iexact HS
    iexact HF_3
  iintro HS HA_3
  iapply (r_end (b := ⟨⟩))
  isplitr; · ipureintro; rfl
  iapply Hk $$ HS HF_6 HA_3

end Cert.MoeProof

end
-- ==== Proof.Parts5.lean ====
/-
# Parts 25 to 30 of the body

Each part takes a device from its state before to its state after, with what is in flight beside it.
-/
module

public import proofs.«01_k».proof.Proof.Vals

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Inp F) (K : Dev nD × Fin 49 → ℕ) (c : Dev nD) (σ : OBlk F) (ε : EBlk F)
variable (h0 : iM0.IsWhole) (h1 : iM1.IsWhole) (h2 : iM2.IsWhole) (h3 : iM3.IsWhole) (h4 : oM.IsWhole) (h5 : cM.IsWhole) (h6 : gM.IsWhole) (h7 : eM.IsWhole)

/-- Part 25 of the body. -/
theorem p25 {Q} : iprop(St (svI I) I K c 7 7 3 (o3 I c σ) (x8 I c ε)
      ∗ half (svI I) c (3 : Fin 24)) ⊢
    iprop((St (svI I) I K c 7 8 4 (o3 I c σ) (x8 I c ε)
        -∗ own5 c (3 : Fin 24) fullShare (g3 I (nxt c))
        -∗ own6 c (7 : Fin 16) fullShare (g7 I c) -∗ Q (wc1_i32_583 I c))
      -∗ WP c (k0_part25 (F := F) iM0 h0 iM1 h1 iM2 h2 iM3 h3 oM h4 cM h5 gM h6 eM h7 cc0_scratch3 cc0_scratch4 c (wv2 I c) (wv4 I c)) Q) := by
  rw [k0_part25_eq_skeleton]
  unfold k0_part25_skel
  simp only [Prog.lift, Prog.bind_op, Prog.bind_ret, Prog.pure_eq_ret]
  iintro ⟨HS, HA_3⟩ Hk
  iapply (r_waitR (svI I) I K (n := 7) (j := 3) 3 rfl (by decide) 4 rfl (g3 I (nxt c)) rfl (((cc0_scratch4.slice (Rect.unit (s := S4x6) ![3, 0] S1x1.size inb_S4x6_S1x1_3_0)).squeeze S_ squeezes_S1x1_S_).sem) rfl ((gM.slice (Rect.unit (s := S4x4x512x256) ![3, 0, 0, 0] S1x1x512x256.size inb_S4x4x512x256_S1x1x512x256_3_0_0_0) (fun _ => rfl)).squeeze S512x256 squeezes_S1x1x512x256_S512x256) ((cM.slice (Rect.unit (s := S4x6x512x256) ![3, 0, 0, 0] S1x1x512x256.size inb_S4x6x512x256_S1x1x512x256_3_0_0_0) (fun _ => rfl)).squeeze S512x256 squeezes_S1x1x512x256_S512x256) rfl) $$ [HS HA_3]
  · isplitl [HS]; · iexact HS
    iexact HA_3
  iintro HS HC_3
  iapply (r_ldC 3 fullShare (g3 I (nxt c)) ![3, 0, 0, 0] rfl) $$ HC_3; iintro HC_3
  iapply (r_ldO (svI I) I K 1 3 _ (off7_1 c) (wv847 I c) rfl) $$ HS; iintro HS
  iapply (r_ldG_any (svI I) I K (k := 7) 7 rfl ![3, 1, 0, 0] rfl) $$ HS; iintro %_ HS
  iapply (r_stG (svI I) I K (k := 7) 7 rfl ![3, 1, 0, 0] rfl (g7 I c) rfl 8 rfl) $$ HS; iintro HS HG_7
  iapply (r_end (b := (wc1_i32_583 I c)))
  isplitr; · ipureintro; rfl
  iapply Hk $$ HS HC_3 HG_7

/-- Part 26 of the body. -/
theorem p26 {Q} : iprop(St (svI I) I K c 7 8 4 (o3 I c σ) (x8 I c ε)
      ∗ own6 c (7 : Fin 16) fullShare (g7 I c)) ⊢
    iprop((St (svI I) I K c 8 8 4 (o3 I c σ) (x8 I c ε)
        -∗ fly (F := F) c (7 : Fin 24) -∗ Q ⟨wv867 I c, wv870 I c, wv882 I c, wv886 I c, wv887 I c, wv888 I c, wv894 I c⟩)
      -∗ WP c (k0_part26 (F := F) iM0 h0 iM1 h1 iM2 h2 iM3 h3 oM h4 cM h5 gM h6 eM h7 cc0_scratch3 cc0_scratch4 c (wv2 I c) (wv4 I c) (wc1_i32_583 I c)) Q) := by
  rw [k0_part26_eq_skeleton]
  unfold k0_part26_skel
  simp only [Prog.lift, Prog.bind_op, Prog.bind_ret, Prog.pure_eq_ret]
  iintro ⟨HS, HG_7⟩ Hk
  iapply (r_sendG (svI I) I K (n := 7) 7 rfl (by decide) 7 rfl (g7 I c) rfl _ (dev7 c)
    ((gM.slice (Rect.unit (s := S4x4x512x256) ![3, 1, 0, 0] S1x1x512x256.size inb_S4x4x512x256_S1x1x512x256_3_1_0_0) (fun _ => rfl)).squeeze S512x256 squeezes_S1x1x512x256_S512x256) rfl
    ((cM.slice (Rect.unit (s := S4x6x512x256) ![3, 1, 0, 0] S1x1x512x256.size inb_S4x6x512x256_S1x1x512x256_3_1_0_0) (fun _ => rfl)).squeeze S512x256 squeezes_S1x1x512x256_S512x256) rfl
    (((cc0_scratch3.slice (Rect.unit (s := S4x6) ![3, 1] S1x1.size inb_S4x6_S1x1_3_1)).squeeze S_ squeezes_S1x1_S_).sem) (((cc0_scratch4.slice (Rect.unit (s := S4x6) ![3, 1] S1x1.size inb_S4x6_S1x1_3_1)).squeeze S_ squeezes_S1x1_S_).sem) rfl rfl 8 rfl) $$ [HS HG_7]
  · isplitl [HS]; · iexact HS
    iexact HG_7
  iintro HS HF_7
  iapply (r_ld0 (svI I) I K) $$ HS; iintro HS
  iapply (r_ld1 (svI I) I K) $$ HS; iintro HS
  iapply (r_ld2 (svI I) I K) $$ HS; iintro HS
  iapply (r_end (b := ⟨wv867 I c, wv870 I c, wv882 I c, wv886 I c, wv887 I c, wv888 I c, wv894 I c⟩))
  isplitr; · ipureintro; rfl
  iapply Hk $$ HS HF_7

/-- Part 27 of the body. -/
theorem p27 {Q} : iprop(St (svI I) I K c 8 8 4 (o3 I c σ) (x8 I c ε)) ⊢
    iprop((St (svI I) I K c 8 8 4 (o3 I c σ) (x8 I c ε) -∗ Q ⟨wv902 I c, wv903 I c, wv904 I c, wv923 I c, wv937 I c⟩)
      -∗ WP c (k0_part27 (F := F) iM0 h0 iM1 h1 iM2 h2 iM3 h3 oM h4 cM h5 gM h6 eM h7 cc0_scratch3 cc0_scratch4 (wv2 I c) (wv870 I c) (wv882 I c) (wv886 I c) (wv887 I c) (wv888 I c) (wv894 I c)) Q) := by
  rw [k0_part27_eq_skeleton]
  unfold k0_part27_skel
  simp only [Prog.lift, Prog.bind_op, Prog.bind_ret, Prog.pure_eq_ret]
  iintro HS Hk
  iapply (r_ldE (svI I) I K 0 ![0, 0, 0] rfl (wv920 I c) rfl) $$ HS; iintro HS
  iapply (r_end (b := ⟨wv902 I c, wv903 I c, wv904 I c, wv923 I c, wv937 I c⟩))
  isplitr; · ipureintro; rfl
  iapply Hk $$ HS

/-- Part 28 of the body. -/
theorem p28 {Q} : iprop(St (svI I) I K c 8 8 4 (o3 I c σ) (x8 I c ε)) ⊢
    iprop((St (svI I) I K c 8 8 4 (o3 I c σ) (x8 I c ε) -∗ Q ⟨wv977 I c, wv978 I c⟩)
      -∗ WP c (k0_part28 (F := F) iM0 h0 iM1 h1 iM2 h2 iM3 h3 oM h4 cM h5 gM h6 eM h7 cc0_scratch3 cc0_scratch4 (wv2 I c) (wv886 I c) (wv887 I c) (wv902 I c) (wv903 I c) (wv904 I c) (wv923 I c) (wv937 I c)) Q) := by
  rw [k0_part28_eq_skeleton]
  unfold k0_part28_skel
  simp only [Prog.lift, Prog.bind_op, Prog.bind_ret, Prog.pure_eq_ret]
  iintro HS Hk
  iapply (r_ldE (svI I) I K 1 ![1, 0, 0] rfl (wv938 I c) rfl) $$ HS; iintro HS
  iapply (r_ldE (svI I) I K 2 ![2, 0, 0] rfl (wv956 I c) rfl) $$ HS; iintro HS
  iapply (r_ldE (svI I) I K 3 ![3, 0, 0] rfl (wv974 I c) rfl) $$ HS; iintro HS
  iapply (r_end (b := ⟨wv977 I c, wv978 I c⟩))
  isplitr; · ipureintro; rfl
  iapply Hk $$ HS

/-- Part 29 of the body. -/
theorem p29 {Q} : iprop(St (svI I) I K c 8 8 4 (o3 I c σ) (x8 I c ε)) ⊢
    iprop((St (svI I) I K c 8 8 4 (o3 I c σ) (x8 I c ε) -∗ Q ⟨wv1013 I c, wv1019 I c, wv1020 I c⟩)
      -∗ WP c (k0_part29 (F := F) iM0 h0 iM1 h1 iM2 h2 iM3 h3 oM h4 cM h5 gM h6 eM h7 cc0_scratch3 cc0_scratch4 (wv2 I c) (wv886 I c) (wv887 I c) (wv902 I c) (wv903 I c) (wv904 I c) (wv977 I c) (wv978 I c)) Q) := by
  rw [k0_part29_eq_skeleton]
  unfold k0_part29_skel
  simp only [Prog.lift, Prog.bind_op, Prog.bind_ret, Prog.pure_eq_ret]
  iintro HS Hk
  iapply (r_ldE (svI I) I K 4 ![4, 0, 0] rfl (wv992 I c) rfl) $$ HS; iintro HS
  iapply (r_ldE (svI I) I K 5 ![5, 0, 0] rfl (wv1010 I c) rfl) $$ HS; iintro HS
  iapply (r_end (b := ⟨wv1013 I c, wv1019 I c, wv1020 I c⟩))
  isplitr; · ipureintro; rfl
  iapply Hk $$ HS

/-- Part 30 of the body. -/
theorem p30 {Q} : iprop(St (svI I) I K c 8 8 4 (o3 I c σ) (x8 I c ε)) ⊢
    iprop((St (svI I) I K c 8 8 4 (o4 I c σ) (x8 I c ε) -∗ Q ⟨⟩)
      -∗ WP c (k0_part30 (F := F) iM0 h0 iM1 h1 iM2 h2 iM3 h3 oM h4 cM h5 gM h6 eM h7 cc0_scratch3 cc0_scratch4 c (wv2 I c) (wv867 I c) (wv886 I c) (wv887 I c) (wv902 I c) (wv903 I c) (wv904 I c) (wv1013 I c) (wv1019 I c) (wv1020 I c)) Q) := by
  rw [k0_part30_eq_skeleton]
  unfold k0_part30_skel
  simp only [Prog.lift, Prog.bind_op, Prog.bind_ret, Prog.pure_eq_ret]
  iintro HS Hk
  iapply (r_ldE (svI I) I K 6 ![6, 0, 0] rfl (wv1028 I c) rfl) $$ HS; iintro HS
  iapply (r_ldE (svI I) I K 7 ![7, 0, 0] rfl (wv1046 I c) rfl) $$ HS; iintro HS
  iapply (r_ldO_any (svI I) I K) $$ HS; iintro %_ HS
  iapply (r_stW (svI I) I K 2 _ (off3_2 c) (u4 I c) rfl (o4 I c σ) rfl) $$ HS; iintro HS
  iapply (r_end (b := ⟨⟩))
  isplitr; · ipureintro; rfl
  iapply Hk $$ HS

end Cert.MoeProof

end
-- ==== Proof.Parts6.lean ====
/-
# Parts 31 to 36 of the body

Each part takes a device from its state before to its state after, with what is in flight beside it.
-/
module

public import proofs.«01_k».proof.Proof.Vals

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Inp F) (K : Dev nD × Fin 49 → ℕ) (c : Dev nD) (σ : OBlk F) (ε : EBlk F)
variable (h0 : iM0.IsWhole) (h1 : iM1.IsWhole) (h2 : iM2.IsWhole) (h3 : iM3.IsWhole) (h4 : oM.IsWhole) (h5 : cM.IsWhole) (h6 : gM.IsWhole) (h7 : eM.IsWhole)

/-- Part 31 of the body. -/
theorem p31 {Q} : iprop(St (svI I) I K c 8 8 4 (o4 I c σ) (x8 I c ε)
      ∗ fly (F := F) c (4 : Fin 24)) ⊢
    iprop((St (svI I) I K c 8 9 5 (o4 I c σ) (x8 I c ε)
        -∗ own5 c (4 : Fin 24) fullShare (g4 I (prv c))
        -∗ own6 c (8 : Fin 16) fullShare (g8 I c) -∗ Q ⟨⟩)
      -∗ WP c (k0_part31 (F := F) iM0 h0 iM1 h1 iM2 h2 iM3 h3 oM h4 cM h5 gM h6 eM h7 cc0_scratch3 cc0_scratch4 c (wv2 I c) (wv6 I c)) Q) := by
  rw [k0_part31_eq_skeleton]
  unfold k0_part31_skel
  simp only [Prog.lift, Prog.bind_op, Prog.bind_ret, Prog.pure_eq_ret]
  iintro ⟨HS, HF_4⟩ Hk
  iapply (r_waitS (svI I) I K 4 (((cc0_scratch3.slice (Rect.unit (s := S4x6) ![0, 1] S1x1.size inb_S4x6_S1x1_0_1)).squeeze S_ squeezes_S1x1_S_).sem) rfl ((cM.slice (Rect.unit (s := S4x6x512x256) ![0, 1, 0, 0] S1x1x512x256.size inb_S4x6x512x256_S1x1x512x256_0_1_0_0) (fun _ => rfl)).squeeze S512x256 squeezes_S1x1x512x256_S512x256) ((gM.slice (Rect.unit (s := S4x4x512x256) ![0, 1, 0, 0] S1x1x512x256.size inb_S4x4x512x256_S1x1x512x256_0_1_0_0) (fun _ => rfl)).squeeze S512x256 squeezes_S1x1x512x256_S512x256) rfl) $$ [HS HF_4]
  · isplitl [HS]; · iexact HS
    iexact HF_4
  iintro HS HA_4
  iapply (r_waitR (svI I) I K (n := 8) (j := 4) 4 rfl (by decide) 5 rfl (g4 I (prv c)) rfl (((cc0_scratch4.slice (Rect.unit (s := S4x6) ![0, 1] S1x1.size inb_S4x6_S1x1_0_1)).squeeze S_ squeezes_S1x1_S_).sem) rfl ((gM.slice (Rect.unit (s := S4x4x512x256) ![0, 1, 0, 0] S1x1x512x256.size inb_S4x4x512x256_S1x1x512x256_0_1_0_0) (fun _ => rfl)).squeeze S512x256 squeezes_S1x1x512x256_S512x256) ((cM.slice (Rect.unit (s := S4x6x512x256) ![0, 1, 0, 0] S1x1x512x256.size inb_S4x6x512x256_S1x1x512x256_0_1_0_0) (fun _ => rfl)).squeeze S512x256 squeezes_S1x1x512x256_S512x256) rfl) $$ [HS HA_4]
  · isplitl [HS]; · iexact HS
    iexact HA_4
  iintro HS HC_4
  iapply (r_ldC 4 fullShare (g4 I (prv c)) ![0, 1, 0, 0] rfl) $$ HC_4; iintro HC_4
  iapply (r_ldO (svI I) I K 2 0 _ (off4_2 c) (wv1074 I c) rfl) $$ HS; iintro HS
  iapply (r_ldG_any (svI I) I K (k := 8) 8 rfl ![0, 2, 0, 0] rfl) $$ HS; iintro %_ HS
  iapply (r_stG (svI I) I K (k := 8) 8 rfl ![0, 2, 0, 0] rfl (g8 I c) rfl 9 rfl) $$ HS; iintro HS HG_8
  iapply (r_end (b := ⟨⟩))
  isplitr; · ipureintro; rfl
  iapply Hk $$ HS HC_4 HG_8

/-- Part 32 of the body. -/
theorem p32 {Q} : iprop(St (svI I) I K c 8 9 5 (o4 I c σ) (x8 I c ε)
      ∗ own6 c (8 : Fin 16) fullShare (g8 I c)
      ∗ fly (F := F) c (5 : Fin 24)) ⊢
    iprop((St (svI I) I K c 9 9 5 (o4 I c σ) (x8 I c ε)
        -∗ fly (F := F) c (8 : Fin 24)
        -∗ half (svI I) c (5 : Fin 24) -∗ Q ⟨⟩)
      -∗ WP c (k0_part32 (F := F) iM0 h0 iM1 h1 iM2 h2 iM3 h3 oM h4 cM h5 gM h6 eM h7 cc0_scratch3 cc0_scratch4 c (wv6 I c)) Q) := by
  rw [k0_part32_eq_skeleton]
  unfold k0_part32_skel
  simp only [Prog.lift, Prog.bind_op, Prog.bind_ret, Prog.pure_eq_ret]
  iintro ⟨HS, HG_8, HF_5⟩ Hk
  iapply (r_sendG (svI I) I K (n := 8) 8 rfl (by decide) 8 rfl (g8 I c) rfl _ (dev8 c)
    ((gM.slice (Rect.unit (s := S4x4x512x256) ![0, 2, 0, 0] S1x1x512x256.size inb_S4x4x512x256_S1x1x512x256_0_2_0_0) (fun _ => rfl)).squeeze S512x256 squeezes_S1x1x512x256_S512x256) rfl
    ((cM.slice (Rect.unit (s := S4x6x512x256) ![0, 2, 0, 0] S1x1x512x256.size inb_S4x6x512x256_S1x1x512x256_0_2_0_0) (fun _ => rfl)).squeeze S512x256 squeezes_S1x1x512x256_S512x256) rfl
    (((cc0_scratch3.slice (Rect.unit (s := S4x6) ![0, 2] S1x1.size inb_S4x6_S1x1_0_2)).squeeze S_ squeezes_S1x1_S_).sem) (((cc0_scratch4.slice (Rect.unit (s := S4x6) ![0, 2] S1x1.size inb_S4x6_S1x1_0_2)).squeeze S_ squeezes_S1x1_S_).sem) rfl rfl 9 rfl) $$ [HS HG_8]
  · isplitl [HS]; · iexact HS
    iexact HG_8
  iintro HS HF_8
  iapply (r_waitS (svI I) I K 5 (((cc0_scratch3.slice (Rect.unit (s := S4x6) ![1, 1] S1x1.size inb_S4x6_S1x1_1_1)).squeeze S_ squeezes_S1x1_S_).sem) rfl ((cM.slice (Rect.unit (s := S4x6x512x256) ![1, 1, 0, 0] S1x1x512x256.size inb_S4x6x512x256_S1x1x512x256_1_1_0_0) (fun _ => rfl)).squeeze S512x256 squeezes_S1x1x512x256_S512x256) ((gM.slice (Rect.unit (s := S4x4x512x256) ![1, 1, 0, 0] S1x1x512x256.size inb_S4x4x512x256_S1x1x512x256_1_1_0_0) (fun _ => rfl)).squeeze S512x256 squeezes_S1x1x512x256_S512x256) rfl) $$ [HS HF_5]
  · isplitl [HS]; · iexact HS
    iexact HF_5
  iintro HS HA_5
  iapply (r_end (b := ⟨⟩))
  isplitr; · ipureintro; rfl
  iapply Hk $$ HS HF_8 HA_5

/-- Part 33 of the body. -/
theorem p33 {Q} : iprop(St (svI I) I K c 9 9 5 (o4 I c σ) (x8 I c ε)
      ∗ half (svI I) c (5 : Fin 24)) ⊢
    iprop((St (svI I) I K c 10 10 6 (o4 I c σ) (x8 I c ε)
        -∗ own5 c (5 : Fin 24) fullShare (g5 I (prv c))
        -∗ fly (F := F) c (9 : Fin 24) -∗ Q ⟨⟩)
      -∗ WP c (k0_part33 (F := F) iM0 h0 iM1 h1 iM2 h2 iM3 h3 oM h4 cM h5 gM h6 eM h7 cc0_scratch3 cc0_scratch4 c (wv2 I c) (wv6 I c)) Q) := by
  rw [k0_part33_eq_skeleton]
  unfold k0_part33_skel
  simp only [Prog.lift, Prog.bind_op, Prog.bind_ret, Prog.pure_eq_ret]
  iintro ⟨HS, HA_5⟩ Hk
  iapply (r_waitR (svI I) I K (n := 9) (j := 5) 5 rfl (by decide) 6 rfl (g5 I (prv c)) rfl (((cc0_scratch4.slice (Rect.unit (s := S4x6) ![1, 1] S1x1.size inb_S4x6_S1x1_1_1)).squeeze S_ squeezes_S1x1_S_).sem) rfl ((gM.slice (Rect.unit (s := S4x4x512x256) ![1, 1, 0, 0] S1x1x512x256.size inb_S4x4x512x256_S1x1x512x256_1_1_0_0) (fun _ => rfl)).squeeze S512x256 squeezes_S1x1x512x256_S512x256) ((cM.slice (Rect.unit (s := S4x6x512x256) ![1, 1, 0, 0] S1x1x512x256.size inb_S4x6x512x256_S1x1x512x256_1_1_0_0) (fun _ => rfl)).squeeze S512x256 squeezes_S1x1x512x256_S512x256) rfl) $$ [HS HA_5]
  · isplitl [HS]; · iexact HS
    iexact HA_5
  iintro HS HC_5
  iapply (r_ldC 5 fullShare (g5 I (prv c)) ![1, 1, 0, 0] rfl) $$ HC_5; iintro HC_5
  iapply (r_ldO (svI I) I K 2 1 _ (off5_2 c) (wv1113 I c) rfl) $$ HS; iintro HS
  iapply (r_ldG_any (svI I) I K (k := 9) 9 rfl ![1, 2, 0, 0] rfl) $$ HS; iintro %_ HS
  iapply (r_stG (svI I) I K (k := 9) 9 rfl ![1, 2, 0, 0] rfl (g9 I c) rfl 10 rfl) $$ HS; iintro HS HG_9
  iapply (r_sendG (svI I) I K (n := 9) 9 rfl (by decide) 9 rfl (g9 I c) rfl _ (dev9 c)
    ((gM.slice (Rect.unit (s := S4x4x512x256) ![1, 2, 0, 0] S1x1x512x256.size inb_S4x4x512x256_S1x1x512x256_1_2_0_0) (fun _ => rfl)).squeeze S512x256 squeezes_S1x1x512x256_S512x256) rfl
    ((cM.slice (Rect.unit (s := S4x6x512x256) ![1, 2, 0, 0] S1x1x512x256.size inb_S4x6x512x256_S1x1x512x256_1_2_0_0) (fun _ => rfl)).squeeze S512x256 squeezes_S1x1x512x256_S512x256) rfl
    (((cc0_scratch3.slice (Rect.unit (s := S4x6) ![1, 2] S1x1.size inb_S4x6_S1x1_1_2)).squeeze S_ squeezes_S1x1_S_).sem) (((cc0_scratch4.slice (Rect.unit (s := S4x6) ![1, 2] S1x1.size inb_S4x6_S1x1_1_2)).squeeze S_ squeezes_S1x1_S_).sem) rfl rfl 10 rfl) $$ [HS HG_9]
  · isplitl [HS]; · iexact HS
    iexact HG_9
  iintro HS HF_9
  iapply (r_end (b := ⟨⟩))
  isplitr; · ipureintro; rfl
  iapply Hk $$ HS HC_5 HF_9

/-- Part 34 of the body. -/
theorem p34 {Q} : iprop(St (svI I) I K c 10 10 6 (o4 I c σ) (x8 I c ε)
      ∗ fly (F := F) c (6 : Fin 24)) ⊢
    iprop((St (svI I) I K c 10 10 7 (o4 I c σ) (x8 I c ε)
        -∗ own5 c (6 : Fin 24) fullShare (g6 I (nxt c)) -∗ Q (wv1149 I c))
      -∗ WP c (k0_part34 (F := F) iM0 h0 iM1 h1 iM2 h2 iM3 h3 oM h4 cM h5 gM h6 eM h7 cc0_scratch3 cc0_scratch4 (wv2 I c) (wv4 I c)) Q) := by
  rw [k0_part34_eq_skeleton]
  unfold k0_part34_skel
  simp only [Prog.lift, Prog.bind_op, Prog.bind_ret, Prog.pure_eq_ret]
  iintro ⟨HS, HF_6⟩ Hk
  iapply (r_waitS (svI I) I K 6 (((cc0_scratch3.slice (Rect.unit (s := S4x6) ![2, 1] S1x1.size inb_S4x6_S1x1_2_1)).squeeze S_ squeezes_S1x1_S_).sem) rfl ((cM.slice (Rect.unit (s := S4x6x512x256) ![2, 1, 0, 0] S1x1x512x256.size inb_S4x6x512x256_S1x1x512x256_2_1_0_0) (fun _ => rfl)).squeeze S512x256 squeezes_S1x1x512x256_S512x256) ((gM.slice (Rect.unit (s := S4x4x512x256) ![2, 1, 0, 0] S1x1x512x256.size inb_S4x4x512x256_S1x1x512x256_2_1_0_0) (fun _ => rfl)).squeeze S512x256 squeezes_S1x1x512x256_S512x256) rfl) $$ [HS HF_6]
  · isplitl [HS]; · iexact HS
    iexact HF_6
  iintro HS HA_6
  iapply (r_waitR (svI I) I K (n := 10) (j := 6) 6 rfl (by decide) 7 rfl (g6 I (nxt c)) rfl (((cc0_scratch4.slice (Rect.unit (s := S4x6) ![2, 1] S1x1.size inb_S4x6_S1x1_2_1)).squeeze S_ squeezes_S1x1_S_).sem) rfl ((gM.slice (Rect.unit (s := S4x4x512x256) ![2, 1, 0, 0] S1x1x512x256.size inb_S4x4x512x256_S1x1x512x256_2_1_0_0) (fun _ => rfl)).squeeze S512x256 squeezes_S1x1x512x256_S512x256) ((cM.slice (Rect.unit (s := S4x6x512x256) ![2, 1, 0, 0] S1x1x512x256.size inb_S4x6x512x256_S1x1x512x256_2_1_0_0) (fun _ => rfl)).squeeze S512x256 squeezes_S1x1x512x256_S512x256) rfl) $$ [HS HA_6]
  · isplitl [HS]; · iexact HS
    iexact HA_6
  iintro HS HC_6
  iapply (r_ldC 6 fullShare (g6 I (nxt c)) ![2, 1, 0, 0] rfl) $$ HC_6; iintro HC_6
  iapply (r_end (b := (wv1149 I c)))
  isplitr; · ipureintro; rfl
  iapply Hk $$ HS HC_6

/-- Part 35 of the body. -/
theorem p35 {Q} : iprop(St (svI I) I K c 10 10 7 (o4 I c σ) (x8 I c ε)
      ∗ fly (F := F) c (7 : Fin 24)) ⊢
    iprop((St (svI I) I K c 11 11 7 (o4 I c σ) (x8 I c ε)
        -∗ fly (F := F) c (10 : Fin 24)
        -∗ half (svI I) c (7 : Fin 24) -∗ Q ⟨⟩)
      -∗ WP c (k0_part35 (F := F) iM0 h0 iM1 h1 iM2 h2 iM3 h3 oM h4 cM h5 gM h6 eM h7 cc0_scratch3 cc0_scratch4 c (wv4 I c) (wv1149 I c)) Q) := by
  rw [k0_part35_eq_skeleton]
  unfold k0_part35_skel
  simp only [Prog.lift, Prog.bind_op, Prog.bind_ret, Prog.pure_eq_ret]
  iintro ⟨HS, HF_7⟩ Hk
  iapply (r_ldO (svI I) I K 2 2 _ (off6_2 c) (wv1152 I c) rfl) $$ HS; iintro HS
  iapply (r_ldG_any (svI I) I K (k := 10) 10 rfl ![2, 2, 0, 0] rfl) $$ HS; iintro %_ HS
  iapply (r_stG (svI I) I K (k := 10) 10 rfl ![2, 2, 0, 0] rfl (g10 I c) rfl 11 rfl) $$ HS; iintro HS HG_10
  iapply (r_sendG (svI I) I K (n := 10) 10 rfl (by decide) 10 rfl (g10 I c) rfl _ (dev10 c)
    ((gM.slice (Rect.unit (s := S4x4x512x256) ![2, 2, 0, 0] S1x1x512x256.size inb_S4x4x512x256_S1x1x512x256_2_2_0_0) (fun _ => rfl)).squeeze S512x256 squeezes_S1x1x512x256_S512x256) rfl
    ((cM.slice (Rect.unit (s := S4x6x512x256) ![2, 2, 0, 0] S1x1x512x256.size inb_S4x6x512x256_S1x1x512x256_2_2_0_0) (fun _ => rfl)).squeeze S512x256 squeezes_S1x1x512x256_S512x256) rfl
    (((cc0_scratch3.slice (Rect.unit (s := S4x6) ![2, 2] S1x1.size inb_S4x6_S1x1_2_2)).squeeze S_ squeezes_S1x1_S_).sem) (((cc0_scratch4.slice (Rect.unit (s := S4x6) ![2, 2] S1x1.size inb_S4x6_S1x1_2_2)).squeeze S_ squeezes_S1x1_S_).sem) rfl rfl 11 rfl) $$ [HS HG_10]
  · isplitl [HS]; · iexact HS
    iexact HG_10
  iintro HS HF_10
  iapply (r_waitS (svI I) I K 7 (((cc0_scratch3.slice (Rect.unit (s := S4x6) ![3, 1] S1x1.size inb_S4x6_S1x1_3_1)).squeeze S_ squeezes_S1x1_S_).sem) rfl ((cM.slice (Rect.unit (s := S4x6x512x256) ![3, 1, 0, 0] S1x1x512x256.size inb_S4x6x512x256_S1x1x512x256_3_1_0_0) (fun _ => rfl)).squeeze S512x256 squeezes_S1x1x512x256_S512x256) ((gM.slice (Rect.unit (s := S4x4x512x256) ![3, 1, 0, 0] S1x1x512x256.size inb_S4x4x512x256_S1x1x512x256_3_1_0_0) (fun _ => rfl)).squeeze S512x256 squeezes_S1x1x512x256_S512x256) rfl) $$ [HS HF_7]
  · isplitl [HS]; · iexact HS
    iexact HF_7
  iintro HS HA_7
  iapply (r_end (b := ⟨⟩))
  isplitr; · ipureintro; rfl
  iapply Hk $$ HS HF_10 HA_7

/-- Part 36 of the body. -/
theorem p36 {Q} : iprop(St (svI I) I K c 11 11 7 (o4 I c σ) (x8 I c ε)
      ∗ half (svI I) c (7 : Fin 24)) ⊢
    iprop((St (svI I) I K c 11 12 8 (o4 I c σ) (x8 I c ε)
        -∗ own5 c (7 : Fin 24) fullShare (g7 I (nxt c))
        -∗ own6 c (11 : Fin 16) fullShare (g11 I c) -∗ Q ⟨wv1198 I c, wc0_i32_880 I c⟩)
      -∗ WP c (k0_part36 (F := F) iM0 h0 iM1 h1 iM2 h2 iM3 h3 oM h4 cM h5 gM h6 eM h7 cc0_scratch3 cc0_scratch4 c (wv2 I c) (wv4 I c)) Q) := by
  rw [k0_part36_eq_skeleton]
  unfold k0_part36_skel
  simp only [Prog.lift, Prog.bind_op, Prog.bind_ret, Prog.pure_eq_ret]
  iintro ⟨HS, HA_7⟩ Hk
  iapply (r_waitR (svI I) I K (n := 11) (j := 7) 7 rfl (by decide) 8 rfl (g7 I (nxt c)) rfl (((cc0_scratch4.slice (Rect.unit (s := S4x6) ![3, 1] S1x1.size inb_S4x6_S1x1_3_1)).squeeze S_ squeezes_S1x1_S_).sem) rfl ((gM.slice (Rect.unit (s := S4x4x512x256) ![3, 1, 0, 0] S1x1x512x256.size inb_S4x4x512x256_S1x1x512x256_3_1_0_0) (fun _ => rfl)).squeeze S512x256 squeezes_S1x1x512x256_S512x256) ((cM.slice (Rect.unit (s := S4x6x512x256) ![3, 1, 0, 0] S1x1x512x256.size inb_S4x6x512x256_S1x1x512x256_3_1_0_0) (fun _ => rfl)).squeeze S512x256 squeezes_S1x1x512x256_S512x256) rfl) $$ [HS HA_7]
  · isplitl [HS]; · iexact HS
    iexact HA_7
  iintro HS HC_7
  iapply (r_ldC 7 fullShare (g7 I (nxt c)) ![3, 1, 0, 0] rfl) $$ HC_7; iintro HC_7
  iapply (r_ldO (svI I) I K 2 3 _ (off7_2 c) (wv1191 I c) rfl) $$ HS; iintro HS
  iapply (r_ldG_any (svI I) I K (k := 11) 11 rfl ![3, 2, 0, 0] rfl) $$ HS; iintro %_ HS
  iapply (r_stG (svI I) I K (k := 11) 11 rfl ![3, 2, 0, 0] rfl (g11 I c) rfl 12 rfl) $$ HS; iintro HS HG_11
  iapply (r_end (b := ⟨wv1198 I c, wc0_i32_880 I c⟩))
  isplitr; · ipureintro; rfl
  iapply Hk $$ HS HC_7 HG_11

end Cert.MoeProof

end
-- ==== Proof.Parts7.lean ====
/-
# Parts 37 to 42 of the body

Each part takes a device from its state before to its state after, with what is in flight beside it.
-/
module

public import proofs.«01_k».proof.Proof.Vals

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Inp F) (K : Dev nD × Fin 49 → ℕ) (c : Dev nD) (σ : OBlk F) (ε : EBlk F)
variable (h0 : iM0.IsWhole) (h1 : iM1.IsWhole) (h2 : iM2.IsWhole) (h3 : iM3.IsWhole) (h4 : oM.IsWhole) (h5 : cM.IsWhole) (h6 : gM.IsWhole) (h7 : eM.IsWhole)

/-- Part 37 of the body. -/
theorem p37 {Q} : iprop(St (svI I) I K c 11 12 8 (o4 I c σ) (x8 I c ε)
      ∗ own6 c (11 : Fin 16) fullShare (g11 I c)
      ∗ fly (F := F) c (8 : Fin 24)) ⊢
    iprop((St (svI I) I K c 12 12 8 (o4 I c σ) (x8 I c ε)
        -∗ fly (F := F) c (11 : Fin 24)
        -∗ half (svI I) c (8 : Fin 24) -∗ Q (wv1210 I c))
      -∗ WP c (k0_part37 (F := F) iM0 h0 iM1 h1 iM2 h2 iM3 h3 oM h4 cM h5 gM h6 eM h7 cc0_scratch3 cc0_scratch4 c (wv2 I c) (wv6 I c) (wv1198 I c) (wc0_i32_880 I c)) Q) := by
  rw [k0_part37_eq_skeleton]
  unfold k0_part37_skel
  simp only [Prog.lift, Prog.bind_op, Prog.bind_ret, Prog.pure_eq_ret]
  iintro ⟨HS, HG_11, HF_8⟩ Hk
  iapply (r_sendG (svI I) I K (n := 11) 11 rfl (by decide) 11 rfl (g11 I c) rfl _ (dev11 c)
    ((gM.slice (Rect.unit (s := S4x4x512x256) ![3, 2, 0, 0] S1x1x512x256.size inb_S4x4x512x256_S1x1x512x256_3_2_0_0) (fun _ => rfl)).squeeze S512x256 squeezes_S1x1x512x256_S512x256) rfl
    ((cM.slice (Rect.unit (s := S4x6x512x256) ![3, 2, 0, 0] S1x1x512x256.size inb_S4x6x512x256_S1x1x512x256_3_2_0_0) (fun _ => rfl)).squeeze S512x256 squeezes_S1x1x512x256_S512x256) rfl
    (((cc0_scratch3.slice (Rect.unit (s := S4x6) ![3, 2] S1x1.size inb_S4x6_S1x1_3_2)).squeeze S_ squeezes_S1x1_S_).sem) (((cc0_scratch4.slice (Rect.unit (s := S4x6) ![3, 2] S1x1.size inb_S4x6_S1x1_3_2)).squeeze S_ squeezes_S1x1_S_).sem) rfl rfl 12 rfl) $$ [HS HG_11]
  · isplitl [HS]; · iexact HS
    iexact HG_11
  iintro HS HF_11
  iapply (r_waitS (svI I) I K 8 (((cc0_scratch3.slice (Rect.unit (s := S4x6) ![0, 2] S1x1.size inb_S4x6_S1x1_0_2)).squeeze S_ squeezes_S1x1_S_).sem) rfl ((cM.slice (Rect.unit (s := S4x6x512x256) ![0, 2, 0, 0] S1x1x512x256.size inb_S4x6x512x256_S1x1x512x256_0_2_0_0) (fun _ => rfl)).squeeze S512x256 squeezes_S1x1x512x256_S512x256) ((gM.slice (Rect.unit (s := S4x4x512x256) ![0, 2, 0, 0] S1x1x512x256.size inb_S4x4x512x256_S1x1x512x256_0_2_0_0) (fun _ => rfl)).squeeze S512x256 squeezes_S1x1x512x256_S512x256) rfl) $$ [HS HF_8]
  · isplitl [HS]; · iexact HS
    iexact HF_8
  iintro HS HA_8
  iapply (r_end (b := (wv1210 I c)))
  isplitr; · ipureintro; rfl
  iapply Hk $$ HS HF_11 HA_8

/-- Part 38 of the body. -/
theorem p38 {Q} : iprop(St (svI I) I K c 12 12 8 (o4 I c σ) (x8 I c ε)
      ∗ half (svI I) c (8 : Fin 24)) ⊢
    iprop((St (svI I) I K c 12 13 9 (o5 I c σ) (x8 I c ε)
        -∗ own5 c (8 : Fin 24) fullShare (g8 I (prv c))
        -∗ own6 c (12 : Fin 16) fullShare (g12 I c) -∗ Q ⟨⟩)
      -∗ WP c (k0_part38 (F := F) iM0 h0 iM1 h1 iM2 h2 iM3 h3 oM h4 cM h5 gM h6 eM h7 cc0_scratch3 cc0_scratch4 c (wv6 I c) (wv1210 I c)) Q) := by
  rw [k0_part38_eq_skeleton]
  unfold k0_part38_skel
  simp only [Prog.lift, Prog.bind_op, Prog.bind_ret, Prog.pure_eq_ret]
  iintro ⟨HS, HA_8⟩ Hk
  iapply (r_waitR (svI I) I K (n := 12) (j := 8) 8 rfl (by decide) 9 rfl (g8 I (prv c)) rfl (((cc0_scratch4.slice (Rect.unit (s := S4x6) ![0, 2] S1x1.size inb_S4x6_S1x1_0_2)).squeeze S_ squeezes_S1x1_S_).sem) rfl ((gM.slice (Rect.unit (s := S4x4x512x256) ![0, 2, 0, 0] S1x1x512x256.size inb_S4x4x512x256_S1x1x512x256_0_2_0_0) (fun _ => rfl)).squeeze S512x256 squeezes_S1x1x512x256_S512x256) ((cM.slice (Rect.unit (s := S4x6x512x256) ![0, 2, 0, 0] S1x1x512x256.size inb_S4x6x512x256_S1x1x512x256_0_2_0_0) (fun _ => rfl)).squeeze S512x256 squeezes_S1x1x512x256_S512x256) rfl) $$ [HS HA_8]
  · isplitl [HS]; · iexact HS
    iexact HA_8
  iintro HS HC_8
  iapply (r_ldO (svI I) I K 1 0 _ (off4_1 c) (wv1227 I c) rfl) $$ HS; iintro HS
  iapply (r_ldC 8 fullShare (g8 I (prv c)) ![0, 2, 0, 0] rfl) $$ HC_8; iintro HC_8
  iapply (r_ldO_any (svI I) I K) $$ HS; iintro %_ HS
  iapply (r_stO (svI I) I K 1 0 _ (off4_1 c) (u5 I c) rfl (o5 I c σ) rfl) $$ HS; iintro HS
  iapply (r_ldO (svI I) I K 1 0 _ (off4_1 c) (wv1237 I c) rfl) $$ HS; iintro HS
  iapply (r_ldG_any (svI I) I K (k := 12) 12 rfl ![0, 3, 0, 0] rfl) $$ HS; iintro %_ HS
  iapply (r_stG (svI I) I K (k := 12) 12 rfl ![0, 3, 0, 0] rfl (g12 I c) rfl 13 rfl) $$ HS; iintro HS HG_12
  iapply (r_end (b := ⟨⟩))
  isplitr; · ipureintro; rfl
  iapply Hk $$ HS HC_8 HG_12

/-- Part 39 of the body. -/
theorem p39 {Q} : iprop(St (svI I) I K c 12 13 9 (o5 I c σ) (x8 I c ε)
      ∗ own6 c (12 : Fin 16) fullShare (g12 I c)
      ∗ fly (F := F) c (9 : Fin 24)) ⊢
    iprop((St (svI I) I K c 13 13 10 (o5 I c σ) (x8 I c ε)
        -∗ fly (F := F) c (12 : Fin 24)
        -∗ own5 c (9 : Fin 24) fullShare (g9 I (prv c)) -∗ Q ⟨wv1255 I c, wv1270 I c, wv1273 I c⟩)
      -∗ WP c (k0_part39 (F := F) iM0 h0 iM1 h1 iM2 h2 iM3 h3 oM h4 cM h5 gM h6 eM h7 cc0_scratch3 cc0_scratch4 c (wv2 I c) (wv6 I c)) Q) := by
  rw [k0_part39_eq_skeleton]
  unfold k0_part39_skel
  simp only [Prog.lift, Prog.bind_op, Prog.bind_ret, Prog.pure_eq_ret]
  iintro ⟨HS, HG_12, HF_9⟩ Hk
  iapply (r_sendG (svI I) I K (n := 12) 12 rfl (by decide) 12 rfl (g12 I c) rfl _ (dev12 c)
    ((gM.slice (Rect.unit (s := S4x4x512x256) ![0, 3, 0, 0] S1x1x512x256.size inb_S4x4x512x256_S1x1x512x256_0_3_0_0) (fun _ => rfl)).squeeze S512x256 squeezes_S1x1x512x256_S512x256) rfl
    ((cM.slice (Rect.unit (s := S4x6x512x256) ![0, 3, 0, 0] S1x1x512x256.size inb_S4x6x512x256_S1x1x512x256_0_3_0_0) (fun _ => rfl)).squeeze S512x256 squeezes_S1x1x512x256_S512x256) rfl
    (((cc0_scratch3.slice (Rect.unit (s := S4x6) ![0, 3] S1x1.size inb_S4x6_S1x1_0_3)).squeeze S_ squeezes_S1x1_S_).sem) (((cc0_scratch4.slice (Rect.unit (s := S4x6) ![0, 3] S1x1.size inb_S4x6_S1x1_0_3)).squeeze S_ squeezes_S1x1_S_).sem) rfl rfl 13 rfl) $$ [HS HG_12]
  · isplitl [HS]; · iexact HS
    iexact HG_12
  iintro HS HF_12
  iapply (r_waitS (svI I) I K 9 (((cc0_scratch3.slice (Rect.unit (s := S4x6) ![1, 2] S1x1.size inb_S4x6_S1x1_1_2)).squeeze S_ squeezes_S1x1_S_).sem) rfl ((cM.slice (Rect.unit (s := S4x6x512x256) ![1, 2, 0, 0] S1x1x512x256.size inb_S4x6x512x256_S1x1x512x256_1_2_0_0) (fun _ => rfl)).squeeze S512x256 squeezes_S1x1x512x256_S512x256) ((gM.slice (Rect.unit (s := S4x4x512x256) ![1, 2, 0, 0] S1x1x512x256.size inb_S4x4x512x256_S1x1x512x256_1_2_0_0) (fun _ => rfl)).squeeze S512x256 squeezes_S1x1x512x256_S512x256) rfl) $$ [HS HF_9]
  · isplitl [HS]; · iexact HS
    iexact HF_9
  iintro HS HA_9
  iapply (r_waitR (svI I) I K (n := 13) (j := 9) 9 rfl (by decide) 10 rfl (g9 I (prv c)) rfl (((cc0_scratch4.slice (Rect.unit (s := S4x6) ![1, 2] S1x1.size inb_S4x6_S1x1_1_2)).squeeze S_ squeezes_S1x1_S_).sem) rfl ((gM.slice (Rect.unit (s := S4x4x512x256) ![1, 2, 0, 0] S1x1x512x256.size inb_S4x4x512x256_S1x1x512x256_1_2_0_0) (fun _ => rfl)).squeeze S512x256 squeezes_S1x1x512x256_S512x256) ((cM.slice (Rect.unit (s := S4x6x512x256) ![1, 2, 0, 0] S1x1x512x256.size inb_S4x6x512x256_S1x1x512x256_1_2_0_0) (fun _ => rfl)).squeeze S512x256 squeezes_S1x1x512x256_S512x256) rfl) $$ [HS HA_9]
  · isplitl [HS]; · iexact HS
    iexact HA_9
  iintro HS HC_9
  iapply (r_ldO (svI I) I K 1 1 _ (off5_1 c) (wv1272 I c) rfl) $$ HS; iintro HS
  iapply (r_end (b := ⟨wv1255 I c, wv1270 I c, wv1273 I c⟩))
  isplitr; · ipureintro; rfl
  iapply Hk $$ HS HF_12 HC_9

/-- Part 40 of the body. -/
theorem p40 {Q} : iprop(St (svI I) I K c 13 13 10 (o5 I c σ) (x8 I c ε)
      ∗ own5 c (9 : Fin 24) fullShare (g9 I (prv c))) ⊢
    iprop((St (svI I) I K c 14 14 10 (o6 I c σ) (x8 I c ε)
        -∗ own5 c (9 : Fin 24) fullShare (g9 I (prv c))
        -∗ fly (F := F) c (13 : Fin 24) -∗ Q (wv1300 I c))
      -∗ WP c (k0_part40 (F := F) iM0 h0 iM1 h1 iM2 h2 iM3 h3 oM h4 cM h5 gM h6 eM h7 cc0_scratch3 cc0_scratch4 c (wv2 I c) (wv6 I c) (wv1255 I c) (wv1270 I c) (wv1273 I c)) Q) := by
  rw [k0_part40_eq_skeleton]
  unfold k0_part40_skel
  simp only [Prog.lift, Prog.bind_op, Prog.bind_ret, Prog.pure_eq_ret]
  iintro ⟨HS, HC_9⟩ Hk
  iapply (r_ldC 9 fullShare (g9 I (prv c)) ![1, 2, 0, 0] rfl) $$ HC_9; iintro HC_9
  iapply (r_ldO_any (svI I) I K) $$ HS; iintro %_ HS
  iapply (r_stO (svI I) I K 1 1 _ (off5_1 c) (u6 I c) rfl (o6 I c σ) rfl) $$ HS; iintro HS
  iapply (r_ldO (svI I) I K 1 1 _ (off5_1 c) (wv1282 I c) rfl) $$ HS; iintro HS
  iapply (r_ldG_any (svI I) I K (k := 13) 13 rfl ![1, 3, 0, 0] rfl) $$ HS; iintro %_ HS
  iapply (r_stG (svI I) I K (k := 13) 13 rfl ![1, 3, 0, 0] rfl (g13 I c) rfl 14 rfl) $$ HS; iintro HS HG_13
  iapply (r_sendG (svI I) I K (n := 13) 13 rfl (by decide) 13 rfl (g13 I c) rfl _ (dev13 c)
    ((gM.slice (Rect.unit (s := S4x4x512x256) ![1, 3, 0, 0] S1x1x512x256.size inb_S4x4x512x256_S1x1x512x256_1_3_0_0) (fun _ => rfl)).squeeze S512x256 squeezes_S1x1x512x256_S512x256) rfl
    ((cM.slice (Rect.unit (s := S4x6x512x256) ![1, 3, 0, 0] S1x1x512x256.size inb_S4x6x512x256_S1x1x512x256_1_3_0_0) (fun _ => rfl)).squeeze S512x256 squeezes_S1x1x512x256_S512x256) rfl
    (((cc0_scratch3.slice (Rect.unit (s := S4x6) ![1, 3] S1x1.size inb_S4x6_S1x1_1_3)).squeeze S_ squeezes_S1x1_S_).sem) (((cc0_scratch4.slice (Rect.unit (s := S4x6) ![1, 3] S1x1.size inb_S4x6_S1x1_1_3)).squeeze S_ squeezes_S1x1_S_).sem) rfl rfl 14 rfl) $$ [HS HG_13]
  · isplitl [HS]; · iexact HS
    iexact HG_13
  iintro HS HF_13
  iapply (r_end (b := (wv1300 I c)))
  isplitr; · ipureintro; rfl
  iapply Hk $$ HS HC_9 HF_13

/-- Part 41 of the body. -/
theorem p41 {Q} : iprop(St (svI I) I K c 14 14 10 (o6 I c σ) (x8 I c ε)
      ∗ fly (F := F) c (10 : Fin 24)) ⊢
    iprop((St (svI I) I K c 14 14 11 (o7 I c σ) (x8 I c ε)
        -∗ own5 c (10 : Fin 24) fullShare (g10 I (nxt c)) -∗ Q (wv1327 I c))
      -∗ WP c (k0_part41 (F := F) iM0 h0 iM1 h1 iM2 h2 iM3 h3 oM h4 cM h5 gM h6 eM h7 cc0_scratch3 cc0_scratch4 c (wv4 I c) (wv1300 I c)) Q) := by
  rw [k0_part41_eq_skeleton]
  unfold k0_part41_skel
  simp only [Prog.lift, Prog.bind_op, Prog.bind_ret, Prog.pure_eq_ret]
  iintro ⟨HS, HF_10⟩ Hk
  iapply (r_waitS (svI I) I K 10 (((cc0_scratch3.slice (Rect.unit (s := S4x6) ![2, 2] S1x1.size inb_S4x6_S1x1_2_2)).squeeze S_ squeezes_S1x1_S_).sem) rfl ((cM.slice (Rect.unit (s := S4x6x512x256) ![2, 2, 0, 0] S1x1x512x256.size inb_S4x6x512x256_S1x1x512x256_2_2_0_0) (fun _ => rfl)).squeeze S512x256 squeezes_S1x1x512x256_S512x256) ((gM.slice (Rect.unit (s := S4x4x512x256) ![2, 2, 0, 0] S1x1x512x256.size inb_S4x4x512x256_S1x1x512x256_2_2_0_0) (fun _ => rfl)).squeeze S512x256 squeezes_S1x1x512x256_S512x256) rfl) $$ [HS HF_10]
  · isplitl [HS]; · iexact HS
    iexact HF_10
  iintro HS HA_10
  iapply (r_waitR (svI I) I K (n := 14) (j := 10) 10 rfl (by decide) 11 rfl (g10 I (nxt c)) rfl (((cc0_scratch4.slice (Rect.unit (s := S4x6) ![2, 2] S1x1.size inb_S4x6_S1x1_2_2)).squeeze S_ squeezes_S1x1_S_).sem) rfl ((gM.slice (Rect.unit (s := S4x4x512x256) ![2, 2, 0, 0] S1x1x512x256.size inb_S4x4x512x256_S1x1x512x256_2_2_0_0) (fun _ => rfl)).squeeze S512x256 squeezes_S1x1x512x256_S512x256) ((cM.slice (Rect.unit (s := S4x6x512x256) ![2, 2, 0, 0] S1x1x512x256.size inb_S4x6x512x256_S1x1x512x256_2_2_0_0) (fun _ => rfl)).squeeze S512x256 squeezes_S1x1x512x256_S512x256) rfl) $$ [HS HA_10]
  · isplitl [HS]; · iexact HS
    iexact HA_10
  iintro HS HC_10
  iapply (r_ldO (svI I) I K 3 2 _ (off6_3 c) (wv1317 I c) rfl) $$ HS; iintro HS
  iapply (r_ldC 10 fullShare (g10 I (nxt c)) ![2, 2, 0, 0] rfl) $$ HC_10; iintro HC_10
  iapply (r_ldO_any (svI I) I K) $$ HS; iintro %_ HS
  iapply (r_stO (svI I) I K 3 2 _ (off6_3 c) (u7 I c) rfl (o7 I c σ) rfl) $$ HS; iintro HS
  iapply (r_ldO (svI I) I K 3 2 _ (off6_3 c) (wv1327 I c) rfl) $$ HS; iintro HS
  iapply (r_end (b := (wv1327 I c)))
  isplitr; · ipureintro; rfl
  iapply Hk $$ HS HC_10

/-- Part 42 of the body. -/
theorem p42 {Q} : iprop(St (svI I) I K c 14 14 11 (o7 I c σ) (x8 I c ε)) ⊢
    iprop((St (svI I) I K c 15 15 11 (o7 I c σ) (x8 I c ε)
        -∗ fly (F := F) c (14 : Fin 24) -∗ Q (wv1345 I c))
      -∗ WP c (k0_part42 (F := F) iM0 h0 iM1 h1 iM2 h2 iM3 h3 oM h4 cM h5 gM h6 eM h7 cc0_scratch3 cc0_scratch4 c (wv2 I c) (wv4 I c) (wv1327 I c)) Q) := by
  rw [k0_part42_eq_skeleton]
  unfold k0_part42_skel
  simp only [Prog.lift, Prog.bind_op, Prog.bind_ret, Prog.pure_eq_ret]
  iintro HS Hk
  iapply (r_ldG_any (svI I) I K (k := 14) 14 rfl ![2, 3, 0, 0] rfl) $$ HS; iintro %_ HS
  iapply (r_stG (svI I) I K (k := 14) 14 rfl ![2, 3, 0, 0] rfl (g14 I c) rfl 15 rfl) $$ HS; iintro HS HG_14
  iapply (r_sendG (svI I) I K (n := 14) 14 rfl (by decide) 14 rfl (g14 I c) rfl _ (dev14 c)
    ((gM.slice (Rect.unit (s := S4x4x512x256) ![2, 3, 0, 0] S1x1x512x256.size inb_S4x4x512x256_S1x1x512x256_2_3_0_0) (fun _ => rfl)).squeeze S512x256 squeezes_S1x1x512x256_S512x256) rfl
    ((cM.slice (Rect.unit (s := S4x6x512x256) ![2, 3, 0, 0] S1x1x512x256.size inb_S4x6x512x256_S1x1x512x256_2_3_0_0) (fun _ => rfl)).squeeze S512x256 squeezes_S1x1x512x256_S512x256) rfl
    (((cc0_scratch3.slice (Rect.unit (s := S4x6) ![2, 3] S1x1.size inb_S4x6_S1x1_2_3)).squeeze S_ squeezes_S1x1_S_).sem) (((cc0_scratch4.slice (Rect.unit (s := S4x6) ![2, 3] S1x1.size inb_S4x6_S1x1_2_3)).squeeze S_ squeezes_S1x1_S_).sem) rfl rfl 15 rfl) $$ [HS HG_14]
  · isplitl [HS]; · iexact HS
    iexact HG_14
  iintro HS HF_14
  iapply (r_end (b := (wv1345 I c)))
  isplitr; · ipureintro; rfl
  iapply Hk $$ HS HF_14

end Cert.MoeProof

end
-- ==== Proof.Parts8.lean ====
/-
# Parts 43 to 48 of the body

Each part takes a device from its state before to its state after, with what is in flight beside it.
-/
module

public import proofs.«01_k».proof.Proof.Vals

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Inp F) (K : Dev nD × Fin 49 → ℕ) (c : Dev nD) (σ : OBlk F) (ε : EBlk F)
variable (h0 : iM0.IsWhole) (h1 : iM1.IsWhole) (h2 : iM2.IsWhole) (h3 : iM3.IsWhole) (h4 : oM.IsWhole) (h5 : cM.IsWhole) (h6 : gM.IsWhole) (h7 : eM.IsWhole)

/-- Part 43 of the body. -/
theorem p43 {Q} : iprop(St (svI I) I K c 15 15 11 (o7 I c σ) (x8 I c ε)
      ∗ fly (F := F) c (11 : Fin 24)) ⊢
    iprop((St (svI I) I K c 15 16 12 (o8 I c σ) (x8 I c ε)
        -∗ own5 c (11 : Fin 24) fullShare (g11 I (nxt c))
        -∗ own6 c (15 : Fin 16) fullShare (g15 I c) -∗ Q ⟨⟩)
      -∗ WP c (k0_part43 (F := F) iM0 h0 iM1 h1 iM2 h2 iM3 h3 oM h4 cM h5 gM h6 eM h7 cc0_scratch3 cc0_scratch4 c (wv4 I c) (wv1345 I c)) Q) := by
  rw [k0_part43_eq_skeleton]
  unfold k0_part43_skel
  simp only [Prog.lift, Prog.bind_op, Prog.bind_ret, Prog.pure_eq_ret]
  iintro ⟨HS, HF_11⟩ Hk
  iapply (r_waitS (svI I) I K 11 (((cc0_scratch3.slice (Rect.unit (s := S4x6) ![3, 2] S1x1.size inb_S4x6_S1x1_3_2)).squeeze S_ squeezes_S1x1_S_).sem) rfl ((cM.slice (Rect.unit (s := S4x6x512x256) ![3, 2, 0, 0] S1x1x512x256.size inb_S4x6x512x256_S1x1x512x256_3_2_0_0) (fun _ => rfl)).squeeze S512x256 squeezes_S1x1x512x256_S512x256) ((gM.slice (Rect.unit (s := S4x4x512x256) ![3, 2, 0, 0] S1x1x512x256.size inb_S4x4x512x256_S1x1x512x256_3_2_0_0) (fun _ => rfl)).squeeze S512x256 squeezes_S1x1x512x256_S512x256) rfl) $$ [HS HF_11]
  · isplitl [HS]; · iexact HS
    iexact HF_11
  iintro HS HA_11
  iapply (r_waitR (svI I) I K (n := 15) (j := 11) 11 rfl (by decide) 12 rfl (g11 I (nxt c)) rfl (((cc0_scratch4.slice (Rect.unit (s := S4x6) ![3, 2] S1x1.size inb_S4x6_S1x1_3_2)).squeeze S_ squeezes_S1x1_S_).sem) rfl ((gM.slice (Rect.unit (s := S4x4x512x256) ![3, 2, 0, 0] S1x1x512x256.size inb_S4x4x512x256_S1x1x512x256_3_2_0_0) (fun _ => rfl)).squeeze S512x256 squeezes_S1x1x512x256_S512x256) ((cM.slice (Rect.unit (s := S4x6x512x256) ![3, 2, 0, 0] S1x1x512x256.size inb_S4x6x512x256_S1x1x512x256_3_2_0_0) (fun _ => rfl)).squeeze S512x256 squeezes_S1x1x512x256_S512x256) rfl) $$ [HS HA_11]
  · isplitl [HS]; · iexact HS
    iexact HA_11
  iintro HS HC_11
  iapply (r_ldO (svI I) I K 3 3 _ (off7_3 c) (wv1362 I c) rfl) $$ HS; iintro HS
  iapply (r_ldC 11 fullShare (g11 I (nxt c)) ![3, 2, 0, 0] rfl) $$ HC_11; iintro HC_11
  iapply (r_ldO_any (svI I) I K) $$ HS; iintro %_ HS
  iapply (r_stO (svI I) I K 3 3 _ (off7_3 c) (u8 I c) rfl (o8 I c σ) rfl) $$ HS; iintro HS
  iapply (r_ldO (svI I) I K 3 3 _ (off7_3 c) (wv1372 I c) rfl) $$ HS; iintro HS
  iapply (r_ldG_any (svI I) I K (k := 15) 15 rfl ![3, 3, 0, 0] rfl) $$ HS; iintro %_ HS
  iapply (r_stG (svI I) I K (k := 15) 15 rfl ![3, 3, 0, 0] rfl (g15 I c) rfl 16 rfl) $$ HS; iintro HS HG_15
  iapply (r_end (b := ⟨⟩))
  isplitr; · ipureintro; rfl
  iapply Hk $$ HS HC_11 HG_15

/-- Part 44 of the body. -/
theorem p44 {Q} : iprop(St (svI I) I K c 15 16 12 (o8 I c σ) (x8 I c ε)
      ∗ own6 c (15 : Fin 16) fullShare (g15 I c)
      ∗ fly (F := F) c (12 : Fin 24)) ⊢
    iprop((St (svI I) I K c 16 16 12 (o8 I c σ) (x8 I c ε)
        -∗ fly (F := F) c (15 : Fin 24)
        -∗ half (svI I) c (12 : Fin 24) -∗ Q ⟨⟩)
      -∗ WP c (k0_part44 (F := F) iM0 h0 iM1 h1 iM2 h2 iM3 h3 oM h4 cM h5 gM h6 eM h7 cc0_scratch3 cc0_scratch4 c (wv4 I c) (wv6 I c)) Q) := by
  rw [k0_part44_eq_skeleton]
  unfold k0_part44_skel
  simp only [Prog.lift, Prog.bind_op, Prog.bind_ret, Prog.pure_eq_ret]
  iintro ⟨HS, HG_15, HF_12⟩ Hk
  iapply (r_sendG (svI I) I K (n := 15) 15 rfl (by decide) 15 rfl (g15 I c) rfl _ (dev15 c)
    ((gM.slice (Rect.unit (s := S4x4x512x256) ![3, 3, 0, 0] S1x1x512x256.size inb_S4x4x512x256_S1x1x512x256_3_3_0_0) (fun _ => rfl)).squeeze S512x256 squeezes_S1x1x512x256_S512x256) rfl
    ((cM.slice (Rect.unit (s := S4x6x512x256) ![3, 3, 0, 0] S1x1x512x256.size inb_S4x6x512x256_S1x1x512x256_3_3_0_0) (fun _ => rfl)).squeeze S512x256 squeezes_S1x1x512x256_S512x256) rfl
    (((cc0_scratch3.slice (Rect.unit (s := S4x6) ![3, 3] S1x1.size inb_S4x6_S1x1_3_3)).squeeze S_ squeezes_S1x1_S_).sem) (((cc0_scratch4.slice (Rect.unit (s := S4x6) ![3, 3] S1x1.size inb_S4x6_S1x1_3_3)).squeeze S_ squeezes_S1x1_S_).sem) rfl rfl 16 rfl) $$ [HS HG_15]
  · isplitl [HS]; · iexact HS
    iexact HG_15
  iintro HS HF_15
  iapply (r_waitS (svI I) I K 12 (((cc0_scratch3.slice (Rect.unit (s := S4x6) ![0, 3] S1x1.size inb_S4x6_S1x1_0_3)).squeeze S_ squeezes_S1x1_S_).sem) rfl ((cM.slice (Rect.unit (s := S4x6x512x256) ![0, 3, 0, 0] S1x1x512x256.size inb_S4x6x512x256_S1x1x512x256_0_3_0_0) (fun _ => rfl)).squeeze S512x256 squeezes_S1x1x512x256_S512x256) ((gM.slice (Rect.unit (s := S4x4x512x256) ![0, 3, 0, 0] S1x1x512x256.size inb_S4x4x512x256_S1x1x512x256_0_3_0_0) (fun _ => rfl)).squeeze S512x256 squeezes_S1x1x512x256_S512x256) rfl) $$ [HS HF_12]
  · isplitl [HS]; · iexact HS
    iexact HF_12
  iintro HS HA_12
  iapply (r_end (b := ⟨⟩))
  isplitr; · ipureintro; rfl
  iapply Hk $$ HS HF_15 HA_12

/-- Part 45 of the body. -/
theorem p45 {Q} : iprop(St (svI I) I K c 16 16 12 (o8 I c σ) (x8 I c ε)
      ∗ half (svI I) c (12 : Fin 24)) ⊢
    iprop((St (svI I) I K c 17 16 13 (o9 I c σ) (x8 I c ε)
        -∗ fly (F := F) c (16 : Fin 24)
        -∗ own5 c (12 : Fin 24) fullShare.right (g12 I (prv c)) -∗ Q ⟨⟩)
      -∗ WP c (k0_part45 (F := F) iM0 h0 iM1 h1 iM2 h2 iM3 h3 oM h4 cM h5 gM h6 eM h7 cc0_scratch3 cc0_scratch4 c (wv2 I c) (wv6 I c)) Q) := by
  rw [k0_part45_eq_skeleton]
  unfold k0_part45_skel
  simp only [Prog.lift, Prog.bind_op, Prog.bind_ret, Prog.pure_eq_ret]
  iintro ⟨HS, HA_12⟩ Hk
  iapply (r_waitR (svI I) I K (n := 16) (j := 12) 12 rfl (by decide) 13 rfl (g12 I (prv c)) rfl (((cc0_scratch4.slice (Rect.unit (s := S4x6) ![0, 3] S1x1.size inb_S4x6_S1x1_0_3)).squeeze S_ squeezes_S1x1_S_).sem) rfl ((gM.slice (Rect.unit (s := S4x4x512x256) ![0, 3, 0, 0] S1x1x512x256.size inb_S4x4x512x256_S1x1x512x256_0_3_0_0) (fun _ => rfl)).squeeze S512x256 squeezes_S1x1x512x256_S512x256) ((cM.slice (Rect.unit (s := S4x6x512x256) ![0, 3, 0, 0] S1x1x512x256.size inb_S4x6x512x256_S1x1x512x256_0_3_0_0) (fun _ => rfl)).squeeze S512x256 squeezes_S1x1x512x256_S512x256) rfl) $$ [HS HA_12]
  · isplitl [HS]; · iexact HS
    iexact HA_12
  iintro HS HC_12
  iapply (r_sendC (svI I) I K (n := 16) 16 12 rfl (by decide) rfl (g12 I (prv c)) rfl _ (dev16 c)
    ((cM.slice (Rect.unit (s := S4x6x512x256) ![0, 3, 0, 0] S1x1x512x256.size inb_S4x6x512x256_S1x1x512x256_0_3_0_0) (fun _ => rfl)).squeeze S512x256 squeezes_S1x1x512x256_S512x256) rfl
    ((cM.slice (Rect.unit (s := S4x6x512x256) ![0, 4, 0, 0] S1x1x512x256.size inb_S4x6x512x256_S1x1x512x256_0_4_0_0) (fun _ => rfl)).squeeze S512x256 squeezes_S1x1x512x256_S512x256) rfl
    (((cc0_scratch3.slice (Rect.unit (s := S4x6) ![0, 4] S1x1.size inb_S4x6_S1x1_0_4)).squeeze S_ squeezes_S1x1_S_).sem) (((cc0_scratch4.slice (Rect.unit (s := S4x6) ![0, 4] S1x1.size inb_S4x6_S1x1_0_4)).squeeze S_ squeezes_S1x1_S_).sem) rfl rfl 17 rfl) $$ [HS HC_12]
  · isplitl [HS]; · iexact HS
    iexact HC_12
  iintro HS HF_16 HC_12
  iapply (r_ldC 12 fullShare.right (g12 I (prv c)) ![0, 3, 0, 0] rfl) $$ HC_12; iintro HC_12
  iapply (r_ldO_any (svI I) I K) $$ HS; iintro %_ HS
  iapply (r_stO (svI I) I K 0 0 _ (off4_0 c) (u9 I c) rfl (o9 I c σ) rfl) $$ HS; iintro HS
  iapply (r_end (b := ⟨⟩))
  isplitr; · ipureintro; rfl
  iapply Hk $$ HS HF_16 HC_12

/-- Part 46 of the body. -/
theorem p46 {Q} : iprop(St (svI I) I K c 17 16 13 (o9 I c σ) (x8 I c ε)
      ∗ fly (F := F) c (13 : Fin 24)) ⊢
    iprop((St (svI I) I K c 18 16 14 (o9 I c σ) (x8 I c ε)
        -∗ own5 c (13 : Fin 24) fullShare.right (g13 I (prv c))
        -∗ fly (F := F) c (17 : Fin 24) -∗ Q ⟨wv1445 I c, wc8_i32_1205 I c⟩)
      -∗ WP c (k0_part46 (F := F) iM0 h0 iM1 h1 iM2 h2 iM3 h3 oM h4 cM h5 gM h6 eM h7 cc0_scratch3 cc0_scratch4 c (wv2 I c) (wv6 I c)) Q) := by
  rw [k0_part46_eq_skeleton]
  unfold k0_part46_skel
  simp only [Prog.lift, Prog.bind_op, Prog.bind_ret, Prog.pure_eq_ret]
  iintro ⟨HS, HF_13⟩ Hk
  iapply (r_waitS (svI I) I K 13 (((cc0_scratch3.slice (Rect.unit (s := S4x6) ![1, 3] S1x1.size inb_S4x6_S1x1_1_3)).squeeze S_ squeezes_S1x1_S_).sem) rfl ((cM.slice (Rect.unit (s := S4x6x512x256) ![1, 3, 0, 0] S1x1x512x256.size inb_S4x6x512x256_S1x1x512x256_1_3_0_0) (fun _ => rfl)).squeeze S512x256 squeezes_S1x1x512x256_S512x256) ((gM.slice (Rect.unit (s := S4x4x512x256) ![1, 3, 0, 0] S1x1x512x256.size inb_S4x4x512x256_S1x1x512x256_1_3_0_0) (fun _ => rfl)).squeeze S512x256 squeezes_S1x1x512x256_S512x256) rfl) $$ [HS HF_13]
  · isplitl [HS]; · iexact HS
    iexact HF_13
  iintro HS HA_13
  iapply (r_waitR (svI I) I K (n := 17) (j := 13) 13 rfl (by decide) 14 rfl (g13 I (prv c)) rfl (((cc0_scratch4.slice (Rect.unit (s := S4x6) ![1, 3] S1x1.size inb_S4x6_S1x1_1_3)).squeeze S_ squeezes_S1x1_S_).sem) rfl ((gM.slice (Rect.unit (s := S4x4x512x256) ![1, 3, 0, 0] S1x1x512x256.size inb_S4x4x512x256_S1x1x512x256_1_3_0_0) (fun _ => rfl)).squeeze S512x256 squeezes_S1x1x512x256_S512x256) ((cM.slice (Rect.unit (s := S4x6x512x256) ![1, 3, 0, 0] S1x1x512x256.size inb_S4x6x512x256_S1x1x512x256_1_3_0_0) (fun _ => rfl)).squeeze S512x256 squeezes_S1x1x512x256_S512x256) rfl) $$ [HS HA_13]
  · isplitl [HS]; · iexact HS
    iexact HA_13
  iintro HS HC_13
  iapply (r_sendC (svI I) I K (n := 17) 17 13 rfl (by decide) rfl (g13 I (prv c)) rfl _ (dev17 c)
    ((cM.slice (Rect.unit (s := S4x6x512x256) ![1, 3, 0, 0] S1x1x512x256.size inb_S4x6x512x256_S1x1x512x256_1_3_0_0) (fun _ => rfl)).squeeze S512x256 squeezes_S1x1x512x256_S512x256) rfl
    ((cM.slice (Rect.unit (s := S4x6x512x256) ![1, 4, 0, 0] S1x1x512x256.size inb_S4x6x512x256_S1x1x512x256_1_4_0_0) (fun _ => rfl)).squeeze S512x256 squeezes_S1x1x512x256_S512x256) rfl
    (((cc0_scratch3.slice (Rect.unit (s := S4x6) ![1, 4] S1x1.size inb_S4x6_S1x1_1_4)).squeeze S_ squeezes_S1x1_S_).sem) (((cc0_scratch4.slice (Rect.unit (s := S4x6) ![1, 4] S1x1.size inb_S4x6_S1x1_1_4)).squeeze S_ squeezes_S1x1_S_).sem) rfl rfl 18 rfl) $$ [HS HC_13]
  · isplitl [HS]; · iexact HS
    iexact HC_13
  iintro HS HF_17 HC_13
  iapply (r_end (b := ⟨wv1445 I c, wc8_i32_1205 I c⟩))
  isplitr; · ipureintro; rfl
  iapply Hk $$ HS HC_13 HF_17

/-- Part 47 of the body. -/
theorem p47 {Q} : iprop(St (svI I) I K c 18 16 14 (o9 I c σ) (x8 I c ε)
      ∗ own5 c (13 : Fin 24) fullShare.right (g13 I (prv c))
      ∗ fly (F := F) c (14 : Fin 24)) ⊢
    iprop((St (svI I) I K c 18 16 15 (o10 I c σ) (x8 I c ε)
        -∗ own5 c (13 : Fin 24) fullShare.right (g13 I (prv c))
        -∗ own5 c (14 : Fin 24) fullShare (g14 I (nxt c)) -∗ Q ⟨⟩)
      -∗ WP c (k0_part47 (F := F) iM0 h0 iM1 h1 iM2 h2 iM3 h3 oM h4 cM h5 gM h6 eM h7 cc0_scratch3 cc0_scratch4 c (wv4 I c) (wv1445 I c) (wc8_i32_1205 I c)) Q) := by
  rw [k0_part47_eq_skeleton]
  unfold k0_part47_skel
  simp only [Prog.lift, Prog.bind_op, Prog.bind_ret, Prog.pure_eq_ret]
  iintro ⟨HS, HC_13, HF_14⟩ Hk
  iapply (r_ldC 13 fullShare.right (g13 I (prv c)) ![1, 3, 0, 0] rfl) $$ HC_13; iintro HC_13
  iapply (r_ldO_any (svI I) I K) $$ HS; iintro %_ HS
  iapply (r_stO (svI I) I K 0 1 _ (off5_0 c) (u10 I c) rfl (o10 I c σ) rfl) $$ HS; iintro HS
  iapply (r_waitS (svI I) I K 14 (((cc0_scratch3.slice (Rect.unit (s := S4x6) ![2, 3] S1x1.size inb_S4x6_S1x1_2_3)).squeeze S_ squeezes_S1x1_S_).sem) rfl ((cM.slice (Rect.unit (s := S4x6x512x256) ![2, 3, 0, 0] S1x1x512x256.size inb_S4x6x512x256_S1x1x512x256_2_3_0_0) (fun _ => rfl)).squeeze S512x256 squeezes_S1x1x512x256_S512x256) ((gM.slice (Rect.unit (s := S4x4x512x256) ![2, 3, 0, 0] S1x1x512x256.size inb_S4x4x512x256_S1x1x512x256_2_3_0_0) (fun _ => rfl)).squeeze S512x256 squeezes_S1x1x512x256_S512x256) rfl) $$ [HS HF_14]
  · isplitl [HS]; · iexact HS
    iexact HF_14
  iintro HS HA_14
  iapply (r_waitR (svI I) I K (n := 18) (j := 14) 14 rfl (by decide) 15 rfl (g14 I (nxt c)) rfl (((cc0_scratch4.slice (Rect.unit (s := S4x6) ![2, 3] S1x1.size inb_S4x6_S1x1_2_3)).squeeze S_ squeezes_S1x1_S_).sem) rfl ((gM.slice (Rect.unit (s := S4x4x512x256) ![2, 3, 0, 0] S1x1x512x256.size inb_S4x4x512x256_S1x1x512x256_2_3_0_0) (fun _ => rfl)).squeeze S512x256 squeezes_S1x1x512x256_S512x256) ((cM.slice (Rect.unit (s := S4x6x512x256) ![2, 3, 0, 0] S1x1x512x256.size inb_S4x6x512x256_S1x1x512x256_2_3_0_0) (fun _ => rfl)).squeeze S512x256 squeezes_S1x1x512x256_S512x256) rfl) $$ [HS HA_14]
  · isplitl [HS]; · iexact HS
    iexact HA_14
  iintro HS HC_14
  iapply (r_end (b := ⟨⟩))
  isplitr; · ipureintro; rfl
  iapply Hk $$ HS HC_13 HC_14

/-- Part 48 of the body. -/
theorem p48 {Q} : iprop(St (svI I) I K c 18 16 15 (o10 I c σ) (x8 I c ε)
      ∗ own5 c (14 : Fin 24) fullShare (g14 I (nxt c))) ⊢
    iprop((St (svI I) I K c 19 16 15 (o11 I c σ) (x8 I c ε)
        -∗ fly (F := F) c (18 : Fin 24)
        -∗ own5 c (14 : Fin 24) fullShare.right (g14 I (nxt c)) -∗ Q ⟨⟩)
      -∗ WP c (k0_part48 (F := F) iM0 h0 iM1 h1 iM2 h2 iM3 h3 oM h4 cM h5 gM h6 eM h7 cc0_scratch3 cc0_scratch4 c (wv2 I c) (wv4 I c)) Q) := by
  rw [k0_part48_eq_skeleton]
  unfold k0_part48_skel
  simp only [Prog.lift, Prog.bind_op, Prog.bind_ret, Prog.pure_eq_ret]
  iintro ⟨HS, HC_14⟩ Hk
  iapply (r_sendC (svI I) I K (n := 18) 18 14 rfl (by decide) rfl (g14 I (nxt c)) rfl _ (dev18 c)
    ((cM.slice (Rect.unit (s := S4x6x512x256) ![2, 3, 0, 0] S1x1x512x256.size inb_S4x6x512x256_S1x1x512x256_2_3_0_0) (fun _ => rfl)).squeeze S512x256 squeezes_S1x1x512x256_S512x256) rfl
    ((cM.slice (Rect.unit (s := S4x6x512x256) ![2, 4, 0, 0] S1x1x512x256.size inb_S4x6x512x256_S1x1x512x256_2_4_0_0) (fun _ => rfl)).squeeze S512x256 squeezes_S1x1x512x256_S512x256) rfl
    (((cc0_scratch3.slice (Rect.unit (s := S4x6) ![2, 4] S1x1.size inb_S4x6_S1x1_2_4)).squeeze S_ squeezes_S1x1_S_).sem) (((cc0_scratch4.slice (Rect.unit (s := S4x6) ![2, 4] S1x1.size inb_S4x6_S1x1_2_4)).squeeze S_ squeezes_S1x1_S_).sem) rfl rfl 19 rfl) $$ [HS HC_14]
  · isplitl [HS]; · iexact HS
    iexact HC_14
  iintro HS HF_18 HC_14
  iapply (r_ldC 14 fullShare.right (g14 I (nxt c)) ![2, 3, 0, 0] rfl) $$ HC_14; iintro HC_14
  iapply (r_ldO_any (svI I) I K) $$ HS; iintro %_ HS
  iapply (r_stO (svI I) I K 0 2 _ (off6_0 c) (u11 I c) rfl (o11 I c σ) rfl) $$ HS; iintro HS
  iapply (r_end (b := ⟨⟩))
  isplitr; · ipureintro; rfl
  iapply Hk $$ HS HF_18 HC_14

end Cert.MoeProof

end
-- ==== Proof.Parts9.lean ====
/-
# Parts 49 to 54 of the body

Each part takes a device from its state before to its state after, with what is in flight beside it.
-/
module

public import proofs.«01_k».proof.Proof.Vals

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Inp F) (K : Dev nD × Fin 49 → ℕ) (c : Dev nD) (σ : OBlk F) (ε : EBlk F)
variable (h0 : iM0.IsWhole) (h1 : iM1.IsWhole) (h2 : iM2.IsWhole) (h3 : iM3.IsWhole) (h4 : oM.IsWhole) (h5 : cM.IsWhole) (h6 : gM.IsWhole) (h7 : eM.IsWhole)

/-- Part 49 of the body. -/
theorem p49 {Q} : iprop(St (svI I) I K c 19 16 15 (o11 I c σ) (x8 I c ε)
      ∗ fly (F := F) c (15 : Fin 24)) ⊢
    iprop((St (svI I) I K c 20 16 16 (o11 I c σ) (x8 I c ε)
        -∗ own5 c (15 : Fin 24) fullShare.right (g15 I (nxt c))
        -∗ fly (F := F) c (19 : Fin 24) -∗ Q (wv1513 I c))
      -∗ WP c (k0_part49 (F := F) iM0 h0 iM1 h1 iM2 h2 iM3 h3 oM h4 cM h5 gM h6 eM h7 cc0_scratch3 cc0_scratch4 c (wv2 I c) (wv4 I c)) Q) := by
  rw [k0_part49_eq_skeleton]
  unfold k0_part49_skel
  simp only [Prog.lift, Prog.bind_op, Prog.bind_ret, Prog.pure_eq_ret]
  iintro ⟨HS, HF_15⟩ Hk
  iapply (r_waitS (svI I) I K 15 (((cc0_scratch3.slice (Rect.unit (s := S4x6) ![3, 3] S1x1.size inb_S4x6_S1x1_3_3)).squeeze S_ squeezes_S1x1_S_).sem) rfl ((cM.slice (Rect.unit (s := S4x6x512x256) ![3, 3, 0, 0] S1x1x512x256.size inb_S4x6x512x256_S1x1x512x256_3_3_0_0) (fun _ => rfl)).squeeze S512x256 squeezes_S1x1x512x256_S512x256) ((gM.slice (Rect.unit (s := S4x4x512x256) ![3, 3, 0, 0] S1x1x512x256.size inb_S4x4x512x256_S1x1x512x256_3_3_0_0) (fun _ => rfl)).squeeze S512x256 squeezes_S1x1x512x256_S512x256) rfl) $$ [HS HF_15]
  · isplitl [HS]; · iexact HS
    iexact HF_15
  iintro HS HA_15
  iapply (r_waitR (svI I) I K (n := 19) (j := 15) 15 rfl (by decide) 16 rfl (g15 I (nxt c)) rfl (((cc0_scratch4.slice (Rect.unit (s := S4x6) ![3, 3] S1x1.size inb_S4x6_S1x1_3_3)).squeeze S_ squeezes_S1x1_S_).sem) rfl ((gM.slice (Rect.unit (s := S4x4x512x256) ![3, 3, 0, 0] S1x1x512x256.size inb_S4x4x512x256_S1x1x512x256_3_3_0_0) (fun _ => rfl)).squeeze S512x256 squeezes_S1x1x512x256_S512x256) ((cM.slice (Rect.unit (s := S4x6x512x256) ![3, 3, 0, 0] S1x1x512x256.size inb_S4x6x512x256_S1x1x512x256_3_3_0_0) (fun _ => rfl)).squeeze S512x256 squeezes_S1x1x512x256_S512x256) rfl) $$ [HS HA_15]
  · isplitl [HS]; · iexact HS
    iexact HA_15
  iintro HS HC_15
  iapply (r_sendC (svI I) I K (n := 19) 19 15 rfl (by decide) rfl (g15 I (nxt c)) rfl _ (dev19 c)
    ((cM.slice (Rect.unit (s := S4x6x512x256) ![3, 3, 0, 0] S1x1x512x256.size inb_S4x6x512x256_S1x1x512x256_3_3_0_0) (fun _ => rfl)).squeeze S512x256 squeezes_S1x1x512x256_S512x256) rfl
    ((cM.slice (Rect.unit (s := S4x6x512x256) ![3, 4, 0, 0] S1x1x512x256.size inb_S4x6x512x256_S1x1x512x256_3_4_0_0) (fun _ => rfl)).squeeze S512x256 squeezes_S1x1x512x256_S512x256) rfl
    (((cc0_scratch3.slice (Rect.unit (s := S4x6) ![3, 4] S1x1.size inb_S4x6_S1x1_3_4)).squeeze S_ squeezes_S1x1_S_).sem) (((cc0_scratch4.slice (Rect.unit (s := S4x6) ![3, 4] S1x1.size inb_S4x6_S1x1_3_4)).squeeze S_ squeezes_S1x1_S_).sem) rfl rfl 20 rfl) $$ [HS HC_15]
  · isplitl [HS]; · iexact HS
    iexact HC_15
  iintro HS HF_19 HC_15
  iapply (r_end (b := (wv1513 I c)))
  isplitr; · ipureintro; rfl
  iapply Hk $$ HS HC_15 HF_19

/-- Part 50 of the body. -/
theorem p50 {Q} : iprop(St (svI I) I K c 20 16 16 (o11 I c σ) (x8 I c ε)
      ∗ own5 c (15 : Fin 24) fullShare.right (g15 I (nxt c))
      ∗ fly (F := F) c (16 : Fin 24)) ⊢
    iprop((St (svI I) I K c 20 16 17 (o12 I c σ) (x8 I c ε)
        -∗ own5 c (15 : Fin 24) fullShare.right (g15 I (nxt c))
        -∗ own5 c (16 : Fin 24) fullShare (g16 I (prv c)) -∗ Q ⟨⟩)
      -∗ WP c (k0_part50 (F := F) iM0 h0 iM1 h1 iM2 h2 iM3 h3 oM h4 cM h5 gM h6 eM h7 cc0_scratch3 cc0_scratch4 c (wv6 I c) (wv1513 I c)) Q) := by
  rw [k0_part50_eq_skeleton]
  unfold k0_part50_skel
  simp only [Prog.lift, Prog.bind_op, Prog.bind_ret, Prog.pure_eq_ret]
  iintro ⟨HS, HC_15, HF_16⟩ Hk
  iapply (r_ldC 15 fullShare.right (g15 I (nxt c)) ![3, 3, 0, 0] rfl) $$ HC_15; iintro HC_15
  iapply (r_ldO_any (svI I) I K) $$ HS; iintro %_ HS
  iapply (r_stO (svI I) I K 0 3 _ (off7_0 c) (u12 I c) rfl (o12 I c σ) rfl) $$ HS; iintro HS
  iapply (r_waitS (svI I) I K 16 (((cc0_scratch3.slice (Rect.unit (s := S4x6) ![0, 4] S1x1.size inb_S4x6_S1x1_0_4)).squeeze S_ squeezes_S1x1_S_).sem) rfl ((cM.slice (Rect.unit (s := S4x6x512x256) ![0, 4, 0, 0] S1x1x512x256.size inb_S4x6x512x256_S1x1x512x256_0_4_0_0) (fun _ => rfl)).squeeze S512x256 squeezes_S1x1x512x256_S512x256) ((cM.slice (Rect.unit (s := S4x6x512x256) ![0, 3, 0, 0] S1x1x512x256.size inb_S4x6x512x256_S1x1x512x256_0_3_0_0) (fun _ => rfl)).squeeze S512x256 squeezes_S1x1x512x256_S512x256) rfl) $$ [HS HF_16]
  · isplitl [HS]; · iexact HS
    iexact HF_16
  iintro HS HA_16
  iapply (r_waitR (svI I) I K (n := 20) (j := 16) 16 rfl (by decide) 17 rfl (g16 I (prv c)) rfl (((cc0_scratch4.slice (Rect.unit (s := S4x6) ![0, 4] S1x1.size inb_S4x6_S1x1_0_4)).squeeze S_ squeezes_S1x1_S_).sem) rfl ((cM.slice (Rect.unit (s := S4x6x512x256) ![0, 3, 0, 0] S1x1x512x256.size inb_S4x6x512x256_S1x1x512x256_0_3_0_0) (fun _ => rfl)).squeeze S512x256 squeezes_S1x1x512x256_S512x256) ((cM.slice (Rect.unit (s := S4x6x512x256) ![0, 4, 0, 0] S1x1x512x256.size inb_S4x6x512x256_S1x1x512x256_0_4_0_0) (fun _ => rfl)).squeeze S512x256 squeezes_S1x1x512x256_S512x256) rfl) $$ [HS HA_16]
  · isplitl [HS]; · iexact HS
    iexact HA_16
  iintro HS HC_16
  iapply (r_end (b := ⟨⟩))
  isplitr; · ipureintro; rfl
  iapply Hk $$ HS HC_15 HC_16

/-- Part 51 of the body. -/
theorem p51 {Q} : iprop(St (svI I) I K c 20 16 17 (o12 I c σ) (x8 I c ε)
      ∗ own5 c (16 : Fin 24) fullShare (g16 I (prv c))
      ∗ fly (F := F) c (17 : Fin 24)) ⊢
    iprop((St (svI I) I K c 21 16 17 (o13 I c σ) (x8 I c ε)
        -∗ fly (F := F) c (20 : Fin 24)
        -∗ own5 c (16 : Fin 24) fullShare.right (g16 I (prv c))
        -∗ half (svI I) c (17 : Fin 24) -∗ Q ⟨⟩)
      -∗ WP c (k0_part51 (F := F) iM0 h0 iM1 h1 iM2 h2 iM3 h3 oM h4 cM h5 gM h6 eM h7 cc0_scratch3 cc0_scratch4 c (wv2 I c) (wv6 I c)) Q) := by
  rw [k0_part51_eq_skeleton]
  unfold k0_part51_skel
  simp only [Prog.lift, Prog.bind_op, Prog.bind_ret, Prog.pure_eq_ret]
  iintro ⟨HS, HC_16, HF_17⟩ Hk
  iapply (r_sendC (svI I) I K (n := 20) 20 16 rfl (by decide) rfl (g16 I (prv c)) rfl _ (dev20 c)
    ((cM.slice (Rect.unit (s := S4x6x512x256) ![0, 4, 0, 0] S1x1x512x256.size inb_S4x6x512x256_S1x1x512x256_0_4_0_0) (fun _ => rfl)).squeeze S512x256 squeezes_S1x1x512x256_S512x256) rfl
    ((cM.slice (Rect.unit (s := S4x6x512x256) ![0, 5, 0, 0] S1x1x512x256.size inb_S4x6x512x256_S1x1x512x256_0_5_0_0) (fun _ => rfl)).squeeze S512x256 squeezes_S1x1x512x256_S512x256) rfl
    (((cc0_scratch3.slice (Rect.unit (s := S4x6) ![0, 5] S1x1.size inb_S4x6_S1x1_0_5)).squeeze S_ squeezes_S1x1_S_).sem) (((cc0_scratch4.slice (Rect.unit (s := S4x6) ![0, 5] S1x1.size inb_S4x6_S1x1_0_5)).squeeze S_ squeezes_S1x1_S_).sem) rfl rfl 21 rfl) $$ [HS HC_16]
  · isplitl [HS]; · iexact HS
    iexact HC_16
  iintro HS HF_20 HC_16
  iapply (r_ldC 16 fullShare.right (g16 I (prv c)) ![0, 4, 0, 0] rfl) $$ HC_16; iintro HC_16
  iapply (r_ldO_any (svI I) I K) $$ HS; iintro %_ HS
  iapply (r_stO (svI I) I K 3 0 _ (off4_3 c) (u13 I c) rfl (o13 I c σ) rfl) $$ HS; iintro HS
  iapply (r_waitS (svI I) I K 17 (((cc0_scratch3.slice (Rect.unit (s := S4x6) ![1, 4] S1x1.size inb_S4x6_S1x1_1_4)).squeeze S_ squeezes_S1x1_S_).sem) rfl ((cM.slice (Rect.unit (s := S4x6x512x256) ![1, 4, 0, 0] S1x1x512x256.size inb_S4x6x512x256_S1x1x512x256_1_4_0_0) (fun _ => rfl)).squeeze S512x256 squeezes_S1x1x512x256_S512x256) ((cM.slice (Rect.unit (s := S4x6x512x256) ![1, 3, 0, 0] S1x1x512x256.size inb_S4x6x512x256_S1x1x512x256_1_3_0_0) (fun _ => rfl)).squeeze S512x256 squeezes_S1x1x512x256_S512x256) rfl) $$ [HS HF_17]
  · isplitl [HS]; · iexact HS
    iexact HF_17
  iintro HS HA_17
  iapply (r_end (b := ⟨⟩))
  isplitr; · ipureintro; rfl
  iapply Hk $$ HS HF_20 HC_16 HA_17

/-- Part 52 of the body. -/
theorem p52 {Q} : iprop(St (svI I) I K c 21 16 17 (o13 I c σ) (x8 I c ε)
      ∗ half (svI I) c (17 : Fin 24)) ⊢
    iprop((St (svI I) I K c 22 16 18 (o13 I c σ) (x8 I c ε)
        -∗ fly (F := F) c (21 : Fin 24)
        -∗ own5 c (17 : Fin 24) fullShare.right (g17 I (prv c)) -∗ Q ⟨wv1582 I c, wv1583 I c⟩)
      -∗ WP c (k0_part52 (F := F) iM0 h0 iM1 h1 iM2 h2 iM3 h3 oM h4 cM h5 gM h6 eM h7 cc0_scratch3 cc0_scratch4 c (wv2 I c) (wv6 I c)) Q) := by
  rw [k0_part52_eq_skeleton]
  unfold k0_part52_skel
  simp only [Prog.lift, Prog.bind_op, Prog.bind_ret, Prog.pure_eq_ret]
  iintro ⟨HS, HA_17⟩ Hk
  iapply (r_waitR (svI I) I K (n := 21) (j := 17) 17 rfl (by decide) 18 rfl (g17 I (prv c)) rfl (((cc0_scratch4.slice (Rect.unit (s := S4x6) ![1, 4] S1x1.size inb_S4x6_S1x1_1_4)).squeeze S_ squeezes_S1x1_S_).sem) rfl ((cM.slice (Rect.unit (s := S4x6x512x256) ![1, 3, 0, 0] S1x1x512x256.size inb_S4x6x512x256_S1x1x512x256_1_3_0_0) (fun _ => rfl)).squeeze S512x256 squeezes_S1x1x512x256_S512x256) ((cM.slice (Rect.unit (s := S4x6x512x256) ![1, 4, 0, 0] S1x1x512x256.size inb_S4x6x512x256_S1x1x512x256_1_4_0_0) (fun _ => rfl)).squeeze S512x256 squeezes_S1x1x512x256_S512x256) rfl) $$ [HS HA_17]
  · isplitl [HS]; · iexact HS
    iexact HA_17
  iintro HS HC_17
  iapply (r_sendC (svI I) I K (n := 21) 21 17 rfl (by decide) rfl (g17 I (prv c)) rfl _ (dev21 c)
    ((cM.slice (Rect.unit (s := S4x6x512x256) ![1, 4, 0, 0] S1x1x512x256.size inb_S4x6x512x256_S1x1x512x256_1_4_0_0) (fun _ => rfl)).squeeze S512x256 squeezes_S1x1x512x256_S512x256) rfl
    ((cM.slice (Rect.unit (s := S4x6x512x256) ![1, 5, 0, 0] S1x1x512x256.size inb_S4x6x512x256_S1x1x512x256_1_5_0_0) (fun _ => rfl)).squeeze S512x256 squeezes_S1x1x512x256_S512x256) rfl
    (((cc0_scratch3.slice (Rect.unit (s := S4x6) ![1, 5] S1x1.size inb_S4x6_S1x1_1_5)).squeeze S_ squeezes_S1x1_S_).sem) (((cc0_scratch4.slice (Rect.unit (s := S4x6) ![1, 5] S1x1.size inb_S4x6_S1x1_1_5)).squeeze S_ squeezes_S1x1_S_).sem) rfl rfl 22 rfl) $$ [HS HC_17]
  · isplitl [HS]; · iexact HS
    iexact HC_17
  iintro HS HF_21 HC_17
  iapply (r_ldC 17 fullShare.right (g17 I (prv c)) ![1, 4, 0, 0] rfl) $$ HC_17; iintro HC_17
  iapply (r_end (b := ⟨wv1582 I c, wv1583 I c⟩))
  isplitr; · ipureintro; rfl
  iapply Hk $$ HS HF_21 HC_17

/-- Part 53 of the body. -/
theorem p53 {Q} : iprop(St (svI I) I K c 22 16 18 (o13 I c σ) (x8 I c ε)
      ∗ fly (F := F) c (18 : Fin 24)) ⊢
    iprop((St (svI I) I K c 22 16 19 (o14 I c σ) (x8 I c ε)
        -∗ own5 c (18 : Fin 24) fullShare (g18 I (nxt c)) -∗ Q ⟨⟩)
      -∗ WP c (k0_part53 (F := F) iM0 h0 iM1 h1 iM2 h2 iM3 h3 oM h4 cM h5 gM h6 eM h7 cc0_scratch3 cc0_scratch4 c (wv4 I c) (wv1582 I c) (wv1583 I c)) Q) := by
  rw [k0_part53_eq_skeleton]
  unfold k0_part53_skel
  simp only [Prog.lift, Prog.bind_op, Prog.bind_ret, Prog.pure_eq_ret]
  iintro ⟨HS, HF_18⟩ Hk
  iapply (r_ldO_any (svI I) I K) $$ HS; iintro %_ HS
  iapply (r_stO (svI I) I K 3 1 _ (off5_3 c) (u14 I c) rfl (o14 I c σ) rfl) $$ HS; iintro HS
  iapply (r_waitS (svI I) I K 18 (((cc0_scratch3.slice (Rect.unit (s := S4x6) ![2, 4] S1x1.size inb_S4x6_S1x1_2_4)).squeeze S_ squeezes_S1x1_S_).sem) rfl ((cM.slice (Rect.unit (s := S4x6x512x256) ![2, 4, 0, 0] S1x1x512x256.size inb_S4x6x512x256_S1x1x512x256_2_4_0_0) (fun _ => rfl)).squeeze S512x256 squeezes_S1x1x512x256_S512x256) ((cM.slice (Rect.unit (s := S4x6x512x256) ![2, 3, 0, 0] S1x1x512x256.size inb_S4x6x512x256_S1x1x512x256_2_3_0_0) (fun _ => rfl)).squeeze S512x256 squeezes_S1x1x512x256_S512x256) rfl) $$ [HS HF_18]
  · isplitl [HS]; · iexact HS
    iexact HF_18
  iintro HS HA_18
  iapply (r_waitR (svI I) I K (n := 22) (j := 18) 18 rfl (by decide) 19 rfl (g18 I (nxt c)) rfl (((cc0_scratch4.slice (Rect.unit (s := S4x6) ![2, 4] S1x1.size inb_S4x6_S1x1_2_4)).squeeze S_ squeezes_S1x1_S_).sem) rfl ((cM.slice (Rect.unit (s := S4x6x512x256) ![2, 3, 0, 0] S1x1x512x256.size inb_S4x6x512x256_S1x1x512x256_2_3_0_0) (fun _ => rfl)).squeeze S512x256 squeezes_S1x1x512x256_S512x256) ((cM.slice (Rect.unit (s := S4x6x512x256) ![2, 4, 0, 0] S1x1x512x256.size inb_S4x6x512x256_S1x1x512x256_2_4_0_0) (fun _ => rfl)).squeeze S512x256 squeezes_S1x1x512x256_S512x256) rfl) $$ [HS HA_18]
  · isplitl [HS]; · iexact HS
    iexact HA_18
  iintro HS HC_18
  iapply (r_end (b := ⟨⟩))
  isplitr; · ipureintro; rfl
  iapply Hk $$ HS HC_18

/-- Part 54 of the body. -/
theorem p54 {Q} : iprop(St (svI I) I K c 22 16 19 (o14 I c σ) (x8 I c ε)
      ∗ own5 c (18 : Fin 24) fullShare (g18 I (nxt c))
      ∗ fly (F := F) c (19 : Fin 24)) ⊢
    iprop((St (svI I) I K c 23 16 19 (o15 I c σ) (x8 I c ε)
        -∗ fly (F := F) c (22 : Fin 24)
        -∗ own5 c (18 : Fin 24) fullShare.right (g18 I (nxt c))
        -∗ half (svI I) c (19 : Fin 24) -∗ Q (wc1_i32_1484 I c))
      -∗ WP c (k0_part54 (F := F) iM0 h0 iM1 h1 iM2 h2 iM3 h3 oM h4 cM h5 gM h6 eM h7 cc0_scratch3 cc0_scratch4 c (wv2 I c)) Q) := by
  rw [k0_part54_eq_skeleton]
  unfold k0_part54_skel
  simp only [Prog.lift, Prog.bind_op, Prog.bind_ret, Prog.pure_eq_ret]
  iintro ⟨HS, HC_18, HF_19⟩ Hk
  iapply (r_sendC (svI I) I K (n := 22) 22 18 rfl (by decide) rfl (g18 I (nxt c)) rfl _ (dev22 c)
    ((cM.slice (Rect.unit (s := S4x6x512x256) ![2, 4, 0, 0] S1x1x512x256.size inb_S4x6x512x256_S1x1x512x256_2_4_0_0) (fun _ => rfl)).squeeze S512x256 squeezes_S1x1x512x256_S512x256) rfl
    ((cM.slice (Rect.unit (s := S4x6x512x256) ![2, 5, 0, 0] S1x1x512x256.size inb_S4x6x512x256_S1x1x512x256_2_5_0_0) (fun _ => rfl)).squeeze S512x256 squeezes_S1x1x512x256_S512x256) rfl
    (((cc0_scratch3.slice (Rect.unit (s := S4x6) ![2, 5] S1x1.size inb_S4x6_S1x1_2_5)).squeeze S_ squeezes_S1x1_S_).sem) (((cc0_scratch4.slice (Rect.unit (s := S4x6) ![2, 5] S1x1.size inb_S4x6_S1x1_2_5)).squeeze S_ squeezes_S1x1_S_).sem) rfl rfl 23 rfl) $$ [HS HC_18]
  · isplitl [HS]; · iexact HS
    iexact HC_18
  iintro HS HF_22 HC_18
  iapply (r_ldC 18 fullShare.right (g18 I (nxt c)) ![2, 4, 0, 0] rfl) $$ HC_18; iintro HC_18
  iapply (r_ldO_any (svI I) I K) $$ HS; iintro %_ HS
  iapply (r_stO (svI I) I K 1 2 _ (off6_1 c) (u15 I c) rfl (o15 I c σ) rfl) $$ HS; iintro HS
  iapply (r_waitS (svI I) I K 19 (((cc0_scratch3.slice (Rect.unit (s := S4x6) ![3, 4] S1x1.size inb_S4x6_S1x1_3_4)).squeeze S_ squeezes_S1x1_S_).sem) rfl ((cM.slice (Rect.unit (s := S4x6x512x256) ![3, 4, 0, 0] S1x1x512x256.size inb_S4x6x512x256_S1x1x512x256_3_4_0_0) (fun _ => rfl)).squeeze S512x256 squeezes_S1x1x512x256_S512x256) ((cM.slice (Rect.unit (s := S4x6x512x256) ![3, 3, 0, 0] S1x1x512x256.size inb_S4x6x512x256_S1x1x512x256_3_3_0_0) (fun _ => rfl)).squeeze S512x256 squeezes_S1x1x512x256_S512x256) rfl) $$ [HS HF_19]
  · isplitl [HS]; · iexact HS
    iexact HF_19
  iintro HS HA_19
  iapply (r_end (b := (wc1_i32_1484 I c)))
  isplitr; · ipureintro; rfl
  iapply Hk $$ HS HF_22 HC_18 HA_19

end Cert.MoeProof

end
-- ==== Proof.Parts10.lean ====
/-
# Parts 55 to 59 of the body

Each part takes a device from its state before to its state after, with what is in flight beside it.
-/
module

public import proofs.«01_k».proof.Proof.Vals

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Inp F) (K : Dev nD × Fin 49 → ℕ) (c : Dev nD) (σ : OBlk F) (ε : EBlk F)
variable (h0 : iM0.IsWhole) (h1 : iM1.IsWhole) (h2 : iM2.IsWhole) (h3 : iM3.IsWhole) (h4 : oM.IsWhole) (h5 : cM.IsWhole) (h6 : gM.IsWhole) (h7 : eM.IsWhole)

/-- Part 55 of the body. -/
theorem p55 {Q} : iprop(St (svI I) I K c 23 16 19 (o15 I c σ) (x8 I c ε)
      ∗ half (svI I) c (19 : Fin 24)) ⊢
    iprop((St (svI I) I K c 24 16 20 (o16 I c σ) (x8 I c ε)
        -∗ fly (F := F) c (23 : Fin 24)
        -∗ own5 c (19 : Fin 24) fullShare.right (g19 I (nxt c)) -∗ Q ⟨⟩)
      -∗ WP c (k0_part55 (F := F) iM0 h0 iM1 h1 iM2 h2 iM3 h3 oM h4 cM h5 gM h6 eM h7 cc0_scratch3 cc0_scratch4 c (wv2 I c) (wv4 I c) (wc1_i32_1484 I c)) Q) := by
  rw [k0_part55_eq_skeleton]
  unfold k0_part55_skel
  simp only [Prog.lift, Prog.bind_op, Prog.bind_ret, Prog.pure_eq_ret]
  iintro ⟨HS, HA_19⟩ Hk
  iapply (r_waitR (svI I) I K (n := 23) (j := 19) 19 rfl (by decide) 20 rfl (g19 I (nxt c)) rfl (((cc0_scratch4.slice (Rect.unit (s := S4x6) ![3, 4] S1x1.size inb_S4x6_S1x1_3_4)).squeeze S_ squeezes_S1x1_S_).sem) rfl ((cM.slice (Rect.unit (s := S4x6x512x256) ![3, 3, 0, 0] S1x1x512x256.size inb_S4x6x512x256_S1x1x512x256_3_3_0_0) (fun _ => rfl)).squeeze S512x256 squeezes_S1x1x512x256_S512x256) ((cM.slice (Rect.unit (s := S4x6x512x256) ![3, 4, 0, 0] S1x1x512x256.size inb_S4x6x512x256_S1x1x512x256_3_4_0_0) (fun _ => rfl)).squeeze S512x256 squeezes_S1x1x512x256_S512x256) rfl) $$ [HS HA_19]
  · isplitl [HS]; · iexact HS
    iexact HA_19
  iintro HS HC_19
  iapply (r_sendC (svI I) I K (n := 23) 23 19 rfl (by decide) rfl (g19 I (nxt c)) rfl _ (dev23 c)
    ((cM.slice (Rect.unit (s := S4x6x512x256) ![3, 4, 0, 0] S1x1x512x256.size inb_S4x6x512x256_S1x1x512x256_3_4_0_0) (fun _ => rfl)).squeeze S512x256 squeezes_S1x1x512x256_S512x256) rfl
    ((cM.slice (Rect.unit (s := S4x6x512x256) ![3, 5, 0, 0] S1x1x512x256.size inb_S4x6x512x256_S1x1x512x256_3_5_0_0) (fun _ => rfl)).squeeze S512x256 squeezes_S1x1x512x256_S512x256) rfl
    (((cc0_scratch3.slice (Rect.unit (s := S4x6) ![3, 5] S1x1.size inb_S4x6_S1x1_3_5)).squeeze S_ squeezes_S1x1_S_).sem) (((cc0_scratch4.slice (Rect.unit (s := S4x6) ![3, 5] S1x1.size inb_S4x6_S1x1_3_5)).squeeze S_ squeezes_S1x1_S_).sem) rfl rfl 24 rfl) $$ [HS HC_19]
  · isplitl [HS]; · iexact HS
    iexact HC_19
  iintro HS HF_23 HC_19
  iapply (r_ldC 19 fullShare.right (g19 I (nxt c)) ![3, 4, 0, 0] rfl) $$ HC_19; iintro HC_19
  iapply (r_ldO_any (svI I) I K) $$ HS; iintro %_ HS
  iapply (r_stO (svI I) I K 1 3 _ (off7_1 c) (u16 I c) rfl (o16 I c σ) rfl) $$ HS; iintro HS
  iapply (r_end (b := ⟨⟩))
  isplitr; · ipureintro; rfl
  iapply Hk $$ HS HF_23 HC_19

/-- Part 56 of the body. -/
theorem p56 {Q} : iprop(St (svI I) I K c 24 16 20 (o16 I c σ) (x8 I c ε)
      ∗ fly (F := F) c (20 : Fin 24)) ⊢
    iprop((St (svI I) I K c 24 16 21 (o17 I c σ) (x8 I c ε)
        -∗ own5 c (20 : Fin 24) fullShare (g20 I (prv c)) -∗ Q ⟨⟩)
      -∗ WP c (k0_part56 (F := F) iM0 h0 iM1 h1 iM2 h2 iM3 h3 oM h4 cM h5 gM h6 eM h7 cc0_scratch3 cc0_scratch4 c (wv2 I c) (wv6 I c)) Q) := by
  rw [k0_part56_eq_skeleton]
  unfold k0_part56_skel
  simp only [Prog.lift, Prog.bind_op, Prog.bind_ret, Prog.pure_eq_ret]
  iintro ⟨HS, HF_20⟩ Hk
  iapply (r_waitS (svI I) I K 20 (((cc0_scratch3.slice (Rect.unit (s := S4x6) ![0, 5] S1x1.size inb_S4x6_S1x1_0_5)).squeeze S_ squeezes_S1x1_S_).sem) rfl ((cM.slice (Rect.unit (s := S4x6x512x256) ![0, 5, 0, 0] S1x1x512x256.size inb_S4x6x512x256_S1x1x512x256_0_5_0_0) (fun _ => rfl)).squeeze S512x256 squeezes_S1x1x512x256_S512x256) ((cM.slice (Rect.unit (s := S4x6x512x256) ![0, 4, 0, 0] S1x1x512x256.size inb_S4x6x512x256_S1x1x512x256_0_4_0_0) (fun _ => rfl)).squeeze S512x256 squeezes_S1x1x512x256_S512x256) rfl) $$ [HS HF_20]
  · isplitl [HS]; · iexact HS
    iexact HF_20
  iintro HS HA_20
  iapply (r_waitR (svI I) I K (n := 24) (j := 20) 20 rfl (by decide) 21 rfl (g20 I (prv c)) rfl (((cc0_scratch4.slice (Rect.unit (s := S4x6) ![0, 5] S1x1.size inb_S4x6_S1x1_0_5)).squeeze S_ squeezes_S1x1_S_).sem) rfl ((cM.slice (Rect.unit (s := S4x6x512x256) ![0, 4, 0, 0] S1x1x512x256.size inb_S4x6x512x256_S1x1x512x256_0_4_0_0) (fun _ => rfl)).squeeze S512x256 squeezes_S1x1x512x256_S512x256) ((cM.slice (Rect.unit (s := S4x6x512x256) ![0, 5, 0, 0] S1x1x512x256.size inb_S4x6x512x256_S1x1x512x256_0_5_0_0) (fun _ => rfl)).squeeze S512x256 squeezes_S1x1x512x256_S512x256) rfl) $$ [HS HA_20]
  · isplitl [HS]; · iexact HS
    iexact HA_20
  iintro HS HC_20
  iapply (r_ldC 20 fullShare (g20 I (prv c)) ![0, 5, 0, 0] rfl) $$ HC_20; iintro HC_20
  iapply (r_ldO_any (svI I) I K) $$ HS; iintro %_ HS
  iapply (r_stO (svI I) I K 2 0 _ (off4_2 c) (u17 I c) rfl (o17 I c σ) rfl) $$ HS; iintro HS
  iapply (r_end (b := ⟨⟩))
  isplitr; · ipureintro; rfl
  iapply Hk $$ HS HC_20

/-- Part 57 of the body. -/
theorem p57 {Q} : iprop(St (svI I) I K c 24 16 21 (o17 I c σ) (x8 I c ε)
      ∗ fly (F := F) c (21 : Fin 24)) ⊢
    iprop((St (svI I) I K c 24 16 22 (o17 I c σ) (x8 I c ε)
        -∗ own5 c (21 : Fin 24) fullShare (g21 I (prv c)) -∗ Q (wv1694 I c))
      -∗ WP c (k0_part57 (F := F) iM0 h0 iM1 h1 iM2 h2 iM3 h3 oM h4 cM h5 gM h6 eM h7 cc0_scratch3 cc0_scratch4 (wv2 I c) (wv6 I c)) Q) := by
  rw [k0_part57_eq_skeleton]
  unfold k0_part57_skel
  simp only [Prog.lift, Prog.bind_op, Prog.bind_ret, Prog.pure_eq_ret]
  iintro ⟨HS, HF_21⟩ Hk
  iapply (r_waitS (svI I) I K 21 (((cc0_scratch3.slice (Rect.unit (s := S4x6) ![1, 5] S1x1.size inb_S4x6_S1x1_1_5)).squeeze S_ squeezes_S1x1_S_).sem) rfl ((cM.slice (Rect.unit (s := S4x6x512x256) ![1, 5, 0, 0] S1x1x512x256.size inb_S4x6x512x256_S1x1x512x256_1_5_0_0) (fun _ => rfl)).squeeze S512x256 squeezes_S1x1x512x256_S512x256) ((cM.slice (Rect.unit (s := S4x6x512x256) ![1, 4, 0, 0] S1x1x512x256.size inb_S4x6x512x256_S1x1x512x256_1_4_0_0) (fun _ => rfl)).squeeze S512x256 squeezes_S1x1x512x256_S512x256) rfl) $$ [HS HF_21]
  · isplitl [HS]; · iexact HS
    iexact HF_21
  iintro HS HA_21
  iapply (r_waitR (svI I) I K (n := 24) (j := 21) 21 rfl (by decide) 22 rfl (g21 I (prv c)) rfl (((cc0_scratch4.slice (Rect.unit (s := S4x6) ![1, 5] S1x1.size inb_S4x6_S1x1_1_5)).squeeze S_ squeezes_S1x1_S_).sem) rfl ((cM.slice (Rect.unit (s := S4x6x512x256) ![1, 4, 0, 0] S1x1x512x256.size inb_S4x6x512x256_S1x1x512x256_1_4_0_0) (fun _ => rfl)).squeeze S512x256 squeezes_S1x1x512x256_S512x256) ((cM.slice (Rect.unit (s := S4x6x512x256) ![1, 5, 0, 0] S1x1x512x256.size inb_S4x6x512x256_S1x1x512x256_1_5_0_0) (fun _ => rfl)).squeeze S512x256 squeezes_S1x1x512x256_S512x256) rfl) $$ [HS HA_21]
  · isplitl [HS]; · iexact HS
    iexact HA_21
  iintro HS HC_21
  iapply (r_ldC 21 fullShare (g21 I (prv c)) ![1, 5, 0, 0] rfl) $$ HC_21; iintro HC_21
  iapply (r_end (b := (wv1694 I c)))
  isplitr; · ipureintro; rfl
  iapply Hk $$ HS HC_21

/-- Part 58 of the body. -/
theorem p58 {Q} : iprop(St (svI I) I K c 24 16 22 (o17 I c σ) (x8 I c ε)
      ∗ fly (F := F) c (22 : Fin 24)) ⊢
    iprop((St (svI I) I K c 24 16 23 (o18 I c σ) (x8 I c ε)
        -∗ own5 c (22 : Fin 24) fullShare (g22 I (nxt c)) -∗ Q ⟨wv1717 I c, wv1718 I c⟩)
      -∗ WP c (k0_part58 (F := F) iM0 h0 iM1 h1 iM2 h2 iM3 h3 oM h4 cM h5 gM h6 eM h7 cc0_scratch3 cc0_scratch4 c (wv2 I c) (wv4 I c) (wv1694 I c)) Q) := by
  rw [k0_part58_eq_skeleton]
  unfold k0_part58_skel
  simp only [Prog.lift, Prog.bind_op, Prog.bind_ret, Prog.pure_eq_ret]
  iintro ⟨HS, HF_22⟩ Hk
  iapply (r_ldO_any (svI I) I K) $$ HS; iintro %_ HS
  iapply (r_stO (svI I) I K 2 1 _ (off5_2 c) (u18 I c) rfl (o18 I c σ) rfl) $$ HS; iintro HS
  iapply (r_waitS (svI I) I K 22 (((cc0_scratch3.slice (Rect.unit (s := S4x6) ![2, 5] S1x1.size inb_S4x6_S1x1_2_5)).squeeze S_ squeezes_S1x1_S_).sem) rfl ((cM.slice (Rect.unit (s := S4x6x512x256) ![2, 5, 0, 0] S1x1x512x256.size inb_S4x6x512x256_S1x1x512x256_2_5_0_0) (fun _ => rfl)).squeeze S512x256 squeezes_S1x1x512x256_S512x256) ((cM.slice (Rect.unit (s := S4x6x512x256) ![2, 4, 0, 0] S1x1x512x256.size inb_S4x6x512x256_S1x1x512x256_2_4_0_0) (fun _ => rfl)).squeeze S512x256 squeezes_S1x1x512x256_S512x256) rfl) $$ [HS HF_22]
  · isplitl [HS]; · iexact HS
    iexact HF_22
  iintro HS HA_22
  iapply (r_waitR (svI I) I K (n := 24) (j := 22) 22 rfl (by decide) 23 rfl (g22 I (nxt c)) rfl (((cc0_scratch4.slice (Rect.unit (s := S4x6) ![2, 5] S1x1.size inb_S4x6_S1x1_2_5)).squeeze S_ squeezes_S1x1_S_).sem) rfl ((cM.slice (Rect.unit (s := S4x6x512x256) ![2, 4, 0, 0] S1x1x512x256.size inb_S4x6x512x256_S1x1x512x256_2_4_0_0) (fun _ => rfl)).squeeze S512x256 squeezes_S1x1x512x256_S512x256) ((cM.slice (Rect.unit (s := S4x6x512x256) ![2, 5, 0, 0] S1x1x512x256.size inb_S4x6x512x256_S1x1x512x256_2_5_0_0) (fun _ => rfl)).squeeze S512x256 squeezes_S1x1x512x256_S512x256) rfl) $$ [HS HA_22]
  · isplitl [HS]; · iexact HS
    iexact HA_22
  iintro HS HC_22
  iapply (r_ldC 22 fullShare (g22 I (nxt c)) ![2, 5, 0, 0] rfl) $$ HC_22; iintro HC_22
  iapply (r_end (b := ⟨wv1717 I c, wv1718 I c⟩))
  isplitr; · ipureintro; rfl
  iapply Hk $$ HS HC_22

/-- Part 59 of the body. -/
theorem p59 {Q} : iprop(St (svI I) I K c 24 16 23 (o18 I c σ) (x8 I c ε)
      ∗ fly (F := F) c (23 : Fin 24)) ⊢
    iprop((St (svI I) I K c 24 16 24 (o19 I c σ) (x8 I c ε)
        -∗ own5 c (23 : Fin 24) fullShare (g23 I (nxt c)) -∗ Q ⟨wv1737 I c, wv1740 I c⟩)
      -∗ WP c (k0_part59 (F := F) iM0 h0 iM1 h1 iM2 h2 iM3 h3 oM h4 cM h5 gM h6 eM h7 cc0_scratch3 cc0_scratch4 c (wv2 I c) (wv4 I c) (wv1717 I c) (wv1718 I c)) Q) := by
  rw [k0_part59_eq_skeleton]
  unfold k0_part59_skel
  simp only [Prog.lift, Prog.bind_op, Prog.bind_ret, Prog.pure_eq_ret]
  iintro ⟨HS, HF_23⟩ Hk
  iapply (r_ldO_any (svI I) I K) $$ HS; iintro %_ HS
  iapply (r_stO (svI I) I K 2 2 _ (off6_2 c) (u19 I c) rfl (o19 I c σ) rfl) $$ HS; iintro HS
  iapply (r_waitS (svI I) I K 23 (((cc0_scratch3.slice (Rect.unit (s := S4x6) ![3, 5] S1x1.size inb_S4x6_S1x1_3_5)).squeeze S_ squeezes_S1x1_S_).sem) rfl ((cM.slice (Rect.unit (s := S4x6x512x256) ![3, 5, 0, 0] S1x1x512x256.size inb_S4x6x512x256_S1x1x512x256_3_5_0_0) (fun _ => rfl)).squeeze S512x256 squeezes_S1x1x512x256_S512x256) ((cM.slice (Rect.unit (s := S4x6x512x256) ![3, 4, 0, 0] S1x1x512x256.size inb_S4x6x512x256_S1x1x512x256_3_4_0_0) (fun _ => rfl)).squeeze S512x256 squeezes_S1x1x512x256_S512x256) rfl) $$ [HS HF_23]
  · isplitl [HS]; · iexact HS
    iexact HF_23
  iintro HS HA_23
  iapply (r_waitR (svI I) I K (n := 24) (j := 23) 23 rfl (by decide) 24 rfl (g23 I (nxt c)) rfl (((cc0_scratch4.slice (Rect.unit (s := S4x6) ![3, 5] S1x1.size inb_S4x6_S1x1_3_5)).squeeze S_ squeezes_S1x1_S_).sem) rfl ((cM.slice (Rect.unit (s := S4x6x512x256) ![3, 4, 0, 0] S1x1x512x256.size inb_S4x6x512x256_S1x1x512x256_3_4_0_0) (fun _ => rfl)).squeeze S512x256 squeezes_S1x1x512x256_S512x256) ((cM.slice (Rect.unit (s := S4x6x512x256) ![3, 5, 0, 0] S1x1x512x256.size inb_S4x6x512x256_S1x1x512x256_3_5_0_0) (fun _ => rfl)).squeeze S512x256 squeezes_S1x1x512x256_S512x256) rfl) $$ [HS HA_23]
  · isplitl [HS]; · iexact HS
    iexact HA_23
  iintro HS HC_23
  iapply (r_ldC 23 fullShare (g23 I (nxt c)) ![3, 5, 0, 0] rfl) $$ HC_23; iintro HC_23
  iapply (r_end (b := ⟨wv1737 I c, wv1740 I c⟩))
  isplitr; · ipureintro; rfl
  iapply Hk $$ HS HC_23

end Cert.MoeProof

end
-- ==== Proof.Chain.lean ====
/-
# The whole body

The parts one after another, from what a device holds as it enters to what it holds at the end: every transfer awaited,
every slot landed.
-/
module

public import proofs.«01_k».proof.Proof.Part0
public import proofs.«01_k».proof.Proof.Parts1
public import proofs.«01_k».proof.Proof.Parts2
public import proofs.«01_k».proof.Proof.Parts3
public import proofs.«01_k».proof.Proof.Parts4
public import proofs.«01_k».proof.Proof.Parts5
public import proofs.«01_k».proof.Proof.Parts6
public import proofs.«01_k».proof.Proof.Parts7
public import proofs.«01_k».proof.Proof.Parts8
public import proofs.«01_k».proof.Proof.Parts9
public import proofs.«01_k».proof.Proof.Parts10

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Inp F) (K : Dev nD × Fin 49 → ℕ) (c : Dev nD) (σ : OBlk F) (ε : EBlk F)
variable (h0 : iM0.IsWhole) (h1 : iM1.IsWhole) (h2 : iM2.IsWhole) (h3 : iM3.IsWhole) (h4 : oM.IsWhole) (h5 : cM.IsWhole) (h6 : gM.IsWhole) (h7 : eM.IsWhole)

/-- The body, part after part. -/
theorem p_all {Q} : Enter I K c σ ε ⊢
    iprop((St (svI I) I K c 24 16 24 (o20 I c σ) (x8 I c ε) -∗ semVal (barCell c) 0
      -∗ own5 c (0 : Fin 24) fullShare (g0 I (prv c))
      -∗ own5 c (1 : Fin 24) fullShare (g1 I (prv c))
      -∗ own5 c (2 : Fin 24) fullShare (g2 I (nxt c))
      -∗ own5 c (3 : Fin 24) fullShare (g3 I (nxt c))
      -∗ own5 c (4 : Fin 24) fullShare (g4 I (prv c))
      -∗ own5 c (5 : Fin 24) fullShare (g5 I (prv c))
      -∗ own5 c (6 : Fin 24) fullShare (g6 I (nxt c))
      -∗ own5 c (7 : Fin 24) fullShare (g7 I (nxt c))
      -∗ own5 c (8 : Fin 24) fullShare (g8 I (prv c))
      -∗ own5 c (9 : Fin 24) fullShare (g9 I (prv c))
      -∗ own5 c (10 : Fin 24) fullShare (g10 I (nxt c))
      -∗ own5 c (11 : Fin 24) fullShare (g11 I (nxt c))
      -∗ own5 c (12 : Fin 24) fullShare.right (g12 I (prv c))
      -∗ own5 c (13 : Fin 24) fullShare.right (g13 I (prv c))
      -∗ own5 c (14 : Fin 24) fullShare.right (g14 I (nxt c))
      -∗ own5 c (15 : Fin 24) fullShare.right (g15 I (nxt c))
      -∗ own5 c (16 : Fin 24) fullShare.right (g16 I (prv c))
      -∗ own5 c (17 : Fin 24) fullShare.right (g17 I (prv c))
      -∗ own5 c (18 : Fin 24) fullShare.right (g18 I (nxt c))
      -∗ own5 c (19 : Fin 24) fullShare.right (g19 I (nxt c))
      -∗ own5 c (20 : Fin 24) fullShare (g20 I (prv c))
      -∗ own5 c (21 : Fin 24) fullShare (g21 I (prv c))
      -∗ own5 c (22 : Fin 24) fullShare (g22 I (nxt c))
      -∗ own5 c (23 : Fin 24) fullShare (g23 I (nxt c)) -∗ Q ⟨⟩)
      -∗ WP c (cc0_body (F := F) iM0 h0 iM1 h1 iM2 h2 iM3 h3 oM h4 cM h5 gM h6 eM h7 cc0_scratch3 cc0_scratch4) Q) := by
  rw [cc0_body_eq_skeleton]
  unfold cc0_body_skel
  rw [k0_part60_eq_skeleton]
  unfold k0_part60_skel
  iintro HS Hk
  iapply r_bind
  iapply r_bind
  iapply (p1 I K c σ ε h0 h1 h2 h3 h4 h5 h6 h7) $$ HS
  iintro HS HB
  dsimp only
  iapply r_bind
  iapply (p2 I K c σ ε h0 h1 h2 h3 h4 h5 h6 h7) $$ HS
  iintro HS
  dsimp only
  iapply r_bind
  iapply (p3 I K c σ ε h0 h1 h2 h3 h4 h5 h6 h7) $$ HS
  iintro HS
  dsimp only
  iapply r_bind
  iapply (p4 I K c σ ε h0 h1 h2 h3 h4 h5 h6 h7) $$ HS
  iintro HS
  dsimp only
  iapply r_bind
  iapply (p5 I K c σ ε h0 h1 h2 h3 h4 h5 h6 h7) $$ HS
  iintro HS
  dsimp only
  iapply r_bind
  iapply (p6 I K c σ ε h0 h1 h2 h3 h4 h5 h6 h7) $$ HS
  iintro HS
  dsimp only
  iapply r_bind
  iapply (p7 I K c σ ε h0 h1 h2 h3 h4 h5 h6 h7) $$ HS
  iintro HS
  iapply r_bind
  iapply (p8 I K c σ ε h0 h1 h2 h3 h4 h5 h6 h7) $$ HS
  iintro HS HF_0 HG_1
  iapply r_bind
  iapply (p9 I K c σ ε h0 h1 h2 h3 h4 h5 h6 h7) $$ [HS HG_1]
  · isplitl [HS]; · iexact HS
    iexact HG_1
  iintro HS HF_1 HG_2
  iapply r_bind
  iapply (p10 I K c σ ε h0 h1 h2 h3 h4 h5 h6 h7) $$ [HS HG_2]
  · isplitl [HS]; · iexact HS
    iexact HG_2
  iintro HS HF_2 HF_3
  dsimp only
  iapply r_bind
  iapply (p11 I K c σ ε h0 h1 h2 h3 h4 h5 h6 h7) $$ HS
  iintro HS
  dsimp only
  iapply r_bind
  iapply (p12 I K c σ ε h0 h1 h2 h3 h4 h5 h6 h7) $$ HS
  iintro HS
  dsimp only
  iapply r_bind
  iapply (p13 I K c σ ε h0 h1 h2 h3 h4 h5 h6 h7) $$ HS
  iintro HS
  dsimp only
  iapply r_bind
  iapply (p14 I K c σ ε h0 h1 h2 h3 h4 h5 h6 h7) $$ HS
  iintro HS
  dsimp only
  iapply r_bind
  iapply (p15 I K c σ ε h0 h1 h2 h3 h4 h5 h6 h7) $$ [HS HF_0]
  · isplitl [HS]; · iexact HS
    iexact HF_0
  iintro HS HA_0
  iapply r_bind
  iapply (p16 I K c σ ε h0 h1 h2 h3 h4 h5 h6 h7) $$ [HS HA_0]
  · isplitl [HS]; · iexact HS
    iexact HA_0
  iintro HS HC_0 HF_4
  iapply r_bind
  iapply (p17 I K c σ ε h0 h1 h2 h3 h4 h5 h6 h7) $$ [HS HF_1]
  · isplitl [HS]; · iexact HS
    iexact HF_1
  iintro HS HC_1
  iapply r_bind
  iapply (p18 I K c σ ε h0 h1 h2 h3 h4 h5 h6 h7) $$ HS
  iintro HS HF_5
  dsimp only
  iapply r_bind
  iapply (p19 I K c σ ε h0 h1 h2 h3 h4 h5 h6 h7) $$ HS
  iintro HS
  dsimp only
  iapply r_bind
  iapply (p20 I K c σ ε h0 h1 h2 h3 h4 h5 h6 h7) $$ HS
  iintro HS
  dsimp only
  iapply r_bind
  iapply (p21 I K c σ ε h0 h1 h2 h3 h4 h5 h6 h7) $$ HS
  iintro HS
  dsimp only
  iapply r_bind
  iapply (p22 I K c σ ε h0 h1 h2 h3 h4 h5 h6 h7) $$ HS
  iintro HS
  iapply r_bind
  iapply (p23 I K c σ ε h0 h1 h2 h3 h4 h5 h6 h7) $$ [HS HF_2]
  · isplitl [HS]; · iexact HS
    iexact HF_2
  iintro HS HC_2
  dsimp only
  iapply r_bind
  iapply (p24 I K c σ ε h0 h1 h2 h3 h4 h5 h6 h7) $$ [HS HF_3]
  · isplitl [HS]; · iexact HS
    iexact HF_3
  iintro HS HF_6 HA_3
  iapply r_bind
  iapply (p25 I K c σ ε h0 h1 h2 h3 h4 h5 h6 h7) $$ [HS HA_3]
  · isplitl [HS]; · iexact HS
    iexact HA_3
  iintro HS HC_3 HG_7
  iapply r_bind
  iapply (p26 I K c σ ε h0 h1 h2 h3 h4 h5 h6 h7) $$ [HS HG_7]
  · isplitl [HS]; · iexact HS
    iexact HG_7
  iintro HS HF_7
  dsimp only
  iapply r_bind
  iapply (p27 I K c σ ε h0 h1 h2 h3 h4 h5 h6 h7) $$ HS
  iintro HS
  dsimp only
  iapply r_bind
  iapply (p28 I K c σ ε h0 h1 h2 h3 h4 h5 h6 h7) $$ HS
  iintro HS
  dsimp only
  iapply r_bind
  iapply (p29 I K c σ ε h0 h1 h2 h3 h4 h5 h6 h7) $$ HS
  iintro HS
  dsimp only
  iapply r_bind
  iapply (p30 I K c σ ε h0 h1 h2 h3 h4 h5 h6 h7) $$ HS
  iintro HS
  iapply r_bind
  iapply (p31 I K c σ ε h0 h1 h2 h3 h4 h5 h6 h7) $$ [HS HF_4]
  · isplitl [HS]; · iexact HS
    iexact HF_4
  iintro HS HC_4 HG_8
  iapply r_bind
  iapply (p32 I K c σ ε h0 h1 h2 h3 h4 h5 h6 h7) $$ [HS HG_8 HF_5]
  · isplitl [HS]; · iexact HS
    isplitl [HG_8]; · iexact HG_8
    iexact HF_5
  iintro HS HF_8 HA_5
  iapply r_bind
  iapply (p33 I K c σ ε h0 h1 h2 h3 h4 h5 h6 h7) $$ [HS HA_5]
  · isplitl [HS]; · iexact HS
    iexact HA_5
  iintro HS HC_5 HF_9
  iapply r_bind
  iapply (p34 I K c σ ε h0 h1 h2 h3 h4 h5 h6 h7) $$ [HS HF_6]
  · isplitl [HS]; · iexact HS
    iexact HF_6
  iintro HS HC_6
  iapply r_bind
  iapply (p35 I K c σ ε h0 h1 h2 h3 h4 h5 h6 h7) $$ [HS HF_7]
  · isplitl [HS]; · iexact HS
    iexact HF_7
  iintro HS HF_10 HA_7
  iapply r_bind
  iapply (p36 I K c σ ε h0 h1 h2 h3 h4 h5 h6 h7) $$ [HS HA_7]
  · isplitl [HS]; · iexact HS
    iexact HA_7
  iintro HS HC_7 HG_11
  dsimp only
  iapply r_bind
  iapply (p37 I K c σ ε h0 h1 h2 h3 h4 h5 h6 h7) $$ [HS HG_11 HF_8]
  · isplitl [HS]; · iexact HS
    isplitl [HG_11]; · iexact HG_11
    iexact HF_8
  iintro HS HF_11 HA_8
  iapply r_bind
  iapply (p38 I K c σ ε h0 h1 h2 h3 h4 h5 h6 h7) $$ [HS HA_8]
  · isplitl [HS]; · iexact HS
    iexact HA_8
  iintro HS HC_8 HG_12
  iapply r_bind
  iapply (p39 I K c σ ε h0 h1 h2 h3 h4 h5 h6 h7) $$ [HS HG_12 HF_9]
  · isplitl [HS]; · iexact HS
    isplitl [HG_12]; · iexact HG_12
    iexact HF_9
  iintro HS HF_12 HC_9
  dsimp only
  iapply r_bind
  iapply (p40 I K c σ ε h0 h1 h2 h3 h4 h5 h6 h7) $$ [HS HC_9]
  · isplitl [HS]; · iexact HS
    iexact HC_9
  iintro HS HC_9 HF_13
  iapply r_bind
  iapply (p41 I K c σ ε h0 h1 h2 h3 h4 h5 h6 h7) $$ [HS HF_10]
  · isplitl [HS]; · iexact HS
    iexact HF_10
  iintro HS HC_10
  iapply r_bind
  iapply (p42 I K c σ ε h0 h1 h2 h3 h4 h5 h6 h7) $$ HS
  iintro HS HF_14
  iapply r_bind
  iapply (p43 I K c σ ε h0 h1 h2 h3 h4 h5 h6 h7) $$ [HS HF_11]
  · isplitl [HS]; · iexact HS
    iexact HF_11
  iintro HS HC_11 HG_15
  iapply r_bind
  iapply (p44 I K c σ ε h0 h1 h2 h3 h4 h5 h6 h7) $$ [HS HG_15 HF_12]
  · isplitl [HS]; · iexact HS
    isplitl [HG_15]; · iexact HG_15
    iexact HF_12
  iintro HS HF_15 HA_12
  iapply r_bind
  iapply (p45 I K c σ ε h0 h1 h2 h3 h4 h5 h6 h7) $$ [HS HA_12]
  · isplitl [HS]; · iexact HS
    iexact HA_12
  iintro HS HF_16 HC_12
  iapply r_bind
  iapply (p46 I K c σ ε h0 h1 h2 h3 h4 h5 h6 h7) $$ [HS HF_13]
  · isplitl [HS]; · iexact HS
    iexact HF_13
  iintro HS HC_13 HF_17
  dsimp only
  iapply r_bind
  iapply (p47 I K c σ ε h0 h1 h2 h3 h4 h5 h6 h7) $$ [HS HC_13 HF_14]
  · isplitl [HS]; · iexact HS
    isplitl [HC_13]; · iexact HC_13
    iexact HF_14
  iintro HS HC_13 HC_14
  iapply r_bind
  iapply (p48 I K c σ ε h0 h1 h2 h3 h4 h5 h6 h7) $$ [HS HC_14]
  · isplitl [HS]; · iexact HS
    iexact HC_14
  iintro HS HF_18 HC_14
  iapply r_bind
  iapply (p49 I K c σ ε h0 h1 h2 h3 h4 h5 h6 h7) $$ [HS HF_15]
  · isplitl [HS]; · iexact HS
    iexact HF_15
  iintro HS HC_15 HF_19
  iapply r_bind
  iapply (p50 I K c σ ε h0 h1 h2 h3 h4 h5 h6 h7) $$ [HS HC_15 HF_16]
  · isplitl [HS]; · iexact HS
    isplitl [HC_15]; · iexact HC_15
    iexact HF_16
  iintro HS HC_15 HC_16
  iapply r_bind
  iapply (p51 I K c σ ε h0 h1 h2 h3 h4 h5 h6 h7) $$ [HS HC_16 HF_17]
  · isplitl [HS]; · iexact HS
    isplitl [HC_16]; · iexact HC_16
    iexact HF_17
  iintro HS HF_20 HC_16 HA_17
  iapply r_bind
  iapply (p52 I K c σ ε h0 h1 h2 h3 h4 h5 h6 h7) $$ [HS HA_17]
  · isplitl [HS]; · iexact HS
    iexact HA_17
  iintro HS HF_21 HC_17
  dsimp only
  iapply r_bind
  iapply (p53 I K c σ ε h0 h1 h2 h3 h4 h5 h6 h7) $$ [HS HF_18]
  · isplitl [HS]; · iexact HS
    iexact HF_18
  iintro HS HC_18
  iapply r_bind
  iapply (p54 I K c σ ε h0 h1 h2 h3 h4 h5 h6 h7) $$ [HS HC_18 HF_19]
  · isplitl [HS]; · iexact HS
    isplitl [HC_18]; · iexact HC_18
    iexact HF_19
  iintro HS HF_22 HC_18 HA_19
  iapply r_bind
  iapply (p55 I K c σ ε h0 h1 h2 h3 h4 h5 h6 h7) $$ [HS HA_19]
  · isplitl [HS]; · iexact HS
    iexact HA_19
  iintro HS HF_23 HC_19
  iapply r_bind
  iapply (p56 I K c σ ε h0 h1 h2 h3 h4 h5 h6 h7) $$ [HS HF_20]
  · isplitl [HS]; · iexact HS
    iexact HF_20
  iintro HS HC_20
  iapply r_bind
  iapply (p57 I K c σ ε h0 h1 h2 h3 h4 h5 h6 h7) $$ [HS HF_21]
  · isplitl [HS]; · iexact HS
    iexact HF_21
  iintro HS HC_21
  iapply r_bind
  iapply (p58 I K c σ ε h0 h1 h2 h3 h4 h5 h6 h7) $$ [HS HF_22]
  · isplitl [HS]; · iexact HS
    iexact HF_22
  iintro HS HC_22
  dsimp only
  iapply r_bind
  iapply (p59 I K c σ ε h0 h1 h2 h3 h4 h5 h6 h7) $$ [HS HF_23]
  · isplitl [HS]; · iexact HS
    iexact HF_23
  iintro HS HC_23
  dsimp only
  iapply (r_end (b := ⟨c, wv1737 I c, wv1740 I c, 512#32⟩))
  isplitr; · ipureintro; rfl
  dsimp only
  simp only [Prog.lift, Prog.bind_op, Prog.bind_ret, Prog.pure_eq_ret]
  iapply (r_ldO_any (svI I) I K) $$ HS; iintro %_ HS
  iapply (r_stO (svI I) I K 2 3 _ (off7_2 c) (u20 I c) rfl (o20 I c σ) rfl) $$ HS; iintro HS
  iapply (r_end (b := ⟨⟩))
  isplitr; · ipureintro; rfl
  iapply Hk $$ HS HB HC_0 HC_1 HC_2 HC_3 HC_4 HC_5 HC_6 HC_7 HC_8 HC_9 HC_10 HC_11 HC_12 HC_13 HC_14 HC_15 HC_16 HC_17 HC_18 HC_19 HC_20 HC_21 HC_22 HC_23

end Cert.MoeProof

end
-- ==== Proof.Slots.lean ====
/-
# Buffers and their slots

The two slotted buffers cut into slots at the start and joined again at the end, and the result buffer from its blocks.
-/
module

public import proofs.«01_k».proof.Proof.Vals
public import Idealize.ShloMosaic.Lib.Ring.FamCut

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Inp F) (K : Dev nD × Fin 49 → ℕ) (c : Dev nD) (σ : OBlk F) (ε : EBlk F)

/-! ## Slots -/

/-- The elements of communication slot `i`, -/
abbrev E5 (i : Fin 24) : Finset (Idx ((c : Thread nD τ).loc cc0_scratch0)) := (M5 i).view.set
/-- and of staging slot `j`. -/
abbrev E6 (j : Fin 16) : Finset (Idx ((c : Thread nD τ).loc cc0_scratch1)) := (M6 j).view.set

/-- Two communication slots have no entry in common. -/
theorem R5_disjoint (i i' : Fin 24) (h : i ≠ i') : Disjoint (R5 i).set (R5 i').set := by
  have hi : i.val ≠ i'.val := fun e => h (Fin.ext e)
  by_cases h0 : i.val % 4 = i'.val % 4
  · exact Rect.unit_disjoint 1 (by show i.val / 4 + 1 ≤ i'.val / 4 ∨ i'.val / 4 + 1 ≤ i.val / 4; omega)
  · exact Rect.unit_disjoint 0 (by show i.val % 4 + 1 ≤ i'.val % 4 ∨ i'.val % 4 + 1 ≤ i.val % 4; omega)
/-- Two staging slots have no entry in common. -/
theorem R6_disjoint (i i' : Fin 16) (h : i ≠ i') : Disjoint (R6 i).set (R6 i').set := by
  have hi : i.val ≠ i'.val := fun e => h (Fin.ext e)
  by_cases h0 : i.val % 4 = i'.val % 4
  · exact Rect.unit_disjoint 1 (by show i.val / 4 + 1 ≤ i'.val / 4 ∨ i'.val / 4 + 1 ≤ i.val / 4; omega)
  · exact Rect.unit_disjoint 0 (by show i.val % 4 + 1 ≤ i'.val % 4 ∨ i'.val % 4 + 1 ≤ i.val % 4; omega)

/-- So the elements of two communication slots of a device are apart, -/
theorem E5_disjoint (i i' : Fin 24) (h : i ≠ i') : Disjoint (E5 c i) (E5 c i') := by
  show Disjoint ((View.whole cc0_scratch0).slice (R5 i)).set ((View.whole cc0_scratch0).slice (R5 i')).set
  rw [View.set_slice, View.set_slice]
  exact (Finset.disjoint_map _).mpr (R5_disjoint i i' h)
/-- and those of two staging slots. -/
theorem E6_disjoint (i i' : Fin 16) (h : i ≠ i') : Disjoint (E6 c i) (E6 c i') := by
  show Disjoint ((View.whole cc0_scratch1).slice (R6 i)).set ((View.whole cc0_scratch1).slice (R6 i')).set
  rw [View.set_slice, View.set_slice]
  exact (Finset.disjoint_map _).mpr (R6_disjoint i i' h)

/-- What is left of the communication buffer beside its slots, and of the staging buffer. -/
def rest5 : sProp 𝕄 := iprop(∃ f : Buf (Elt F) ((c : Thread nD τ).loc cc0_scratch0), ((c : Thread nD τ).loc cc0_scratch0) ↦[Ring.restOf (E5 c)]{fullShare} f)
/-- What is left of the staging buffer beside its slots. -/
def rest6 : sProp 𝕄 := iprop(∃ f : Buf (Elt F) ((c : Thread nD τ).loc cc0_scratch1), ((c : Thread nD τ).loc cc0_scratch1) ↦[Ring.restOf (E6 c)]{fullShare} f)

omit [FloatOps F] in
/-- A communication slot at some contents is its elements at some contents, -/
theorem own5_out (i : Fin 24) : (iprop(∃ X : Slot F, own5 c i fullShare X) : sProp 𝕄)
    ⊢ iprop(∃ f : Buf (Elt F) ((c : Thread nD τ).loc cc0_scratch0), ((c : Thread nD τ).loc cc0_scratch0) ↦[E5 c i]{fullShare} f) := by
  unfold own5 owns; iintro ⟨%X, %f, -, H⟩; iexists f; iexact H
omit [FloatOps F] in
/-- and back. -/
theorem own5_in (i : Fin 24) : (iprop(∃ f : Buf (Elt F) ((c : Thread nD τ).loc cc0_scratch0), ((c : Thread nD τ).loc cc0_scratch0) ↦[E5 c i]{fullShare} f) : sProp 𝕄)
    ⊢ iprop(∃ X : Slot F, own5 c i fullShare X) := by
  unfold own5 owns; iintro ⟨%f, H⟩; iexists _; iexists f; isplitr; · ipureintro; rfl
  iexact H
omit [FloatOps F] in
/-- A staging slot at some contents is its elements at some contents, -/
theorem own6_out (i : Fin 16) : (iprop(∃ X : Slot F, own6 c i fullShare X) : sProp 𝕄)
    ⊢ iprop(∃ f : Buf (Elt F) ((c : Thread nD τ).loc cc0_scratch1), ((c : Thread nD τ).loc cc0_scratch1) ↦[E6 c i]{fullShare} f) := by
  unfold own6 owns; iintro ⟨%X, %f, -, H⟩; iexists f; iexact H
omit [FloatOps F] in
/-- and back. -/
theorem own6_in (i : Fin 16) : (iprop(∃ f : Buf (Elt F) ((c : Thread nD τ).loc cc0_scratch1), ((c : Thread nD τ).loc cc0_scratch1) ↦[E6 c i]{fullShare} f) : sProp 𝕄)
    ⊢ iprop(∃ X : Slot F, own6 c i fullShare X) := by
  unfold own6 owns; iintro ⟨%f, H⟩; iexists _; iexists f; isplitr; · ipureintro; rfl
  iexact H
omit [FloatOps F] in
/-- The communication buffer is its slots and the rest, -/
theorem cut5 : (iprop(∃ f : Buf (Elt F) ((c : Thread nD τ).loc cc0_scratch0), ((c : Thread nD τ).loc cc0_scratch0) ↦{fullShare} f) : sProp 𝕄)
    ⊢ iprop((bigSep Finset.univ fun i : Fin 24 => iprop(∃ X : Slot F, own5 c i fullShare X)) ∗ rest5 c) := by
  exact (Ring.fam_split_ex (E5 c) (E5_disjoint c)).trans (sep_mono_left (BI.bigSep_mono fun i _ => own5_in c i))
omit [FloatOps F] in
/-- The staging buffer is its slots and the rest, -/
theorem cut6 : (iprop(∃ f : Buf (Elt F) ((c : Thread nD τ).loc cc0_scratch1), ((c : Thread nD τ).loc cc0_scratch1) ↦{fullShare} f) : sProp 𝕄)
    ⊢ iprop((bigSep Finset.univ fun i : Fin 16 => iprop(∃ X : Slot F, own6 c i fullShare X)) ∗ rest6 c) := by
  exact (Ring.fam_split_ex (E6 c) (E6_disjoint c)).trans (sep_mono_left (BI.bigSep_mono fun i _ => own6_in c i))
omit [FloatOps F] in
/-- and is them again. -/
theorem join5 : iprop((bigSep Finset.univ fun i : Fin 24 => iprop(∃ X : Slot F, own5 c i fullShare X)) ∗ rest5 c)
    ⊢ (iprop(∃ f : Buf (Elt F) ((c : Thread nD τ).loc cc0_scratch0), ((c : Thread nD τ).loc cc0_scratch0) ↦{fullShare} f) : sProp 𝕄) := by
  unfold rest5
  iintro ⟨H, ⟨%f, Hr⟩⟩
  iapply (Ring.fam_join (E5 c) (E5_disjoint c) f)
  isplitl [H]; · iapply (show (bigSep Finset.univ fun i : Fin 24 => iprop(∃ X : Slot F, own5 c i fullShare X) : sProp 𝕄) ⊢ _ from BI.bigSep_mono fun i _ => own5_out (F := F) c i); iexact H
  iexists f; iexact Hr
omit [FloatOps F] in
/-- and is them again. -/
theorem join6 : iprop((bigSep Finset.univ fun i : Fin 16 => iprop(∃ X : Slot F, own6 c i fullShare X)) ∗ rest6 c)
    ⊢ (iprop(∃ f : Buf (Elt F) ((c : Thread nD τ).loc cc0_scratch1), ((c : Thread nD τ).loc cc0_scratch1) ↦{fullShare} f) : sProp 𝕄) := by
  unfold rest6
  iintro ⟨H, ⟨%f, Hr⟩⟩
  iapply (Ring.fam_join (E6 c) (E6_disjoint c) f)
  isplitl [H]; · iapply (show (bigSep Finset.univ fun i : Fin 16 => iprop(∃ X : Slot F, own6 c i fullShare X) : sProp 𝕄) ⊢ _ from BI.bigSep_mono fun i _ => own6_out (F := F) c i); iexact H
  iexists f; iexact Hr

/-! ## Back from the transfers -/

/-- What the last two steps of a chain send is what landed a step before. -/
theorem svI_fwd (i : Fin 24) (h : 12 ≤ i.val ∧ i.val < 20) : svI I ((Equiv.addRight (4 : Fin 24)) i) c = svI I i (sndr i c) := by
  obtain ⟨i, hi⟩ := i
  have h1 : 12 ≤ i ∧ i < 20 := h
  have hc : i = 12 ∨ i = 13 ∨ i = 14 ∨ i = 15 ∨ i = 16 ∨ i = 17 ∨ i = 18 ∨ i = 19 := by omega
  rcases hc with rfl | rfl | rfl | rfl | rfl | rfl | rfl | rfl
  · have e : svI I 16 c = svI I 12 (sndr 12 c) := by show g16 I c = g12 I (prv c); rfl
    rw [show (Equiv.addRight (4 : Fin 24)) (⟨12, hi⟩ : Fin 24) = 16 from rfl]; exact e
  · have e : svI I 17 c = svI I 13 (sndr 13 c) := by show g17 I c = g13 I (prv c); rfl
    rw [show (Equiv.addRight (4 : Fin 24)) (⟨13, hi⟩ : Fin 24) = 17 from rfl]; exact e
  · have e : svI I 18 c = svI I 14 (sndr 14 c) := by show g18 I c = g14 I (nxt c); rfl
    rw [show (Equiv.addRight (4 : Fin 24)) (⟨14, hi⟩ : Fin 24) = 18 from rfl]; exact e
  · have e : svI I 19 c = svI I 15 (sndr 15 c) := by show g19 I c = g15 I (nxt c); rfl
    rw [show (Equiv.addRight (4 : Fin 24)) (⟨15, hi⟩ : Fin 24) = 19 from rfl]; exact e
  · have e : svI I 20 c = svI I 16 (sndr 16 c) := by show g20 I c = g16 I (prv c); rfl
    rw [show (Equiv.addRight (4 : Fin 24)) (⟨16, hi⟩ : Fin 24) = 20 from rfl]; exact e
  · have e : svI I 21 c = svI I 17 (sndr 17 c) := by show g21 I c = g17 I (prv c); rfl
    rw [show (Equiv.addRight (4 : Fin 24)) (⟨17, hi⟩ : Fin 24) = 21 from rfl]; exact e
  · have e : svI I 22 c = svI I 18 (sndr 18 c) := by show g22 I c = g18 I (nxt c); rfl
    rw [show (Equiv.addRight (4 : Fin 24)) (⟨18, hi⟩ : Fin 24) = 22 from rfl]; exact e
  · have e : svI I 23 c = svI I 19 (sndr 19 c) := by show g23 I c = g19 I (nxt c); rfl
    rw [show (Equiv.addRight (4 : Fin 24)) (⟨19, hi⟩ : Fin 24) = 23 from rfl]; exact e

omit [FloatOps F] in
/-- A family over `Fin 24` in two parts. -/
theorem two_parts (p : Fin 24 → Prop) [DecidablePred p] (Φ : Fin 24 → sProp 𝕄) :
    bigSep Finset.univ Φ = iprop(bigSep (Finset.univ.filter p) Φ ∗ bigSep (Finset.univ.filter fun i => ¬ p i) Φ) := BI.bigSep_filter_split Finset.univ p

/-- What is held of landed slot `i` at the end, the half lent to its forwarding apart. -/
def landedP (i : Fin 24) : sProp 𝕄 :=
  own5 c i (if 12 ≤ i.val ∧ i.val < 20 then fullShare.right else fullShare) (svI I i (sndr i c))

/-- The slots whole again, and the closed cells. -/
theorem slots_back : iprop((bigSep Finset.univ fun i : Fin 24 => landedP I c i) ∗ Done (svI I) c 24)
    ⊢ iprop((bigSep Finset.univ fun i : Fin 24 => iprop(∃ X : Slot F, own5 c i fullShare X))
      ∗ (bigSep Finset.univ fun i : Fin 16 => iprop(∃ X : Slot F, own6 c i fullShare X))
      ∗ (bigSep Finset.univ fun i : Fin 24 => (semVal (sendCell c i) 0 : sProp 𝕄)) ∗ bigSep Finset.univ fun i : Fin 24 => (semVal (recvCell c i) 0 : sProp 𝕄)) := by
  have hD : Done (svI I) c 24 = iprop((bigSep Finset.univ fun i : Fin 24 => sendPay (svI I) i c)
      ∗ (bigSep Finset.univ fun i : Fin 24 => (semVal (sendCell c i) 0 : sProp 𝕄)) ∗ bigSep Finset.univ fun i : Fin 24 => (semVal (recvCell c i) 0 : sProp 𝕄)) := by
    unfold Done; rw [Finset.filter_true_of_mem (fun i _ => i.isLt), bigSep_sep', bigSep_sep']
  have h1 : (bigSep (Finset.univ.filter fun i : Fin 24 => i.val < 16) fun i => sendPay (svI I) i c) ⊢ bigSep Finset.univ fun i : Fin 16 => iprop(∃ X : Slot F, own6 c i fullShare X) := by
    rw [show (Finset.univ.filter fun i : Fin 24 => i.val < 16) = Finset.univ.map (Fin.castLEEmb (by decide : 16 ≤ 24)) from by decide, bigSep_map]
    refine BI.bigSep_mono fun j _ => ?_
    show sendPay (svI I) (Fin.castLEEmb (by decide : 16 ≤ 24) j) c ⊢ iprop(∃ X : Slot F, own6 c j fullShare X)
    unfold sendPay
    rw [dif_pos (show (Fin.castLEEmb (by decide : 16 ≤ 24) j).val < 16 from j.isLt)]
    iintro H; iexists (svI I (Fin.castLEEmb (by decide : 16 ≤ 24) j) c); iexact H
  have h2 : iprop((bigSep (Finset.univ.filter fun i : Fin 24 => 12 ≤ i.val ∧ i.val < 20) fun i => landedP I c i) ∗ bigSep (Finset.univ.filter fun i : Fin 24 => ¬ i.val < 16) fun i => sendPay (svI I) i c)
      ⊢ bigSep (Finset.univ.filter fun i : Fin 24 => 12 ≤ i.val ∧ i.val < 20) fun i => iprop(∃ X : Slot F, own5 c i fullShare X) := by
    rw [show (Finset.univ.filter fun i : Fin 24 => ¬ i.val < 16) = (Finset.univ.filter fun i : Fin 24 => 12 ≤ i.val ∧ i.val < 20).map (Equiv.addRight (4 : Fin 24)).toEmbedding from by decide, bigSep_map, ← bigSep_sep']
    refine BI.bigSep_mono fun i hi => ?_
    have hp := (Finset.mem_filter.mp hi).2
    have hv : ((Equiv.addRight (4 : Fin 24)) i).val = i.val + 4 := by
      show (i + 4).val = _; rw [Fin.val_add]; show (i.val + 4) % 24 = _; omega
    have hs : sendPay (svI I) ((Equiv.addRight (4 : Fin 24)) i) c = own5 c i fullShare.left (svI I ((Equiv.addRight (4 : Fin 24)) i) c) := by
      unfold sendPay; rw [dif_neg (by omega)]; rw [show (⟨((Equiv.addRight (4 : Fin 24)) i).val - 4, by omega⟩ : Fin 24) = i from Fin.ext (by show _ - 4 = _; omega)]
    have hg := svI_fwd I c i hp
    show iprop(landedP I c i ∗ sendPay (svI I) ((Equiv.addRight (4 : Fin 24)) i) c) ⊢ _
    rw [hs, hg]
    unfold landedP
    rw [if_pos hp]
    iintro ⟨H1, H2⟩; iexists (svI I i (sndr i c))
    iapply (owns_halves (c : Thread nD τ) (M5 i) fullShare _).2
    isplitl [H2] <;> iassumption
  have h3 : (bigSep (Finset.univ.filter fun i : Fin 24 => ¬ (12 ≤ i.val ∧ i.val < 20)) fun i => landedP I c i)
      ⊢ bigSep (Finset.univ.filter fun i : Fin 24 => ¬ (12 ≤ i.val ∧ i.val < 20)) fun i => iprop(∃ X : Slot F, own5 c i fullShare X) := by
    refine BI.bigSep_mono fun i hi => ?_
    show landedP I c i ⊢ iprop(∃ X : Slot F, own5 c i fullShare X)
    unfold landedP
    rw [if_neg (Finset.mem_filter.mp hi).2]
    iintro H; iexists _; iexact H
  have c1 := two_parts (fun i : Fin 24 => 12 ≤ i.val ∧ i.val < 20) (fun i => landedP I c i)
  have c2 := two_parts (fun i : Fin 24 => i.val < 16) (fun i => sendPay (svI I) i c)
  have c3 := two_parts (fun i : Fin 24 => 12 ≤ i.val ∧ i.val < 20) (fun i => (iprop(∃ X : Slot F, own5 c i fullShare X) : sProp 𝕄))
  rw [hD]
  iintro ⟨L, S, HzS, HzR⟩
  ihave L := (Entails.of_eq c1) $$ L
  icases L with ⟨L1, L2⟩
  ihave S := (Entails.of_eq c2) $$ S
  icases S with ⟨S1, S2⟩
  isplitl [L1 L2 S2]
  · iapply (Entails.of_eq c3.symm)
    isplitl [L1 S2]
    · iapply h2; isplitl [L1] <;> iassumption
    · iapply h3; iexact L2
  isplitl [S1]; · iapply h1; iexact S1
  isplitl [HzS] <;> iassumption

/-! ## The result buffer from its blocks -/

/-- The blocks at the end, whatever the buffer held at first. -/
theorem o20_any (σ σ' : OBlk F) : o20 I c σ = o20 I c σ' := by
  funext w r
  simp only [o20, o19, o18, o17, o16, o15, o14, o13, o12, o11, o10, o9, o8, o7, o6, o5, o4, o3, o2, o1, setO, setW]
  fin_cases w <;> fin_cases r <;> simp

/-- The block row, the block column and the place in the block of an element of the result. -/
def wOf (c : Dev nD) (i : S2048x1024.Idx) : Fin 4 := ⟨((i 0).val / 512 + (4 - c.val)) % 4, Nat.mod_lt _ (by decide)⟩
/-- The block column of an element of the result. -/
def rOf (i : S2048x1024.Idx) : Fin 4 := ⟨(i 1).val / 256, by have : (i 1).val < 1024 := (i 1).isLt; omega⟩
/-- Its place in the block. -/
def pOf (i : S2048x1024.Idx) : S512x256.Idx := fun a => match a with
  | ⟨0, _⟩ => ⟨(i 0).val % 512, Nat.mod_lt _ (by decide)⟩
  | ⟨1, _⟩ => ⟨(i 1).val % 256, Nat.mod_lt _ (by decide)⟩

/-- An element is where its block and its place in the block say. -/
theorem emb_pOf (c : Dev nD) (i : S2048x1024.Idx) : (RO c (wOf c i) (rOf i)).emb (pOf i) = i := by
  have h0 : (i 0).val < 2048 := (i 0).isLt
  have h1 : (i 1).val < 1024 := (i 1).isLt
  have hc : c.val < 4 := c.isLt
  funext a
  match a with
  | ⟨0, _⟩ =>
    refine Fin.ext ?_
    show 512 * ((c.val + ((i 0).val / 512 + (4 - c.val)) % 4) % 4) + 1 * ((i 0).val % 512) = (i 0).val
    omega
  | ⟨1, _⟩ =>
    refine Fin.ext ?_
    show 256 * ((i 1).val / 256) + 1 * ((i 1).val % 256) = (i 1).val
    omega

/-- The result a device ends with. -/
def outF (I : Inp F) (c : Dev nD) : (cc0_stg4_0 : Ref sig .tc).ty.Contents (Elt F) := fun i : S2048x1024.Idx =>
  o20 I c (fun _ _ => u20 I c) (wOf c i) (rOf i) (pOf i)

/-- A result buffer whose blocks are the last ones. -/
theorem out_is (f : (cc0_stg4_0 : Ref sig .tc).ty.Contents (Elt F)) (hf : ∀ w r, (oM.access (RO c w r)).read (Elt F) f = o20 I c σ w r) : f = outF I c := by
  funext i
  show f i = o20 I c (fun _ _ => u20 I c) (wOf c i) (rOf i) (pOf i)
  rw [← o20_any I c σ, ← hf]
  show f i = f ((RO c (wOf c i) (rOf i)).emb (pOf i))
  rw [emb_pOf]

end Cert.MoeProof

end
-- ==== Proof.Launch.lean ====
/-
# The launch

What the launch deals each device, how the pieces are dealt around the ring, and the run of the program.
-/
module

public import proofs.«01_k».proof.Proof.Chain
public import proofs.«01_k».proof.Proof.Slots

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory a run starts from. -/
def s₀ : MemSt nD τ sig (Elt F) := ⟨m, fun _ => 0, ρ⟩

/-- The operands as the devices' staging buffers hold them. -/
def inp : Inp F where
  a0 c := (win0_0.blk (0 : Fin 1)).view.read (Elt F) ((s₀ m ρ).mem ((c : Thread nD τ).loc main_arg0))
  a1 c := (win0_1.blk (0 : Fin 1)).view.read (Elt F) ((s₀ m ρ).mem ((c : Thread nD τ).loc main_arg1))
  a2 c := (win0_2.blk (0 : Fin 1)).view.read (Elt F) ((s₀ m ρ).mem ((c : Thread nD τ).loc main_arg2))
  a3 c := (win0_3.blk (0 : Fin 1)).view.read (Elt F) ((s₀ m ρ).mem ((c : Thread nD τ).loc main_arg3))

/-- The kernel has no grid: its pipeline makes one step. -/
theorem cfg0_N : cfg0.N = 1 := by decide
/-- The one step. -/
def t₀ : Fin cfg0.N := ⟨0, by rw [cfg0_N]; decide⟩
/-- Every step is that one. -/
theorem fin_N (t : Fin cfg0.N) : t = t₀ := by
  obtain ⟨t, ht⟩ := t; have := cfg0_N; exact Fin.ext (by simp only [t₀]; omega)

/-! ## The pipeline's data -/

/-- A device's share of the protocol's pieces. -/
def ghost (K : Dev nD × Fin 49 → ℕ) (c : Dev nD) : sProp 𝕄 :=
  iprop(recs (svI (inp m ρ)) K ∗ atPos ER (barCell c) 0 ∅ 0 ∗ dutyTok ER (barCell (prv c)) 0 true ∗ dutyTok ER (barCell (nxt c)) 0 false
    ∗ (bigSep Finset.univ fun i : Fin 24 => (dutyTok ER (recvCell (nbr i c) i) 0 false : sProp 𝕄))
    ∗ (bigSep Finset.univ fun i : Fin 24 => (dutyTok ER (sendCell c i) 0 false : sProp 𝕄))
    ∗ (bigSep Finset.univ fun i : Fin 24 => (atPos ER (sendCell c i) 0 ∅ 0 : sProp 𝕄))
    ∗ (bigSep Finset.univ fun i : Fin 24 => (atPos ER (recvCell c i) 0 ∅ 0 : sProp 𝕄)))

/-- What a device's body starts from beside its buffers. -/
def start (c : Dev nD) : sProp 𝕄 :=
  iprop((∃ K, ghost m ρ K c) ∗ cred (tallyAt (barCell c) () 2) ∗ (bigSep Finset.univ fun i : Fin 24 => (cred (tallyAt (recvCell c i) () N) : sProp 𝕄)) ∗ levAts L lv)

/-- The three buffers of the kernel's own, at any contents. -/
def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- What the body starts with beside its staging buffers. -/
def Φ₀ (c : Dev nD) : sProp 𝕄 := iprop(start m ρ c ∗ scr c)
/-- What the body ends with beside them: its own buffers, and every counter at zero. -/
def Φ₁ (c : Dev nD) : sProp 𝕄 :=
  iprop(scr c ∗ semVal (barCell c) 0 ∗ (bigSep Finset.univ fun i : Fin 24 => (semVal (sendCell c i) 0 : sProp 𝕄)) ∗ (bigSep Finset.univ fun i : Fin 24 => (semVal (recvCell c i) 0 : sProp 𝕄)))

/-- The pipeline's data: the operands' buffers keep their contents, the result's ends as `outF` says, and the body starts with what it owes its neighbours. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (inp m ρ).a0 c
    | ⟨1, _⟩ => (inp m ρ).a1 c
    | ⟨2, _⟩ => (inp m ρ).a2 c
    | ⟨3, _⟩ => (inp m ρ).a3 c
    | ⟨4, _⟩ => outF (inp m ρ) c
  Φ t := match t with
    | ⟨0, _⟩ => Φ₀ m ρ c
    | ⟨_ + 1, _⟩ => Φ₁ c
  q _ := fullShare
  owed t := match t with
    | ⟨0, _⟩ => O₀ c
    | ⟨_ + 1, _⟩ => 0

omit [FloatOps F] in
/-- A family over the windows, written out. -/
theorem bigSep_W (Φ : Fin cfg0.W → sProp 𝕄) : bigSep Finset.univ Φ = iprop(Φ (0 : Fin 5) ∗ Φ (1 : Fin 5) ∗ Φ (2 : Fin 5) ∗ Φ (3 : Fin 5) ∗ Φ (4 : Fin 5)) := bigSep_W0 Φ

omit [FloatOps F] in
/-- To own a whole buffer at contents is to hold it at those contents. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

/-- A staging buffer at contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the pipeline gives the body. -/
def bodyPre (c : Dev nD) : sProp 𝕄 :=
  iprop(Φ₀ m ρ c ∗ (dats m ρ 0 c).owesAt () t₀.castSucc
    ∗ (∃ d, stg c cc0_stg0_0 ((dats m ρ 0 c).before (0 : Fin 5) t₀ d))
    ∗ (∃ d, stg c cc0_stg1_0 ((dats m ρ 0 c).before (1 : Fin 5) t₀ d))
    ∗ (∃ d, stg c cc0_stg2_0 ((dats m ρ 0 c).before (2 : Fin 5) t₀ d))
    ∗ (∃ d, stg c cc0_stg3_0 ((dats m ρ 0 c).before (3 : Fin 5) t₀ d))
    ∗ (∃ d, stg c cc0_stg4_0 ((dats m ρ 0 c).before (4 : Fin 5) t₀ d)))

/-- What the body gives back. -/
def bodyPost (c : Dev nD) : sProp 𝕄 :=
  iprop(Φ₁ c ∗ (dats m ρ 0 c).owesAt () t₀.succ ∗ stg c cc0_stg0_0 ((inp m ρ).a0 c) ∗ stg c cc0_stg1_0 ((inp m ρ).a1 c)
    ∗ stg c cc0_stg2_0 ((inp m ρ).a2 c) ∗ stg c cc0_stg3_0 ((inp m ρ).a3 c) ∗ stg c cc0_stg4_0 (outF (inp m ρ) c))

/-- The landed slots, one by one or as a family. -/
theorem landed_list (I : Inp F) (c : Dev nD) : iprop(own5 c (0 : Fin 24) fullShare (g0 I (prv c)) ∗ own5 c (1 : Fin 24) fullShare (g1 I (prv c)) ∗ own5 c (2 : Fin 24) fullShare (g2 I (nxt c)) ∗ own5 c (3 : Fin 24) fullShare (g3 I (nxt c)) ∗ own5 c (4 : Fin 24) fullShare (g4 I (prv c)) ∗ own5 c (5 : Fin 24) fullShare (g5 I (prv c)) ∗ own5 c (6 : Fin 24) fullShare (g6 I (nxt c)) ∗ own5 c (7 : Fin 24) fullShare (g7 I (nxt c)) ∗ own5 c (8 : Fin 24) fullShare (g8 I (prv c)) ∗ own5 c (9 : Fin 24) fullShare (g9 I (prv c)) ∗ own5 c (10 : Fin 24) fullShare (g10 I (nxt c)) ∗ own5 c (11 : Fin 24) fullShare (g11 I (nxt c)) ∗ own5 c (12 : Fin 24) fullShare.right (g12 I (prv c)) ∗ own5 c (13 : Fin 24) fullShare.right (g13 I (prv c)) ∗ own5 c (14 : Fin 24) fullShare.right (g14 I (nxt c)) ∗ own5 c (15 : Fin 24) fullShare.right (g15 I (nxt c)) ∗ own5 c (16 : Fin 24) fullShare.right (g16 I (prv c)) ∗ own5 c (17 : Fin 24) fullShare.right (g17 I (prv c)) ∗ own5 c (18 : Fin 24) fullShare.right (g18 I (nxt c)) ∗ own5 c (19 : Fin 24) fullShare.right (g19 I (nxt c)) ∗ own5 c (20 : Fin 24) fullShare (g20 I (prv c)) ∗ own5 c (21 : Fin 24) fullShare (g21 I (prv c)) ∗ own5 c (22 : Fin 24) fullShare (g22 I (nxt c)) ∗ own5 c (23 : Fin 24) fullShare (g23 I (nxt c)))
    ⊢ (bigSep Finset.univ fun i : Fin 24 => landedP I c i : sProp 𝕄) := by
  rw [bigSep_univ_eq_bigSepL [0, 1, 2, 3, 4, 5, 6, 7, 8, 9, 10, 11, 12, 13, 14, 15, 16, 17, 18, 19, 20, 21, 22, 23] (by decide) (by decide)]
  exact BI.Entails.refl _

/-- What the body ends with, sorted. -/
theorem ending (I : Inp F) (K : Dev nD × Fin 49 → ℕ) (c : Dev nD) (σ : OBlk F) (ε : EBlk F) :
    iprop(St (svI I) I K c 24 16 24 (o20 I c σ) ε ∗ (bigSep Finset.univ fun i : Fin 24 => landedP I c i) ∗ rest5 c ∗ rest6 c)
      ⊢ iprop(inP I c ∗ stg c cc0_stg4_0 (outF I c) ∗ (∃ W : Waits sig Unit, owes (c : Thread nD τ) 0 W) ∗ scr c
        ∗ (bigSep Finset.univ fun i : Fin 24 => (semVal (sendCell c i) 0 : sProp 𝕄)) ∗ (bigSep Finset.univ fun i : Fin 24 => (semVal (recvCell c i) 0 : sProp 𝕄))) := by
  unfold St outP ewbP Pend scr
  rw [Oq_last]
  iintro ⟨⟨-, -, HI, ⟨%f, %hf, Ho⟩, ⟨%g, -, He⟩, ⟨HW, -⟩, -, HD⟩, HL, H5, H6⟩
  ihave HX := (slots_back I c) $$ [HL HD]
  · isplitl [HL] <;> iassumption
  icases HX with ⟨A, B, C, D⟩
  isplitl [HI]; · iexact HI
  isplitl [Ho]
  · iexists f; isplitr; · ipureintro; exact out_is I c σ f hf
    iexact Ho
  isplitl [HW]; · iexact HW
  isplitr [C D]
  · isplitl [A H5]
    · iapply (join5 (F := F) c); isplitl [A] <;> iassumption
    isplitl [B H6]
    · iapply (join6 (F := F) c); isplitl [B] <;> iassumption
    iexists g; iexact He
  isplitl [C] <;> iassumption

/-- The body, from what the launch deals to what it takes back. -/
theorem sound_body (c : Dev nD) (Kt : PUnit → sProp 𝕄) :
    iprop(bodyPre m ρ c ∗ (bodyPost m ρ c -∗ Kt ⟨⟩))
      ⊢ wp frame (wpE (defs₀ (F := F)) 𝒱₀ c none) Set.univ
          (cc0_body iM0 (Memref.isWhole_whole _) iM1 (Memref.isWhole_whole _) iM2 (Memref.isWhole_whole _) iM3 (Memref.isWhole_whole _)
            oM (Memref.isWhole_whole _) cM (Memref.isWhole_whole _) gM (Memref.isWhole_whole _) eM (Memref.isWhole_whole _) cc0_scratch3 cc0_scratch4) Kt := by
  unfold bodyPre Φ₀ start ghost scr
  iintro ⟨⟨⟨⟨⟨%K, HR, Hat, Ht1, Ht2, T1, T2, T3, T4⟩, Hc, T5, HL⟩, B5, B6, ⟨%e, Be⟩⟩, Ho,
    ⟨%d0, %f0, %hf0, A0⟩, ⟨%d1, %f1, %hf1, A1⟩, ⟨%d2, %f2, %hf2, A2⟩, ⟨%d3, %f3, %hf3, A3⟩, ⟨%d4, %f4, %hf4, A4⟩⟩, Hk⟩
  have e0 : f0 = (inp m ρ).a0 c := by rw [hf0]; unfold Dat.before; rw [if_pos (fetch0_0 t₀)]; rfl
  have e1 : f1 = (inp m ρ).a1 c := by rw [hf1]; unfold Dat.before; rw [if_pos (fetch0_1 t₀)]; rfl
  have e2 : f2 = (inp m ρ).a2 c := by rw [hf2]; unfold Dat.before; rw [if_pos (fetch0_2 t₀)]; rfl
  have e3 : f3 = (inp m ρ).a3 c := by rw [hf3]; unfold Dat.before; rw [if_pos (fetch0_3 t₀)]; rfl
  subst e0 e1 e2 e3
  unfold Dat.owesAt Pipeline.owesWithin
  icases Ho with ⟨%W, %hW, HO⟩
  rw [show (dats m ρ 0 c).owed t₀.castSucc = O₀ c from rfl]
  ihave B5 := (cut5 (F := F) c) $$ B5
  icases B5 with ⟨B5, R5⟩
  ihave B6 := (cut6 (F := F) c) $$ B6
  icases B6 with ⟨B6, R6⟩
  iapply (p_all (inp m ρ) K c (fun w r => (oM.access (RO c w r)).read (Elt F) f4) (fun j => (eM.access (RE j)).read (Elt F) e)
    (Memref.isWhole_whole _) (Memref.isWhole_whole _) (Memref.isWhole_whole _) (Memref.isWhole_whole _) (Memref.isWhole_whole _) (Memref.isWhole_whole _)
    (Memref.isWhole_whole _) (Memref.isWhole_whole _)) $$ [HL HR A0 A1 A2 A3 A4 Be HO Hat Hc Ht1 Ht2 B5 T1 T2 T3 T4 T5 B6]
  · unfold Enter inP outP ewbP tok
    rw [bigSep_sep', bigSep_sep', bigSep_sep', bigSep_sep']
    isplitl [HL]; · iexact HL
    isplitl [HR]; · iexact HR
    isplitl [A0 A1 A2 A3]
    · isplitl [A0]; · iexact A0
      isplitl [A1]; · iexact A1
      isplitl [A2] <;> iassumption
    isplitl [A4]
    · iexists f4; isplitr; · ipureintro; exact fun _ _ => rfl
      iexact A4
    isplitl [Be]
    · iexists e; isplitr; · ipureintro; exact fun _ => rfl
      iexact Be
    isplitl [HO]; · iexists W; iexact HO
    isplitl [Hat]; · iexact Hat
    isplitl [Hc]; · iexact Hc
    isplitl [Ht1]; · iexact Ht1
    isplitl [Ht2]; · iexact Ht2
    isplitl [B5]; · iexact B5
    isplitr [B6]
    · isplitl [T1]; · iexact T1
      isplitl [T2]; · iexact T2
      isplitl [T3]; · iexact T3
      isplitl [T4] <;> iassumption
    iexact B6
  iintro HS HB L0 L1 L2 L3 L4 L5 L6 L7 L8 L9 L10 L11 L12 L13 L14 L15 L16 L17 L18 L19 L20 L21 L22 L23
  ihave HL := (landed_list (inp m ρ) c) $$ [L0 L1 L2 L3 L4 L5 L6 L7 L8 L9 L10 L11 L12 L13 L14 L15 L16 L17 L18 L19 L20 L21 L22 L23]
  · skip
    isplitl [L0]; · iexact L0
    isplitl [L1]; · iexact L1
    isplitl [L2]; · iexact L2
    isplitl [L3]; · iexact L3
    isplitl [L4]; · iexact L4
    isplitl [L5]; · iexact L5
    isplitl [L6]; · iexact L6
    isplitl [L7]; · iexact L7
    isplitl [L8]; · iexact L8
    isplitl [L9]; · iexact L9
    isplitl [L10]; · iexact L10
    isplitl [L11]; · iexact L11
    isplitl [L12]; · iexact L12
    isplitl [L13]; · iexact L13
    isplitl [L14]; · iexact L14
    isplitl [L15]; · iexact L15
    isplitl [L16]; · iexact L16
    isplitl [L17]; · iexact L17
    isplitl [L18]; · iexact L18
    isplitl [L19]; · iexact L19
    isplitl [L20]; · iexact L20
    isplitl [L21]; · iexact L21
    isplitl [L22]; · iexact L22
    iexact L23

  ihave HX := (ending (inp m ρ) K c _ _) $$ [HS HL R5 R6]
  · isplitl [HS]; · iexact HS
    isplitl [HL]; · iexact HL
    isplitl [R5] <;> iassumption
  icases HX with ⟨HI, Hout, ⟨%W', HO⟩, Hscr, HzS, HzR⟩
  iapply Hk
  unfold bodyPost Φ₁ inP Dat.owesAt Pipeline.owesWithin
  rw [show (dats m ρ 0 c).owed t₀.succ = 0 from rfl]
  icases HI with ⟨A0, A1, A2, A3⟩
  isplitl [Hscr HB HzS HzR]
  · isplitl [Hscr]; · iexact Hscr
    isplitl [HB]; · iexact HB
    isplitl [HzS] <;> iassumption
  isplitl [HO]
  · iexists W'; isplitr; · ipureintro; exact fun _ _ => Or.inl trivial
    iexact HO
  isplitl [A0]; · iexists _; isplitr; · (ipureintro; rfl)
                  iexact A0
  isplitl [A1]; · iexists _; isplitr; · (ipureintro; rfl)
                  iexact A1
  isplitl [A2]; · iexists _; isplitr; · (ipureintro; rfl)
                  iexact A2
  isplitl [A3]; · iexists _; isplitr; · (ipureintro; rfl)
                  iexact A3
  iexact Hout

set_option maxRecDepth 20000 in
/-- The body's program, its buffers named. -/
theorem body_text : defs₀ (F := F) .tc cfg0.body (cfg0.bodyArgs t₀ (cfg0.slots t₀)) = cc0_body (F := F) iM0 (Memref.isWhole_whole _) iM1 (Memref.isWhole_whole _) iM2 (Memref.isWhole_whole _) iM3 (Memref.isWhole_whole _)
      oM (Memref.isWhole_whole _) cM (Memref.isWhole_whole _) gM (Memref.isWhole_whole _) eM (Memref.isWhole_whole _) cc0_scratch3 cc0_scratch4 := rfl

set_option maxRecDepth 20000 in
/-- The pipeline's obligation on the body. -/
theorem body_obligation (c : Dev nD) : BodyObligation (dats (F := F) m ρ 0 c) (defs₀ (F := F)) 𝒱₀ () Set.univ := fun t => by
  rw [fin_N t, body_text]
  rw [bigSep_W, bigSep_W]
  simp only [owns_whole_eq]
  refine BI.Entails.trans (?_ : _ ⊢ iprop(bodyPre m ρ c ∗ (bodyPost m ρ c -∗ bodyPost m ρ c))) (sound_body m ρ c fun _ => bodyPost m ρ c)
  show bodyPre m ρ c ⊢ _
  iintro H
  isplitl [H]; · iexact H
  iintro H; iexact H

end Cert.MoeProof

end
-- ==== Proof.Run.lean ====
/-
# The run

The pieces dealt around the ring before the devices start, the launch's side conditions, and the run of the program.
-/
module

public import proofs.«01_k».proof.Proof.Launch
public import Idealize.ShloMosaic.Lib.Pipeline.CollectiveSegs

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Families over the cells -/

/-- The place of a send semaphore among the kernel's own, -/
def sE : Fin 24 ↪ Fin 48 := ⟨fun i => ⟨i.val, by omega⟩, fun i j h => Fin.ext (by have := congrArg Fin.val h; simpa using this)⟩
/-- of a receive semaphore, -/
def rE : Fin 24 ↪ Fin 48 := ⟨fun i => ⟨i.val + 24, by omega⟩, fun i j h => Fin.ext (by have := congrArg Fin.val h; simpa using this)⟩
/-- and of the kernel's own among all of the protocol's. -/
def kE : Fin 48 ↪ Fin 49 := ⟨Fin.succ, Fin.succ_injective _⟩

/-- The first 24 are the send semaphores, -/
theorem osem_sE (i : Fin 24) : osem (sE i) = .dma (sS i) := by
  show osem ⟨i.val, _⟩ = _
  unfold osem; rw [dif_pos (show i.val < 24 from i.isLt)]
/-- the others the receive semaphores. -/
theorem osem_rE (i : Fin 24) : osem (rE i) = .dma (rS i) := by
  show osem ⟨i.val + 24, _⟩ = _
  unfold osem; rw [dif_neg (show ¬ i.val + 24 < 24 by omega)]; congr

omit [FloatOps F] in
/-- A family over the kernel's own semaphores: the send semaphores and the receive semaphores. -/
theorem fam48 (Φ : SemLoc sig → sProp 𝕄) : (bigSep Finset.univ fun k : Fin 48 => Φ (osem k) : sProp 𝕄)
    = iprop((bigSep Finset.univ fun i : Fin 24 => Φ (.dma (sS i))) ∗ (bigSep Finset.univ fun i : Fin 24 => Φ (.dma (rS i)))) := by
  rw [show (Finset.univ : Finset (Fin 48)) = Finset.univ.map sE ∪ Finset.univ.map rE by decide, BI.bigSep_union (by decide), bigSep_map, bigSep_map]
  simp only [osem_sE, osem_rE]
  rfl

omit [FloatOps F] in
/-- A family over the protocol's semaphores: the barrier's apart. -/
theorem fam49 (Φ : SemLoc sig → sProp 𝕄) : (bigSep Finset.univ fun k : Fin 49 => Φ (csem k) : sProp 𝕄)
    = iprop(Φ (.reg barS) ∗ (bigSep Finset.univ fun i : Fin 24 => Φ (.dma (sS i))) ∗ (bigSep Finset.univ fun i : Fin 24 => Φ (.dma (rS i)))) := by
  rw [show (Finset.univ : Finset (Fin 49)) = insert 0 (Finset.univ.map kE) by decide, BI.bigSep_insert (by decide), bigSep_map,
    bigSep_congr (s := Finset.univ) (fun (k : Fin 48) _ => show Φ (csem (kE k)) = Φ (osem k) from congrArg Φ (csem_succ k)), fam48]
  rfl

/-- The protocol's own semaphores are scratch of the kernel and apart from those of the pipeline. -/
theorem ownSemFacts : Pipeline.OwnSemFacts cfg0.spec osem := by decide

/-- Every window's array is held whole. -/
theorem share_eq (c : Dev nD) (w : Fin cfg0.W) : (dats m ρ 0 c).share w = fullShare := by unfold Dat.share; split <;> rfl

/-- The protocol's semaphores are different ones, -/
theorem csem_injective : Function.Injective csem := by decide

/-- and so are its cells. -/
theorem kcell_injective : Function.Injective (kcell : Dev nD × Fin 49 → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- Every cell of the protocol. -/
def ringCells : Finset (GSem nD τ sig) := Finset.univ.map ⟨kcell, kcell_injective⟩

/-- The duties of a device's own cells: one each, and the barrier's second. -/
def tokOf (cj : Dev nD × (Fin 49 ⊕ Unit)) : GSem nD τ sig × ℕ × Bool := match cj.2 with
  | .inl k => (kcell (cj.1, k), 0, false)
  | .inr _ => (barCell cj.1, 0, true)
/-- Different duties have different tokens. -/
theorem tokOf_injective : Function.Injective tokOf := by
  rintro ⟨c, k | _⟩ ⟨c', k' | _⟩ h
  · have := kcell_injective (congrArg Prod.fst h)
    exact congrArg (fun ck : Dev nD × Fin 49 => (ck.1, Sum.inl ck.2)) this
  · exact absurd (congrArg (fun x : GSem nD τ sig × ℕ × Bool => x.2.2) h) (by simp [tokOf])
  · exact absurd (congrArg (fun x : GSem nD τ sig × ℕ × Bool => x.2.2) h) (by simp [tokOf])
  · have h1 : c = c' := congrArg (fun x : GSem nD τ sig × ℕ × Bool => x.1.1.1) h
    rw [h1]
/-- Every duty's token. -/
def ringToks : Finset (GSem nD τ sig × ℕ × Bool) := Finset.univ.map ⟨tokOf, tokOf_injective⟩

/-- The launch element: the staging cells' and the protocol's. -/
def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((bigSep Finset.univ fun k : Fin 49 => (dutyTok ER (kcell (c, k)) 0 false : sProp 𝕄)) ∗ dutyTok ER (barCell c) 0 true)

/-- What the launch element deals device `c`. -/
def G (c : Dev nD) : sProp 𝕄 :=
  iprop((bigSep Finset.univ fun k : Fin 49 => roundState ER (Rd (svI (inp m ρ))) (kcell (c, k)) 0)
    ∗ (bigSep Finset.univ fun k : Fin 49 => iprop(atPos ER (kcell (c, k)) 0 ∅ 0 ∗ reached ER (kcell (c, k)) 0)) ∗ toks c)

/-- What device `c` starts with, once the pieces are dealt. -/
def G' (c : Dev nD) : sProp 𝕄 := iprop(∃ K, ghost m ρ K c)

/-- The protocol's launch element is every device's cells, positions and tokens. -/
theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 49 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    unfold toks
    rw [BI.bigSep_univ_sum, bigSep_univ_eq_bigSepL [()] (by decide) (by decide), bigSepL_singleton]
    rfl
  iintro HX
  imod (Rounds.fund ER (Rd (svI (inp m ρ))) ringCells ringToks) $$ HX with ⟨Hst, Hr, Hat, Htok⟩
  imodintro
  ihave Hst' := (Entails.of_eq (hX fun g => roundState ER (Rd (svI (inp m ρ))) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The kernel's own counters at zero, written out: send and receive. -/
theorem ownSems0_eq (c : Dev nD) : (Pipeline.ownSems0 (Ix := Unit) (Name := ℕ) (U := UU) (Lvl := ℕ) (Val := Elt F) (τ := τ) osem c : sProp 𝕄)
    = iprop((bigSep Finset.univ fun i : Fin 24 => (semVal (sendCell c i) 0 : sProp 𝕄)) ∗ (bigSep Finset.univ fun i : Fin 24 => (semVal (recvCell c i) 0 : sProp 𝕄))) := by
  unfold Pipeline.ownSems0
  exact fam48 (F := F) (fun s => semVal ((c.tc : Thread nD τ), s) 0)
omit [FloatOps F] in
/-- The one counter outside the kernel's scope is the barrier's. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- All of the protocol's counters at zero, as one family. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 49 => semVal (kcell (c, k)) 0 : sProp 𝕄) := by
  rw [ownSems0_eq, unscopedSems0_eq]
  refine BI.Entails.trans ?_ (Entails.of_eq (fam49 (F := F) (fun s => semVal ((c : Thread nD τ), s) 0)).symm)
  show iprop(((bigSep Finset.univ fun i : Fin 24 => (semVal (sendCell c i) 0 : sProp 𝕄)) ∗ (bigSep Finset.univ fun i : Fin 24 => (semVal (recvCell c i) 0 : sProp 𝕄))) ∗ semVal (barCell c) 0)
    ⊢ iprop(semVal (barCell c) 0 ∗ (bigSep Finset.univ fun i : Fin 24 => (semVal (sendCell c i) 0 : sProp 𝕄)) ∗ (bigSep Finset.univ fun i : Fin 24 => (semVal (recvCell c i) 0 : sProp 𝕄)))
  iintro ⟨⟨HS, HV⟩, HB⟩
  isplitl [HB]; · iexact HB
  isplitl [HS] <;> iassumption

/-- Every cell's counter and state go into its invariant. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd (svI (inp m ρ))) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 49 => semVal (kcell (c, k)) 0) ∗ bigSep Finset.univ fun k : Fin 49 => roundState ER (Rd (svI (inp m ρ))) (kcell (c, k)) 0)
      ⊢ (|={Set.univ}=> bigSep Finset.univ fun k => iprop(∃ κ : ℕ, cellInv ER (Rd (svI (inp m ρ))) κ (kcell (c, k))) : sProp 𝕄) from by
        rw [← bigSep_sep']
        exact (bigSep_mono fun k _ => (Rounds.body_intro ER (Rd (svI (inp m ρ))) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens of the duties device `c` pays; -/
def payToks (c : Dev nD) : sProp 𝕄 :=
  iprop(dutyTok ER (barCell (prv c)) 0 true ∗ dutyTok ER (barCell (nxt c)) 0 false
    ∗ (bigSep Finset.univ fun i : Fin 24 => (dutyTok ER (recvCell (nbr i c) i) 0 false : sProp 𝕄))
    ∗ (bigSep Finset.univ fun i : Fin 24 => (dutyTok ER (sendCell c i) 0 false : sProp 𝕄)))
/-- what stays with it. -/
def linear (c : Dev nD) : sProp 𝕄 :=
  iprop((atPos ER (barCell c) 0 ∅ 0 ∗ (bigSep Finset.univ fun i : Fin 24 => (atPos ER (sendCell c i) 0 ∅ 0 : sProp 𝕄))
    ∗ (bigSep Finset.univ fun i : Fin 24 => (atPos ER (recvCell c i) 0 ∅ 0 : sProp 𝕄))) ∗ payToks c)

/-- The records and what stays with a device are its share. -/
theorem ghost_intro (K : Dev nD × Fin 49 → ℕ) (c : Dev nD) : iprop(recs (svI (inp m ρ)) K ∗ linear c) ⊢ G' m ρ c := by
  unfold linear payToks G' ghost
  iintro ⟨HR, ⟨HaB, HaS, HaV⟩, T1, T2, T3, T4⟩
  iexists K
  isplitl [HR]; · iexact HR
  isplitl [HaB]; · iexact HaB
  isplitl [T1]; · iexact T1
  isplitl [T2]; · iexact T2
  isplitl [T3]; · iexact T3
  isplitl [T4]; · iexact T4
  isplitl [HaS] <;> iassumption

/-- Receivers and their transfers, by sender. -/
def byRing : Dev nD × Fin 24 ≃ Dev nD × Fin 24 :=
  ⟨fun x => (nbr x.2 x.1, x.2), fun x => (sndr x.2 x.1, x.2), fun x => by simp only [sndr_nbr], fun x => by simp only [nbr_sndr]⟩

omit [FloatOps F] in
/-- A family over devices and transfers, by the receiver or by the sender. -/
theorem by_sender (Φ : Dev nD → Fin 24 → sProp 𝕄) :
    (bigSep Finset.univ fun c : Dev nD => bigSep Finset.univ fun i : Fin 24 => Φ c i : sProp 𝕄)
      = bigSep Finset.univ fun c : Dev nD => bigSep Finset.univ fun i : Fin 24 => Φ (nbr i c) i := by
  rw [← bigSep_univ_prod (fun x : Dev nD × Fin 24 => Φ x.1 x.2), ← bigSep_univ_prod (fun x : Dev nD × Fin 24 => Φ (nbr x.2 x.1) x.2)]
  exact bigSep_univ_equiv byRing (fun x : Dev nD × Fin 24 => Φ x.1 x.2)

omit [FloatOps F] in
/-- The tokens dealt around the ring. -/
theorem toks_around : (bigSep Finset.univ fun c : Dev nD => (toks c : sProp 𝕄)) ⊢ bigSep Finset.univ fun c : Dev nD => payToks c := by
  rw [bigSep_congr (s := Finset.univ) (fun (c : Dev nD) _ => show (toks c : sProp 𝕄)
    = iprop((dutyTok ER (barCell c) 0 false ∗ (bigSep Finset.univ fun i : Fin 24 => (dutyTok ER (sendCell c i) 0 false : sProp 𝕄))
      ∗ (bigSep Finset.univ fun i : Fin 24 => (dutyTok ER (recvCell c i) 0 false : sProp 𝕄))) ∗ dutyTok ER (barCell c) 0 true)
      from by unfold toks; rw [← fam49 (F := F) (fun s => (dutyTok ER ((c : Thread nD τ), s) 0 false : sProp 𝕄))])]
  unfold payToks
  rw [bigSep_sep', bigSep_sep', bigSep_sep', bigSep_sep', bigSep_sep', bigSep_sep',
    bigSep_univ_equiv ring (fun c : Dev nD => (dutyTok ER (barCell c) 0 false : sProp 𝕄)),
    bigSep_univ_equiv ring.symm (fun c : Dev nD => (dutyTok ER (barCell c) 0 true : sProp 𝕄)),
    by_sender (fun c i => (dutyTok ER (recvCell c i) 0 false : sProp 𝕄))]
  iintro ⟨⟨H1, H2, H3⟩, H4⟩
  isplitl [H4]; · iexact H4
  isplitl [H1]; · iexact H1
  isplitl [H3] <;> iassumption

omit [FloatOps F] in
/-- A persistent fact goes to every member of a family. -/
theorem with_all {R : sProp 𝕄} [BI.Persistent R] {Φ Ψ : Dev nD → sProp 𝕄}
    (h : ∀ c, iprop(R ∗ Φ c) ⊢ Ψ c) : iprop(R ∗ bigSep Finset.univ Φ) ⊢ bigSep Finset.univ Ψ :=
  (sep_mono_left (BI.bigSep_of_persistent Finset.univ R)).trans (by rw [← bigSep_sep']; exact bigSep_mono fun c _ => h c)

/-- Everything dealt anew: the records to every device, the tokens to who pays. -/
theorem regroup :
    (bigSep Finset.univ fun c : Dev nD => iprop((bigSep Finset.univ fun k => iprop(∃ κ : ℕ, cellInv ER (Rd (svI (inp m ρ))) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 49 => iprop(∃ κ : ℕ, cellInv ER (Rd (svI (inp m ρ))) κ (kcell ck))),
    bigSep_congr (s := Finset.univ) (fun (c : Dev nD) _ => bigSep_sep' Finset.univ (fun k : Fin 49 => (atPos ER (kcell (c, k)) 0 ∅ 0 : sProp 𝕄)) (fun k => reached ER (kcell (c, k)) 0)),
    bigSep_sep', ← bigSep_univ_prod (fun ck : Dev nD × Fin 49 => (reached ER (kcell ck) 0 : sProp 𝕄))]
  iintro ⟨HI, ⟨Hat, #HR⟩, Htok⟩
  ihave HK := (BI.bigSep_exists_pi Finset.univ (fun (ck : Dev nD × Fin 49) (κ : ℕ) => (cellInv ER (Rd (svI (inp m ρ))) κ (kcell ck) : sProp 𝕄))) $$ HI
  icases HK with ⟨%K, #HI⟩
  ihave Htk := (toks_around (F := F)) $$ Htok
  iapply (with_all (R := recs (svI (inp m ρ)) K) fun c => ghost_intro m ρ K c)
  isplitr
  · unfold recs; isplitl; · iexact HI
    iexact HR
  · iapply ((Entails.of_eq (bigSep_sep' Finset.univ (fun c : Dev nD => bigSep Finset.univ fun k : Fin 49 => (atPos ER (kcell (c, k)) 0 ∅ 0 : sProp 𝕄)) payToks).symm).trans
      (bigSep_mono fun c _ => show _ ⊢ linear c from Entails.of_eq (by
        unfold linear; rw [← fam49 (F := F) (fun s => (atPos ER ((c : Thread nD τ), s) 0 ∅ 0 : sProp 𝕄))])))
    isplitl [Hat]; · iexact Hat
    iexact Htk

/-- The step before the devices start, all of them at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

/-- A barrier cell names its device; -/
theorem bar_inj {a b : Dev nD} (h : barCell a = barCell b) : a = b := congrArg (fun g : GSem nD τ sig => g.1.1) h
/-- a receive cell names its device and its transfer. -/
theorem recv_inj {a b : Dev nD} {i j : Fin 24} (h : recvCell a i = recvCell b j) : a = b ∧ i = j :=
  ⟨congrArg (fun g : GSem nD τ sig => g.1.1) h, rS_injective (SemLoc.dma.inj (congrArg Prod.snd h))⟩

/-- A device's transfers credit no barrier cell; -/
theorem Oq_bar (d c : Dev nD) : Oq d 0 (barCell c) () = 0 := by
  by_contra h
  obtain ⟨i, -, hi⟩ := Oq_pos (Nat.pos_of_ne_zero h)
  exact absurd (congrArg Prod.snd hi) (by simp)
/-- they credit the receive cells of the devices they go to. -/
theorem Oq_recv (d c : Dev nD) (i : Fin 24) : Oq d 0 (recvCell c i) () = if d = sndr i c then N else 0 := by
  unfold Oq
  rw [Finset.sum_apply, Finsupp.finset_sum_apply, Finset.sum_eq_single i]
  · rw [tallyAt_apply]
    by_cases h : d = sndr i c
    · subst h; rw [nbr_sndr, if_pos ⟨rfl, rfl⟩, if_pos rfl]
    · rw [if_neg h, if_neg fun h' => h (by rw [← sndr_nbr i d, (recv_inj h'.1).1])]
  · intro j _ hj
    rw [tallyAt_apply, if_neg fun h' => hj (recv_inj h'.1).2.symm]
  · intro h; exact absurd (by simp) h

/-- A device owes each neighbour's barrier cell a unit; -/
theorem owed_bar (d c : Dev nD) : O₀ d (barCell c) () = (if d = prv c then 1 else 0) + (if d = nxt c then 1 else 0) := by
  unfold O₀ O₁
  rw [Pi.add_apply, Finsupp.add_apply, Pi.add_apply, Finsupp.add_apply, Oq_bar, tallyAt_apply, tallyAt_apply, Nat.zero_add]
  congr 1
  · by_cases h : d = prv c
    · subst h; rw [nxt_prv, if_pos ⟨rfl, rfl⟩, if_pos rfl]
    · rw [if_neg (fun ⟨h1, _⟩ => h (by rw [← prv_nxt d]; exact congrArg prv (bar_inj h1).symm)), if_neg h]
  · by_cases h : d = nxt c
    · subst h; rw [prv_nxt, if_pos ⟨rfl, rfl⟩, if_pos rfl]
    · rw [if_neg (fun ⟨h1, _⟩ => h (by rw [← nxt_prv d]; exact congrArg nxt (bar_inj h1).symm)), if_neg h]

/-- and the receive cell of each of its transfers the slot's credit. -/
theorem owed_recv (d c : Dev nD) (i : Fin 24) : O₀ d (recvCell c i) () = if d = sndr i c then N else 0 := by
  unfold O₀ O₁
  rw [Pi.add_apply, Finsupp.add_apply, Pi.add_apply, Finsupp.add_apply, Oq_recv,
    tallyAt_ne_cell (fun h => absurd (congrArg Prod.snd h) (by simp)), tallyAt_ne_cell (fun h => absurd (congrArg Prod.snd h) (by simp)),
    Finsupp.zero_apply, Nat.add_zero, Nat.add_zero]

/-- The launch credit of a barrier cell is two units, -/
theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (nxt c) fun _ => 1, Finset.sum_ite_eq' Finset.univ (prv c) fun _ => 1, if_pos (Finset.mem_univ _), if_pos (Finset.mem_univ _)]

/-- that of a receive cell one slot's credit. -/
theorem launch_recv (c : Dev nD) (i : Fin 24) :
    tallyOn (recvCell c i) (launchCredit (Pipeline.owing O₀) 0 (recvCell c i)) = (tallyAt (recvCell c i) () N : CellTallies nD τ sig Unit) := by
  unfold tallyAt; refine congrArg _ (Finsupp.ext fun u => ?_); cases u
  rw [Pipeline.launchCredit_owing, Finsupp.single_eq_same, Finset.sum_congr rfl fun d _ => owed_recv d c i, Finset.sum_ite_eq' Finset.univ (sndr i c) fun _ => N,
    if_pos (Finset.mem_univ _)]

/-- The receive semaphores, as places of a device's semaphores. -/
def rLoc : Fin 24 ↪ SemLoc sig := ⟨fun i => .dma (rS i), fun i j h => rS_injective (SemLoc.dma.inj h)⟩

omit [FloatOps F] in
/-- A device's launch credit, cell by cell. -/
theorem creds (c : Dev nD) :
    (Pipeline.launchCred O₀ c : sProp 𝕄) ⊢ iprop(cred (tallyAt (barCell c) () 2) ∗ bigSep Finset.univ fun i : Fin 24 => cred (tallyAt (recvCell c i) () N)) := by
  unfold Pipeline.launchCred
  rw [bigSep_univ_at _ (SemLoc.reg barS), launch_bar]
  refine sep_mono_right ?_
  refine BI.Entails.trans (BI.bigSep_subset (t := Finset.univ.map rLoc) fun s hs => ?_) ?_
  · obtain ⟨i, -, rfl⟩ := Finset.mem_map.mp hs
    exact Finset.mem_erase.mpr ⟨by simp [rLoc], Finset.mem_univ _⟩
  · rw [bigSep_map]
    exact Entails.of_eq (bigSep_congr fun i _ => congrArg cred (launch_recv c i))

/-! ## The launch's side conditions -/

/-- What a device is dealt is what its body starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

/-- With its own buffers it is the pipeline's first state. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr
  iintro ⟨Hs, -, H⟩
  isplitl [Hs]; · iexact Hs
  iexact H

/-- The pipeline's last state gives everything back. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scr
  iintro ⟨Hr, HzB, HzS, HzV⟩
  isplitl [HzB]; · iexact HzB
  isplitl [HzS HzV]
  · isplitl [HzS] <;> iassumption
  iexact Hr

/-- The pipeline's own waits are allowed: they lie below everything owed. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What the windows' arrays hold at the end. -/
def finalA (c : Dev nD) (w : Fin cfg0.W) : Buf (Elt F) ((cfg0.win w).arr.view.loc (c : Thread nD τ)) := (dats m ρ 0 c).arrAt w cfg0.N

/-- Every window's array ends at the contents the run names. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 40000 in
/-- From any memory with zero counters every fair run ends, every device's arrays at the named contents and every counter
    at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands' arrays hold at the end what they held. -/
theorem finalA_in (c : Dev nD) (w : Fin cfg0.W) (hw : (cfg0.win w).isOut = false) : finalA m ρ c w = (s₀ m ρ).mem ((cfg0.win w).arr.view.loc (c : Thread nD τ)) :=
  (dats (F := F) m ρ 0 c).arrAt_in w hw _

end Cert.MoeProof

end
-- ==== Proof.Same.lean ====
module

public import proofs.«01_k».proof.Proof.Gen.Kernel
public import proofs.«01_k».proof.Proof.Gen.KernelIdeal
public import Idealize.ShloMosaic.Adequacy

/-! The two kernel texts are the same program: one table of bodies serves both. -/

@[expose] public section

open Idealize.ShloMosaic Idealize.ShloMosaic.TcCoe Idealize.SL.Sem

namespace Cert.MoeProof

variable {F : FTy → Type} [FloatOps F] [Cert.Kernel.Facts] [Cert.KernelIdeal.Facts]

set_option maxRecDepth 40000 in
/-- The body of the grid is written the same in both texts. -/
theorem same_body : @Cert.Kernel.cc0_body F _ _ = @Cert.KernelIdeal.cc0_body F _ _ := rfl

set_option maxRecDepth 40000 in
/-- The tables of the bodies alone agree, label by label. -/
theorem same_defs₀ : Cert.Kernel.defs₀ (F := F) = Cert.KernelIdeal.defs₀ (F := F) := by
  unfold Cert.Kernel.defs₀ Cert.KernelIdeal.defs₀
  refine congrArg Defs.onTc ?_
  funext l a
  match l, a with
  | ⟨0, _⟩, (t, s) =>
    exact congrFun (congrFun (congrFun (congrFun (congrFun (congrFun (congrFun (congrFun
      (congrFun (congrFun (congrFun (congrFun (congrFun (congrFun (congrFun (congrFun
      (congrFun (congrFun same_body _) _) _) _) _) _) _) _) _) _) _) _) _) _) _) _) _) _

set_option maxRecDepth 40000 in
/-- The whole tables agree: the pipeline adds the same labels to both. -/
theorem same_defs : Cert.Kernel.defs (F := F) = Cert.KernelIdeal.defs (F := F) := by
  unfold Cert.Kernel.defs Cert.KernelIdeal.defs
  exact congrArg (Pipeline.defs _) same_defs₀

end Cert.MoeProof
-- ==== Proof.Chunk.lean ====
/-
# One device's part of one chunk of tokens

The four computations of a chunk in the body are one function of the chunk's tokens, the router, the chosen experts and
the device's eight experts.
-/
module

public import proofs.«01_k».proof.Proof.Vals

@[expose] public section

noncomputable section

namespace Cert.MoeProof

open Cert.KernelIdeal Cert.KernelIdeal.Gen

open Idealize.ShloMosaic
open Idealize.ShloMosaic.TcCoe

variable {F : FTy → Type} [FloatOps F]

/-- The routing probabilities of a chunk: the softmax of tokens times router, over the experts. -/
def probsF (X : Vec F S512x512 .f32) (R : Vec F S512x32 .f32) : FVec F S512x32 .f32 :=
  let s : FVec F S512x32 .f32 := matmul dot_S512x512_S512x32_S512x32_1_0_0_1_n_n none
    (shapeCast S512x512 X shapeCasts_S512x512_S512x512 : FVec F S512x512 .f32) (shapeCast S512x32 R shapeCasts_S512x32_S512x32 : FVec F S512x32 .f32)
    (constant S512x32 .f32 0x00000000#32)
  let e : FVec F S512x32 .f32 := exp (subf s (broadcastTo S512x32 (shapeCast S512x1
    (multiReduction .maximumf [1] S512 s 0xFF800000#32 reduces_S512x32_S512 (.inl rfl) rfl : FVec F S512 .f32) shapeCasts_S512_S512x1) broadcasts_S512x1_S512x32))
  divf e (broadcastTo S512x32 (shapeCast S512x1
    (multiReduction .add [1] S512 e 0x00000000#32 reduces_S512x32_S512 (.inl rfl) rfl : FVec F S512 .f32) shapeCasts_S512_S512x1) broadcasts_S512x1_S512x32)

/-- The probability of the expert that column `i` names, token by token. -/
def pickF (p : FVec F S512x32 .f32) (i : IVec S512x1 32) : FVec F S512x1 .f32 :=
  shapeCast S512x1 (multiReduction .add [1] S512
    (select (cmpi .eq (iota .tc S512x32 32 [1] iota_S512x32_d1_w32) (broadcastTo S512x32 i broadcasts_S512x1_S512x32)) p
      (broadcast S512x32 (Scalar.ofBits .f32 0x00000000#32 : F .f32)))
    0x00000000#32 reduces_S512x32_S512 (.inl rfl) rfl : FVec F S512 .f32) shapeCasts_S512_S512x1

/-- The first chosen expert of each token. -/
def fstF (ix : Vec F S512x2 .i32) : IVec S512x1 32 :=
  extractStridedSlice S512x1 ![0, 0] (shapeCast S512x2 ix shapeCasts_S512x2_S512x2 : IVec S512x2 32) slices_S512x2_o0_0_S512x1

/-- The second chosen expert of each token. -/
def sndF (ix : Vec F S512x2 .i32) : IVec S512x1 32 :=
  extractStridedSlice S512x1 ![0, 1] (shapeCast S512x2 ix shapeCasts_S512x2_S512x2 : IVec S512x2 32) slices_S512x2_o0_1_S512x1

/-- A chosen expert's share `i` of the two probabilities. -/
def shareF (p : FVec F S512x32 .f32) (i a b : IVec S512x1 32) : FVec F S512x1 .f32 :=
  divf (pickF p i) (addf (pickF p a) (pickF p b))

/-- What expert number `g`, with weights `B`, adds to a chunk. -/
def termF (g : BitVec 32) (X : Vec F S512x512 .f32) (v0 v1 : FVec F S512x1 .f32) (i0 i1 : IVec S512x1 32) (B : Vec F S1x512x1024 .bf16) :
    FVec F S512x1024 .f32 :=
  matmul dot_S512x512_S512x1024_S512x1024_1_0_0_1_n_n none
    (mulf (truncf .bf16 (shapeCast S512x512 X shapeCasts_S512x512_S512x512 : FVec F S512x512 .f32) bitsLt_bf16_f32 : FVec F S512x512 .bf16)
      (broadcastTo S512x512 (truncf .bf16 (addf
        (select (cmpi .eq i0 (broadcast S512x1 g)) v0 (broadcast S512x1 (Scalar.ofBits .f32 0x00000000#32 : F .f32)))
        (select (cmpi .eq i1 (broadcast S512x1 g)) v1 (broadcast S512x1 (Scalar.ofBits .f32 0x00000000#32 : F .f32))) : FVec F S512x1 .f32)
          bitsLt_bf16_f32 : FVec F S512x1 .bf16) broadcasts_S512x1_S512x512) : FVec F S512x512 .bf16)
    (shapeCast S512x1024 B shapeCasts_S1x512x1024_S512x1024 : FVec F S512x1024 .bf16)
    (constant S512x1024 .f32 0x00000000#32)

/-- Expert `l` of the device at position `q`. -/
def geF (q : BitVec 32) (l : BitVec 32) : BitVec 32 := Scalar.addi (Scalar.muli q 8#32) l

/-- The device's part of a chunk: its eight experts' terms, added in order. -/
def chunkF (q : BitVec 32) (X : Vec F S512x512 .f32) (R : Vec F S512x32 .f32) (ix : Vec F S512x2 .i32) (B : Fin 8 → Vec F S1x512x1024 .bf16) :
    FVec F S512x1024 .f32 :=
  let p := probsF X R
  let i0 := fstF ix
  let i1 := sndF ix
  let v0 := shareF p i0 i0 i1
  let v1 := shareF p i1 i0 i1
  let T := fun (l : BitVec 32) (k : Fin 8) => termF (geF q l) X v0 v1 i0 i1 (B k)
  addf (addf (addf (addf (addf (addf (addf (addf (broadcast S512x1024 (Scalar.ofBits .f32 0x00000000#32 : F .f32))
    (T 0#32 0)) (T 1#32 1)) (T 2#32 2)) (T 3#32 3)) (T 4#32 4)) (T 5#32 5)) (T 6#32 6)) (T 7#32 7)

/-- The device's eight experts, as the body keeps them. -/
def bankF (I : Inp F) (c : Dev nD) : Fin 8 → Vec F S1x512x1024 .bf16 := ![b0 I c, b1 I c, b2 I c, b3 I c, b4 I c, b5 I c, b6 I c, b7 I c]

/-- The chunk of the device's own position. -/
theorem u1_eq (I : Inp F) (c : Dev nD) : u1 I c = chunkF (wv2 I c) (wv17 I c) (wv19 I c) (wv32 I c) (bankF I c) := rfl

/-- The chunk before it. -/
theorem u2_eq (I : Inp F) (c : Dev nD) : u2 I c = chunkF (wv2 I c) (wv337 I c) (wv339 I c) (wv352 I c) (bankF I c) := rfl

/-- The chunk after it. -/
theorem u3_eq (I : Inp F) (c : Dev nD) : u3 I c = chunkF (wv2 I c) (wv603 I c) (wv605 I c) (wv618 I c) (bankF I c) := rfl

/-- The chunk opposite. -/
theorem u4_eq (I : Inp F) (c : Dev nD) : u4 I c = chunkF (wv2 I c) (wv869 I c) (wv871 I c) (wv884 I c) (bankF I c) := rfl

end Cert.MoeProof

end
-- ==== Proof.Spec.lean ====
/-
# The mathematics of the layer, at the extended reals

One token `x`, the router `R` and the two chosen experts: the softmax over the experts' scores, the two shares, and the
sum of the two experts' outputs by share.
-/
module

public import Idealize.ShloMosaic.Lib.Pointwise

@[expose] public section

noncomputable section

namespace Cert.MoeProof.Spec

open Idealize.ShloMosaic

/-- An expert's score. -/
def score (x : Fin 512 → EReal) (R : Fin 512 → Fin 32 → EReal) (e : Fin 32) : EReal := ∑ k, x k * R k e

/-- The greatest score, from the least value on. -/
def top (x : Fin 512 → EReal) (R : Fin 512 → Fin 32 → EReal) : EReal :=
  Finset.fold max (Ideal.ofBits .f32 0xFF800000#32 : EReal) (score x R) Finset.univ

/-- The score's exponential, taken below the greatest. -/
def raised (x : Fin 512 → EReal) (R : Fin 512 → Fin 32 → EReal) (e : Fin 32) : EReal := Ideal.exp (score x R e - top x R)

/-- An expert's probability. -/
def prob (x : Fin 512 → EReal) (R : Fin 512 → Fin 32 → EReal) (e : Fin 32) : EReal := Ideal.div (raised x R e) (∑ e', raised x R e')

/-- The share of expert `i` among the two chosen ones. -/
def share (x : Fin 512 → EReal) (R : Fin 512 → Fin 32 → EReal) (a b i : Fin 32) : EReal :=
  Ideal.div (prob x R i) (prob x R a + prob x R b)

/-- The layer's output at one column: `W e` is that column of expert `e`. -/
def layer (x : Fin 512 → EReal) (R : Fin 512 → Fin 32 → EReal) (a b : Fin 32) (W : Fin 32 → Fin 512 → EReal) : EReal :=
  share x R a b a * (∑ k, x k * W a k) + share x R a b b * (∑ k, x k * W b k)

/-- Expert `l` of the device at position `d`. -/
def expertOf (d : Fin 4) (l : Fin 8) : Fin 32 := ⟨8 * d.val + l.val, by omega⟩

/-- How much of expert `e` a token takes: its share when it is one of the two chosen. -/
def gate (x : Fin 512 → EReal) (R : Fin 512 → Fin 32 → EReal) (a b e : Fin 32) : EReal :=
  (if a = e then share x R a b a else 0) + (if b = e then share x R a b b else 0)

/-- What expert `e` adds to a token, the gate multiplied into the token. -/
def term (x : Fin 512 → EReal) (R : Fin 512 → Fin 32 → EReal) (a b : Fin 32) (W : Fin 32 → Fin 512 → EReal) (e : Fin 32) : EReal :=
  ∑ k, x k * gate x R a b e * W e k

/-- What the device at position `d` adds to a token: its eight experts' terms. -/
def part (x : Fin 512 → EReal) (R : Fin 512 → Fin 32 → EReal) (a b : Fin 32) (W : Fin 32 → Fin 512 → EReal) (d : Fin 4) : EReal :=
  ∑ l : Fin 8, term x R a b W (expertOf d l)

end Cert.MoeProof.Spec

end
-- ==== Proof.ChunkVal.lean ====
/-
# One device's part of one chunk, entry by entry, at the extended reals
-/
module

public import proofs.«01_k».proof.Proof.Chunk
public import proofs.«01_k».proof.Proof.Spec
public import Idealize.ShloMosaic.Lib.Pointwise

@[expose] public section

noncomputable section

namespace Cert.MoeProof

open Cert.KernelIdeal Cert.KernelIdeal.Gen
open Idealize.ShloMosaic Idealize.ShloMosaic.TcCoe

set_option maxRecDepth 16384

/-- A selection by the equality of two expert numbers. -/
theorem select_expert {α : Type} (a b : Fin 32) (u v : α) :
    Scalar.select (IntOp.cmpi .eq (BitVec.ofNat 32 a.val) (BitVec.ofNat 32 b.val)) u v = if a = b then u else v := by
  by_cases h : a = b
  · subst h
    rw [if_pos rfl]
    simp [IntOp.cmpi, Scalar.select]
  · rw [if_neg h]
    have hn : BitVec.ofNat 32 a.val ≠ BitVec.ofNat 32 b.val := fun e => h (by clear h; revert a b; decide)
    simp [IntOp.cmpi, Scalar.select, beq_eq_false_iff_ne.2 hn]

/-- The chunk's probabilities are its tokens' softmax. -/
theorem probsF_at (X : Vec Ideal S512x512 .f32) (R : Vec Ideal S512x32 .f32) (t : Fin 512) (e : Fin 32) :
    probsF X R (ix2 t e) = Spec.prob (fun k => X (ix2 t k)) (fun k e => R (ix2 k e)) e := by
  pointwise [probsF, Spec.prob, Spec.raised, Spec.top, Spec.score]

/-- The masked sum over the experts is the named expert's entry. -/
theorem pickF_at (p : FVec Ideal S512x32 .f32) (i : IVec S512x1 32) (t : Fin 512) (a : Fin 32) (h : i (ix2 t 0) = BitVec.ofNat 32 a.val) :
    pickF p i (ix2 t 0) = p (ix2 t a) := by
  pointwise [pickF]
  rw [h]
  simp only [select_expert]
  exact (Finset.sum_ite_eq' Finset.univ a fun e => p (ix2 t e)).trans (if_pos (Finset.mem_univ a))

/-- The first chosen expert. -/
theorem fstF_at (ix : Vec Ideal S512x2 .i32) (t : Fin 512) : fstF (F := Ideal) ix (ix2 t 0) = ix (ix2 t 0) := by
  pointwise [fstF]

/-- The second chosen expert. -/
theorem sndF_at (ix : Vec Ideal S512x2 .i32) (t : Fin 512) : sndF (F := Ideal) ix (ix2 t 0) = ix (ix2 t 1) := by
  pointwise [sndF]

/-- A share is the named expert's probability over the two chosen ones' sum. -/
theorem shareF_at (p : FVec Ideal S512x32 .f32) (i u v : IVec S512x1 32) (t : Fin 512) (e a b : Fin 32)
    (hi : i (ix2 t 0) = BitVec.ofNat 32 e.val) (hu : u (ix2 t 0) = BitVec.ofNat 32 a.val) (hv : v (ix2 t 0) = BitVec.ofNat 32 b.val) :
    shareF p i u v (ix2 t 0) = Ideal.div (p (ix2 t e)) (p (ix2 t a) + p (ix2 t b)) := by
  unfold shareF
  pointwise
  rw [pickF_at p i t e hi, pickF_at p u t a hu, pickF_at p v t b hv]

/-- One expert's term at an entry. -/
theorem termF_at (g e : Fin 32) (X : Vec Ideal S512x512 .f32) (v0 v1 : FVec Ideal S512x1 .f32) (i0 i1 : IVec S512x1 32)
    (B : Vec Ideal S1x512x1024 .bf16) (t : Fin 512) (f : Fin 1024) (a b : Fin 32)
    (ha : i0 (ix2 t 0) = BitVec.ofNat 32 a.val) (hb : i1 (ix2 t 0) = BitVec.ofNat 32 b.val) :
    termF (BitVec.ofNat 32 g.val) X v0 v1 i0 i1 B (ix2 t f)
      = ∑ k, X (ix2 t k) * ((if a = g then v0 (ix2 t 0) else 0) + (if b = g then v1 (ix2 t 0) else 0)) * B (ix3 0 k f) := by
  pointwise [termF]
  rw [ha, hb]
  simp only [select_expert]

/-- The expert number the body computes. -/
theorem geF_eq (d : Fin 4) (l : Fin 8) : geF (BitVec.ofNat 32 d.val) (BitVec.ofNat 32 l.val) = BitVec.ofNat 32 (Spec.expertOf d l).val := by
  revert d l
  decide

/-- The device's part of a chunk at an entry. -/
theorem chunkF_at (d : Fin 4) (X : Vec Ideal S512x512 .f32) (R : Vec Ideal S512x32 .f32) (ix : Vec Ideal S512x2 .i32)
    (B : Fin 8 → Vec Ideal S1x512x1024 .bf16) (t : Fin 512) (f : Fin 1024) (a b : Fin 32) (W : Fin 32 → Fin 512 → EReal)
    (ha : ix (ix2 t 0) = BitVec.ofNat 32 a.val) (hb : ix (ix2 t 1) = BitVec.ofNat 32 b.val)
    (hB : ∀ l k, B l (ix3 0 k f) = W (Spec.expertOf d l) k) :
    chunkF (BitVec.ofNat 32 d.val) X R ix B (ix2 t f)
      = Spec.part (fun k => X (ix2 t k)) (fun k e => R (ix2 k e)) a b W d := by
  have ha' := (fstF_at ix t).trans ha
  have hb' := (sndF_at ix t).trans hb
  have hT : ∀ l : Fin 8, termF (geF (BitVec.ofNat 32 d.val) (BitVec.ofNat 32 l.val)) X
      (shareF (probsF X R) (fstF (F := Ideal) ix) (fstF (F := Ideal) ix) (sndF (F := Ideal) ix))
      (shareF (probsF X R) (sndF (F := Ideal) ix) (fstF (F := Ideal) ix) (sndF (F := Ideal) ix))
      (fstF (F := Ideal) ix) (sndF (F := Ideal) ix) (B l) (ix2 t f)
        = Spec.term (fun k => X (ix2 t k)) (fun k e => R (ix2 k e)) a b W (Spec.expertOf d l) := by
    intro l
    rw [geF_eq, termF_at _ (Spec.expertOf d l) _ _ _ _ _ _ t f a b ha' hb', shareF_at _ _ _ _ t a a b ha' ha' hb',
      shareF_at _ _ _ _ t b a b hb' ha' hb']
    simp only [probsF_at, hB]
    rfl
  unfold Spec.part
  rw [Fin.sum_univ_eight, ← hT 0, ← hT 1, ← hT 2, ← hT 3, ← hT 4, ← hT 5, ← hT 6, ← hT 7]
  unfold chunkF
  simp only [Ideal.addf_def, addf, broadcast]
  rw [show (FloatOps.ofBits .f32 0x00000000#32 : Ideal .f32) = (0 : EReal) from Ideal.ofBits_zero_f32, zero_add]
  rfl

end Cert.MoeProof

end
-- ==== Proof.Blocks.lean ====
/-
# The kernel's result, entry by entry, at the extended reals

Every block of the result is the sum, over the four devices, of their parts of its chunk.
-/
module

public import proofs.«01_k».proof.Proof.ChunkVal
public import proofs.«01_k».proof.Proof.Slots

@[expose] public section

noncomputable section

namespace Cert.MoeProof

open Cert.KernelIdeal Cert.KernelIdeal.Gen
open Idealize.ShloMosaic Idealize.ShloMosaic.TcCoe

set_option maxRecDepth 16384

/-- Column `y` of column block `r`. -/
def colOf (r : Fin 4) (y : Fin 256) : Fin 1024 := ⟨256 * r.val + y.val, by omega⟩

/-- Where an entry of column block `r` lies in the chunk. -/
theorem RC_emb (r : Fin 4) (t : Fin 512) (y : Fin 256) : (RC r).emb (ix2 t y) = ix2 t (colOf r y) := by
  funext a
  match a with
  | ⟨0, _⟩ => exact Fin.ext (show 0 + 1 * t.val = t.val by omega)
  | ⟨1, _⟩ => exact Fin.ext (show 256 * r.val + 1 * y.val = 256 * r.val + y.val by omega)

/-! ## What the transfers carry -/

/-- Transfer 0 carries this. -/
theorem g0_at (I : Inp Ideal) (c : Dev nD) (t : Fin 512) (y : Fin 256) :
    ((g0 I c (ix4 0 0 t y) : Ideal .bf16) : EReal) = u1 I c (ix2 t (colOf 0 y)) := by
  unfold g0 wv255 wv253
  simp only [k0_pay30, k0_pay29]
  pointwise
  rw [RC_emb]

/-- Transfer 1 carries this. -/
theorem g1_at (I : Inp Ideal) (c : Dev nD) (t : Fin 512) (y : Fin 256) :
    ((g1 I c (ix4 0 0 t y) : Ideal .bf16) : EReal) = u1 I c (ix2 t (colOf 1 y)) := by
  unfold g1 wv274
  simp only [k0_pay31]
  pointwise
  rw [RC_emb]

/-- Transfer 2 carries this. -/
theorem g2_at (I : Inp Ideal) (c : Dev nD) (t : Fin 512) (y : Fin 256) :
    ((g2 I c (ix4 0 0 t y) : Ideal .bf16) : EReal) = u1 I c (ix2 t (colOf 2 y)) := by
  unfold g2 wv295
  simp only [k0_pay32]
  pointwise
  rw [RC_emb]

/-- Transfer 3 carries this. -/
theorem g3_at (I : Inp Ideal) (c : Dev nD) (t : Fin 512) (y : Fin 256) :
    ((g3 I c (ix4 0 0 t y) : Ideal .bf16) : EReal) = u1 I c (ix2 t (colOf 3 y)) := by
  unfold g3 wv316
  simp only [k0_pay33]
  pointwise
  rw [RC_emb]

/-- Transfer 4 carries this. -/
theorem g4_at (I : Inp Ideal) (c : Dev nD) (t : Fin 512) (y : Fin 256) :
    ((g4 I c (ix4 0 0 t y) : Ideal .bf16) : EReal) = g0 I (prv c) (ix4 0 0 t y) + u2 I c (ix2 t (colOf 0 y)) := by
  unfold g4 wv537 wv542
  simp only [k0_pay55]
  pointwise
  rw [RC_emb]

/-- Transfer 5 carries this. -/
theorem g5_at (I : Inp Ideal) (c : Dev nD) (t : Fin 512) (y : Fin 256) :
    ((g5 I c (ix4 0 0 t y) : Ideal .bf16) : EReal) = g1 I (prv c) (ix4 0 0 t y) + u2 I c (ix2 t (colOf 1 y)) := by
  unfold g5 wv584 wv576 wv581
  simp only [k0_pay57, k0_pay56]
  pointwise
  rw [RC_emb]

/-- Transfer 6 carries this. -/
theorem g6_at (I : Inp Ideal) (c : Dev nD) (t : Fin 512) (y : Fin 256) :
    ((g6 I c (ix4 0 0 t y) : Ideal .bf16) : EReal) = g2 I (nxt c) (ix4 0 0 t y) + u3 I c (ix2 t (colOf 2 y)) := by
  unfold g6 wv805 wv803 wv808
  simp only [k0_pay79, k0_pay78]
  pointwise
  rw [RC_emb]

/-- Transfer 7 carries this. -/
theorem g7_at (I : Inp Ideal) (c : Dev nD) (t : Fin 512) (y : Fin 256) :
    ((g7 I c (ix4 0 0 t y) : Ideal .bf16) : EReal) = g3 I (nxt c) (ix4 0 0 t y) + u3 I c (ix2 t (colOf 3 y)) := by
  unfold g7 wv842 wv847
  simp only [k0_pay80]
  pointwise
  rw [RC_emb]

/-- Transfer 8 carries this. -/
theorem g8_at (I : Inp Ideal) (c : Dev nD) (t : Fin 512) (y : Fin 256) :
    ((g8 I c (ix4 0 0 t y) : Ideal .bf16) : EReal) = g4 I (prv c) (ix4 0 0 t y) + u4 I c (ix2 t (colOf 0 y)) := by
  unfold g8 wv1069 wv1074
  simp only [k0_pay99]
  pointwise
  rw [RC_emb]

/-- Transfer 9 carries this. -/
theorem g9_at (I : Inp Ideal) (c : Dev nD) (t : Fin 512) (y : Fin 256) :
    ((g9 I c (ix4 0 0 t y) : Ideal .bf16) : EReal) = g5 I (prv c) (ix4 0 0 t y) + u4 I c (ix2 t (colOf 1 y)) := by
  unfold g9 wv1108 wv1113
  simp only [k0_pay100]
  pointwise
  rw [RC_emb]

/-- Transfer 10 carries this. -/
theorem g10_at (I : Inp Ideal) (c : Dev nD) (t : Fin 512) (y : Fin 256) :
    ((g10 I c (ix4 0 0 t y) : Ideal .bf16) : EReal) = g6 I (nxt c) (ix4 0 0 t y) + u4 I c (ix2 t (colOf 2 y)) := by
  unfold g10 wv1149 wv1147 wv1152
  simp only [k0_pay102, k0_pay101]
  pointwise
  rw [RC_emb]

/-- Transfer 11 carries this. -/
theorem g11_at (I : Inp Ideal) (c : Dev nD) (t : Fin 512) (y : Fin 256) :
    ((g11 I c (ix4 0 0 t y) : Ideal .bf16) : EReal) = g7 I (nxt c) (ix4 0 0 t y) + u4 I c (ix2 t (colOf 3 y)) := by
  unfold g11 wv1186 wv1191
  simp only [k0_pay103]
  pointwise
  rw [RC_emb]

/-- The block stored as `u5` holds this. -/
theorem u5_at (I : Inp Ideal) (c : Dev nD) (t : Fin 512) (y : Fin 256) :
    ((u5 I c (ix2 t y) : Ideal .f32) : EReal) = u3 I c (ix2 t (colOf 0 y)) + g8 I (prv c) (ix4 0 0 t y) := by
  unfold u5 wv1227 wv1229
  simp only [k0_pay104]
  pointwise
  rw [RC_emb]

/-- The block stored as `u6` holds this. -/
theorem u6_at (I : Inp Ideal) (c : Dev nD) (t : Fin 512) (y : Fin 256) :
    ((u6 I c (ix2 t y) : Ideal .f32) : EReal) = u3 I c (ix2 t (colOf 1 y)) + g9 I (prv c) (ix4 0 0 t y) := by
  unfold u6 wv1273 wv1272 wv1274
  simp only [k0_pay107, k0_pay106]
  pointwise
  rw [RC_emb]

/-- The block stored as `u7` holds this. -/
theorem u7_at (I : Inp Ideal) (c : Dev nD) (t : Fin 512) (y : Fin 256) :
    ((u7 I c (ix2 t y) : Ideal .f32) : EReal) = u2 I c (ix2 t (colOf 2 y)) + g10 I (nxt c) (ix4 0 0 t y) := by
  unfold u7 wv1317 wv1319
  simp only [k0_pay109]
  pointwise
  rw [RC_emb]

/-- The block stored as `u8` holds this. -/
theorem u8_at (I : Inp Ideal) (c : Dev nD) (t : Fin 512) (y : Fin 256) :
    ((u8 I c (ix2 t y) : Ideal .f32) : EReal) = u2 I c (ix2 t (colOf 3 y)) + g11 I (nxt c) (ix4 0 0 t y) := by
  unfold u8 wv1362 wv1364
  simp only [k0_pay111]
  pointwise
  rw [RC_emb]

/-- Transfer 12 carries this. -/
theorem g12_at (I : Inp Ideal) (c : Dev nD) (t : Fin 512) (y : Fin 256) :
    ((g12 I c (ix4 0 0 t y) : Ideal .bf16) : EReal) = u5 I c (ix2 t y) := by
  unfold g12 wv1237
  simp only [k0_pay105]
  pointwise

/-- Transfer 13 carries this. -/
theorem g13_at (I : Inp Ideal) (c : Dev nD) (t : Fin 512) (y : Fin 256) :
    ((g13 I c (ix4 0 0 t y) : Ideal .bf16) : EReal) = u6 I c (ix2 t y) := by
  unfold g13 wv1282
  simp only [k0_pay108]
  pointwise

/-- Transfer 14 carries this. -/
theorem g14_at (I : Inp Ideal) (c : Dev nD) (t : Fin 512) (y : Fin 256) :
    ((g14 I c (ix4 0 0 t y) : Ideal .bf16) : EReal) = u7 I c (ix2 t y) := by
  unfold g14 wv1327
  simp only [k0_pay110]
  pointwise

/-- Transfer 15 carries this. -/
theorem g15_at (I : Inp Ideal) (c : Dev nD) (t : Fin 512) (y : Fin 256) :
    ((g15 I c (ix4 0 0 t y) : Ideal .bf16) : EReal) = u8 I c (ix2 t y) := by
  unfold g15 wv1372
  simp only [k0_pay112]
  pointwise

/-- The block stored as `u9` holds this. -/
theorem u9_at (I : Inp Ideal) (c : Dev nD) (t : Fin 512) (y : Fin 256) :
    ((u9 I c (ix2 t y) : Ideal .f32) : EReal) = g12 I (prv c) (ix4 0 0 t y) := by
  unfold u9 wv1415
  simp only [k0_pay113]
  pointwise

/-- The block stored as `u10` holds this. -/
theorem u10_at (I : Inp Ideal) (c : Dev nD) (t : Fin 512) (y : Fin 256) :
    ((u10 I c (ix2 t y) : Ideal .f32) : EReal) = g13 I (prv c) (ix4 0 0 t y) := by
  unfold u10 wv1448
  simp only [k0_pay114]
  pointwise

/-- The block stored as `u11` holds this. -/
theorem u11_at (I : Inp Ideal) (c : Dev nD) (t : Fin 512) (y : Fin 256) :
    ((u11 I c (ix2 t y) : Ideal .f32) : EReal) = g14 I (nxt c) (ix4 0 0 t y) := by
  unfold u11 wv1481
  simp only [k0_pay115]
  pointwise

/-- The block stored as `u12` holds this. -/
theorem u12_at (I : Inp Ideal) (c : Dev nD) (t : Fin 512) (y : Fin 256) :
    ((u12 I c (ix2 t y) : Ideal .f32) : EReal) = g15 I (nxt c) (ix4 0 0 t y) := by
  unfold u12 wv1514
  simp only [k0_pay116]
  pointwise

/-- The block stored as `u13` holds this. -/
theorem u13_at (I : Inp Ideal) (c : Dev nD) (t : Fin 512) (y : Fin 256) :
    ((u13 I c (ix2 t y) : Ideal .f32) : EReal) = g16 I (prv c) (ix4 0 0 t y) := by
  unfold u13 wv1547
  simp only [k0_pay117]
  pointwise

/-- The block stored as `u14` holds this. -/
theorem u14_at (I : Inp Ideal) (c : Dev nD) (t : Fin 512) (y : Fin 256) :
    ((u14 I c (ix2 t y) : Ideal .f32) : EReal) = g17 I (prv c) (ix4 0 0 t y) := by
  unfold u14 wv1582 wv1580
  simp only [k0_pay118]
  pointwise

/-- The block stored as `u15` holds this. -/
theorem u15_at (I : Inp Ideal) (c : Dev nD) (t : Fin 512) (y : Fin 256) :
    ((u15 I c (ix2 t y) : Ideal .f32) : EReal) = g18 I (nxt c) (ix4 0 0 t y) := by
  unfold u15 wv1613
  simp only [k0_pay119]
  pointwise

/-- The block stored as `u16` holds this. -/
theorem u16_at (I : Inp Ideal) (c : Dev nD) (t : Fin 512) (y : Fin 256) :
    ((u16 I c (ix2 t y) : Ideal .f32) : EReal) = g19 I (nxt c) (ix4 0 0 t y) := by
  unfold u16 wv1646
  simp only [k0_pay120]
  pointwise

/-- The block stored as `u17` holds this. -/
theorem u17_at (I : Inp Ideal) (c : Dev nD) (t : Fin 512) (y : Fin 256) :
    ((u17 I c (ix2 t y) : Ideal .f32) : EReal) = g20 I (prv c) (ix4 0 0 t y) := by
  unfold u17 wv1669
  simp only [k0_pay121]
  pointwise

/-- The block stored as `u18` holds this. -/
theorem u18_at (I : Inp Ideal) (c : Dev nD) (t : Fin 512) (y : Fin 256) :
    ((u18 I c (ix2 t y) : Ideal .f32) : EReal) = g21 I (prv c) (ix4 0 0 t y) := by
  unfold u18 wv1694 wv1692
  simp only [k0_pay122]
  pointwise

/-- The block stored as `u19` holds this. -/
theorem u19_at (I : Inp Ideal) (c : Dev nD) (t : Fin 512) (y : Fin 256) :
    ((u19 I c (ix2 t y) : Ideal .f32) : EReal) = g22 I (nxt c) (ix4 0 0 t y) := by
  unfold u19 wv1717 wv1715
  simp only [k0_pay123]
  pointwise

/-- The block stored as `u20` holds this. -/
theorem u20_at (I : Inp Ideal) (c : Dev nD) (t : Fin 512) (y : Fin 256) :
    ((u20 I c (ix2 t y) : Ideal .f32) : EReal) = g23 I (nxt c) (ix4 0 0 t y) := by
  unfold u20 wv1740 wv1738
  simp only [k0_pay124]
  pointwise

/-! ## The blocks -/

/-- Device `d`'s part of the chunk `w` places after its own. -/
def partC (I : Inp Ideal) (d w : Fin 4) : Vec Ideal S512x1024 .f32 := (![u1 I d, u3 I d, u4 I d, u2 I d] : Fin 4 → Vec Ideal S512x1024 .f32) w

/-- The four devices' parts of chunk `j`, added. -/
def total (I : Inp Ideal) (j : Fin 4) (t : Fin 512) (f : Fin 1024) : EReal := ∑ d : Fin 4, (partC I d (j - d) (ix2 t f) : EReal)

/-- A part at an entry. -/
theorem partC_at (I : Inp Ideal) (d w : Fin 4) (t : Fin 512) (f : Fin 1024) :
    ((partC I d w (ix2 t f) : Ideal .f32) : EReal)
      = (![(u1 I d (ix2 t f) : EReal), (u3 I d (ix2 t f) : EReal), (u4 I d (ix2 t f) : EReal), (u2 I d (ix2 t f) : EReal)] : Fin 4 → EReal) w := by
  match w with
  | ⟨0, _⟩ => rfl
  | ⟨1, _⟩ => rfl
  | ⟨2, _⟩ => rfl
  | ⟨3, _⟩ => rfl

/-- Going round the ring forward, a block of chunk `c + 1` collects every device's part of it. -/
theorem forward_sum (A B C D : Fin 4 → EReal) (c : Fin 4) :
    C c + (A (prv (prv (prv c))) + B (prv (prv c)) + D (prv c)) = ∑ d : Fin 4, (![A d, C d, D d, B d] : Fin 4 → EReal) (c + 1 - d) := by
  rw [Fin.sum_univ_four]
  have hc : c = 0 ∨ c = 1 ∨ c = 2 ∨ c = 3 := by revert c; decide
  rcases hc with rfl | rfl | rfl | rfl
  · rw [show prv (0 : Fin 4) = (3 : Fin 4) by decide, show prv (3 : Fin 4) = (2 : Fin 4) by decide, show prv (2 : Fin 4) = (1 : Fin 4) by decide, show (0 + 1 - 0 : Fin 4) = 1 by decide, show (0 + 1 - 1 : Fin 4) = 0 by decide, show (0 + 1 - 2 : Fin 4) = 3 by decide, show (0 + 1 - 3 : Fin 4) = 2 by decide]
    show C 0 + (A 1 + B 2 + D 3) = C 0 + A 1 + B 2 + D 3
    abel
  · rw [show prv (1 : Fin 4) = (0 : Fin 4) by decide, show prv (0 : Fin 4) = (3 : Fin 4) by decide, show prv (3 : Fin 4) = (2 : Fin 4) by decide, show (1 + 1 - 0 : Fin 4) = 2 by decide, show (1 + 1 - 1 : Fin 4) = 1 by decide, show (1 + 1 - 2 : Fin 4) = 0 by decide, show (1 + 1 - 3 : Fin 4) = 3 by decide]
    show C 1 + (A 2 + B 3 + D 0) = D 0 + C 1 + A 2 + B 3
    abel
  · rw [show prv (2 : Fin 4) = (1 : Fin 4) by decide, show prv (1 : Fin 4) = (0 : Fin 4) by decide, show prv (0 : Fin 4) = (3 : Fin 4) by decide, show (2 + 1 - 0 : Fin 4) = 3 by decide, show (2 + 1 - 1 : Fin 4) = 2 by decide, show (2 + 1 - 2 : Fin 4) = 1 by decide, show (2 + 1 - 3 : Fin 4) = 0 by decide]
    show C 2 + (A 3 + B 0 + D 1) = B 0 + D 1 + C 2 + A 3
    abel
  · rw [show prv (3 : Fin 4) = (2 : Fin 4) by decide, show prv (2 : Fin 4) = (1 : Fin 4) by decide, show prv (1 : Fin 4) = (0 : Fin 4) by decide, show (3 + 1 - 0 : Fin 4) = 0 by decide, show (3 + 1 - 1 : Fin 4) = 3 by decide, show (3 + 1 - 2 : Fin 4) = 2 by decide, show (3 + 1 - 3 : Fin 4) = 1 by decide]
    show C 3 + (A 0 + B 1 + D 2) = A 0 + B 1 + D 2 + C 3
    abel

/-- Going round backward, a block of chunk `c + 3` does. -/
theorem backward_sum (A B C D : Fin 4 → EReal) (c : Fin 4) :
    B c + (A (nxt (nxt (nxt c))) + C (nxt (nxt c)) + D (nxt c)) = ∑ d : Fin 4, (![A d, C d, D d, B d] : Fin 4 → EReal) (c + 3 - d) := by
  rw [Fin.sum_univ_four]
  have hc : c = 0 ∨ c = 1 ∨ c = 2 ∨ c = 3 := by revert c; decide
  rcases hc with rfl | rfl | rfl | rfl
  · rw [show nxt (0 : Fin 4) = (1 : Fin 4) by decide, show nxt (1 : Fin 4) = (2 : Fin 4) by decide, show nxt (2 : Fin 4) = (3 : Fin 4) by decide, show (0 + 3 - 0 : Fin 4) = 3 by decide, show (0 + 3 - 1 : Fin 4) = 2 by decide, show (0 + 3 - 2 : Fin 4) = 1 by decide, show (0 + 3 - 3 : Fin 4) = 0 by decide]
    show B 0 + (A 3 + C 2 + D 1) = B 0 + D 1 + C 2 + A 3
    abel
  · rw [show nxt (1 : Fin 4) = (2 : Fin 4) by decide, show nxt (2 : Fin 4) = (3 : Fin 4) by decide, show nxt (3 : Fin 4) = (0 : Fin 4) by decide, show (1 + 3 - 0 : Fin 4) = 0 by decide, show (1 + 3 - 1 : Fin 4) = 3 by decide, show (1 + 3 - 2 : Fin 4) = 2 by decide, show (1 + 3 - 3 : Fin 4) = 1 by decide]
    show B 1 + (A 0 + C 3 + D 2) = A 0 + B 1 + D 2 + C 3
    abel
  · rw [show nxt (2 : Fin 4) = (3 : Fin 4) by decide, show nxt (3 : Fin 4) = (0 : Fin 4) by decide, show nxt (0 : Fin 4) = (1 : Fin 4) by decide, show (2 + 3 - 0 : Fin 4) = 1 by decide, show (2 + 3 - 1 : Fin 4) = 0 by decide, show (2 + 3 - 2 : Fin 4) = 3 by decide, show (2 + 3 - 3 : Fin 4) = 2 by decide]
    show B 2 + (A 1 + C 0 + D 3) = C 0 + A 1 + B 2 + D 3
    abel
  · rw [show nxt (3 : Fin 4) = (0 : Fin 4) by decide, show nxt (0 : Fin 4) = (1 : Fin 4) by decide, show nxt (1 : Fin 4) = (2 : Fin 4) by decide, show (3 + 3 - 0 : Fin 4) = 2 by decide, show (3 + 3 - 1 : Fin 4) = 1 by decide, show (3 + 3 - 2 : Fin 4) = 0 by decide, show (3 + 3 - 3 : Fin 4) = 3 by decide]
    show B 3 + (A 2 + C 1 + D 0) = D 0 + C 1 + A 2 + B 3
    abel

/-- A device's own block, finished: chunk `c + 1`, column block 0. -/
theorem u5_total (I : Inp Ideal) (c : Dev nD) (t : Fin 512) (y : Fin 256) :
    ((u5 I c (ix2 t y) : Ideal .f32) : EReal) = total I ((c : Fin 4) + 1) t (colOf 0 y) := by
  rw [u5_at, g8_at, g4_at, g0_at]
  unfold total
  simp only [partC_at]
  exact forward_sum (fun d => u1 I d (ix2 t (colOf 0 y))) (fun d => u2 I d (ix2 t (colOf 0 y))) (fun d => u3 I d (ix2 t (colOf 0 y))) (fun d => u4 I d (ix2 t (colOf 0 y))) c

/-- A device's own block, finished: chunk `c + 1`, column block 1. -/
theorem u6_total (I : Inp Ideal) (c : Dev nD) (t : Fin 512) (y : Fin 256) :
    ((u6 I c (ix2 t y) : Ideal .f32) : EReal) = total I ((c : Fin 4) + 1) t (colOf 1 y) := by
  rw [u6_at, g9_at, g5_at, g1_at]
  unfold total
  simp only [partC_at]
  exact forward_sum (fun d => u1 I d (ix2 t (colOf 1 y))) (fun d => u2 I d (ix2 t (colOf 1 y))) (fun d => u3 I d (ix2 t (colOf 1 y))) (fun d => u4 I d (ix2 t (colOf 1 y))) c

/-- A device's own block, finished: chunk `c + 3`, column block 2. -/
theorem u7_total (I : Inp Ideal) (c : Dev nD) (t : Fin 512) (y : Fin 256) :
    ((u7 I c (ix2 t y) : Ideal .f32) : EReal) = total I ((c : Fin 4) + 3) t (colOf 2 y) := by
  rw [u7_at, g10_at, g6_at, g2_at]
  unfold total
  simp only [partC_at]
  exact backward_sum (fun d => u1 I d (ix2 t (colOf 2 y))) (fun d => u2 I d (ix2 t (colOf 2 y))) (fun d => u3 I d (ix2 t (colOf 2 y))) (fun d => u4 I d (ix2 t (colOf 2 y))) c

/-- A device's own block, finished: chunk `c + 3`, column block 3. -/
theorem u8_total (I : Inp Ideal) (c : Dev nD) (t : Fin 512) (y : Fin 256) :
    ((u8 I c (ix2 t y) : Ideal .f32) : EReal) = total I ((c : Fin 4) + 3) t (colOf 3 y) := by
  rw [u8_at, g11_at, g7_at, g3_at]
  unfold total
  simp only [partC_at]
  exact backward_sum (fun d => u1 I d (ix2 t (colOf 3 y))) (fun d => u2 I d (ix2 t (colOf 3 y))) (fun d => u3 I d (ix2 t (colOf 3 y))) (fun d => u4 I d (ix2 t (colOf 3 y))) c

/-- A block received finished: chunk `c + 0`, column block 0. -/
theorem u9_total (I : Inp Ideal) (c : Dev nD) (t : Fin 512) (y : Fin 256) :
    ((u9 I c (ix2 t y) : Ideal .f32) : EReal) = total I ((c : Fin 4) + 0) t (colOf 0 y) := by
  rw [u9_at, g12_at, u5_total, show ((prv c : Dev nD) : Fin 4) + 1 = (c : Fin 4) + 0 by revert c; decide]

/-- A block received finished: chunk `c + 0`, column block 1. -/
theorem u10_total (I : Inp Ideal) (c : Dev nD) (t : Fin 512) (y : Fin 256) :
    ((u10 I c (ix2 t y) : Ideal .f32) : EReal) = total I ((c : Fin 4) + 0) t (colOf 1 y) := by
  rw [u10_at, g13_at, u6_total, show ((prv c : Dev nD) : Fin 4) + 1 = (c : Fin 4) + 0 by revert c; decide]

/-- A block received finished: chunk `c + 0`, column block 2. -/
theorem u11_total (I : Inp Ideal) (c : Dev nD) (t : Fin 512) (y : Fin 256) :
    ((u11 I c (ix2 t y) : Ideal .f32) : EReal) = total I ((c : Fin 4) + 0) t (colOf 2 y) := by
  rw [u11_at, g14_at, u7_total, show ((nxt c : Dev nD) : Fin 4) + 3 = (c : Fin 4) + 0 by revert c; decide]

/-- A block received finished: chunk `c + 0`, column block 3. -/
theorem u12_total (I : Inp Ideal) (c : Dev nD) (t : Fin 512) (y : Fin 256) :
    ((u12 I c (ix2 t y) : Ideal .f32) : EReal) = total I ((c : Fin 4) + 0) t (colOf 3 y) := by
  rw [u12_at, g15_at, u8_total, show ((nxt c : Dev nD) : Fin 4) + 3 = (c : Fin 4) + 0 by revert c; decide]

/-- A block received finished: chunk `c + 3`, column block 0. -/
theorem u13_total (I : Inp Ideal) (c : Dev nD) (t : Fin 512) (y : Fin 256) :
    ((u13 I c (ix2 t y) : Ideal .f32) : EReal) = total I ((c : Fin 4) + 3) t (colOf 0 y) := by
  rw [u13_at, g16, g12_at, u5_total, show ((prv (prv c) : Dev nD) : Fin 4) + 1 = (c : Fin 4) + 3 by revert c; decide]

/-- A block received finished: chunk `c + 3`, column block 1. -/
theorem u14_total (I : Inp Ideal) (c : Dev nD) (t : Fin 512) (y : Fin 256) :
    ((u14 I c (ix2 t y) : Ideal .f32) : EReal) = total I ((c : Fin 4) + 3) t (colOf 1 y) := by
  rw [u14_at, g17, g13_at, u6_total, show ((prv (prv c) : Dev nD) : Fin 4) + 1 = (c : Fin 4) + 3 by revert c; decide]

/-- A block received finished: chunk `c + 1`, column block 2. -/
theorem u15_total (I : Inp Ideal) (c : Dev nD) (t : Fin 512) (y : Fin 256) :
    ((u15 I c (ix2 t y) : Ideal .f32) : EReal) = total I ((c : Fin 4) + 1) t (colOf 2 y) := by
  rw [u15_at, g18, g14_at, u7_total, show ((nxt (nxt c) : Dev nD) : Fin 4) + 3 = (c : Fin 4) + 1 by revert c; decide]

/-- A block received finished: chunk `c + 1`, column block 3. -/
theorem u16_total (I : Inp Ideal) (c : Dev nD) (t : Fin 512) (y : Fin 256) :
    ((u16 I c (ix2 t y) : Ideal .f32) : EReal) = total I ((c : Fin 4) + 1) t (colOf 3 y) := by
  rw [u16_at, g19, g15_at, u8_total, show ((nxt (nxt c) : Dev nD) : Fin 4) + 3 = (c : Fin 4) + 1 by revert c; decide]

/-- A block received finished: chunk `c + 2`, column block 0. -/
theorem u17_total (I : Inp Ideal) (c : Dev nD) (t : Fin 512) (y : Fin 256) :
    ((u17 I c (ix2 t y) : Ideal .f32) : EReal) = total I ((c : Fin 4) + 2) t (colOf 0 y) := by
  rw [u17_at, g20, g16, g12_at, u5_total, show ((prv (prv (prv c)) : Dev nD) : Fin 4) + 1 = (c : Fin 4) + 2 by revert c; decide]

/-- A block received finished: chunk `c + 2`, column block 1. -/
theorem u18_total (I : Inp Ideal) (c : Dev nD) (t : Fin 512) (y : Fin 256) :
    ((u18 I c (ix2 t y) : Ideal .f32) : EReal) = total I ((c : Fin 4) + 2) t (colOf 1 y) := by
  rw [u18_at, g21, g17, g13_at, u6_total, show ((prv (prv (prv c)) : Dev nD) : Fin 4) + 1 = (c : Fin 4) + 2 by revert c; decide]

/-- A block received finished: chunk `c + 2`, column block 2. -/
theorem u19_total (I : Inp Ideal) (c : Dev nD) (t : Fin 512) (y : Fin 256) :
    ((u19 I c (ix2 t y) : Ideal .f32) : EReal) = total I ((c : Fin 4) + 2) t (colOf 2 y) := by
  rw [u19_at, g22, g18, g14_at, u7_total, show ((nxt (nxt (nxt c)) : Dev nD) : Fin 4) + 3 = (c : Fin 4) + 2 by revert c; decide]

/-- A block received finished: chunk `c + 2`, column block 3. -/
theorem u20_total (I : Inp Ideal) (c : Dev nD) (t : Fin 512) (y : Fin 256) :
    ((u20 I c (ix2 t y) : Ideal .f32) : EReal) = total I ((c : Fin 4) + 2) t (colOf 3 y) := by
  rw [u20_at, g23, g19, g15_at, u8_total, show ((nxt (nxt (nxt c)) : Dev nD) : Fin 4) + 3 = (c : Fin 4) + 2 by revert c; decide]

/-- Every block a device ends with is the four devices' parts of its chunk, added. -/
theorem block_at (I : Inp Ideal) (c : Dev nD) (σ : OBlk Ideal) (w r : Fin 4) (t : Fin 512) (y : Fin 256) :
    ((o20 I c σ w r (ix2 t y) : Ideal .f32) : EReal) = total I ((c : Fin 4) + w) t (colOf r y) := by
  match w, r with
  | ⟨0, _⟩, ⟨0, _⟩ => exact u9_total I c t y
  | ⟨0, _⟩, ⟨1, _⟩ => exact u10_total I c t y
  | ⟨0, _⟩, ⟨2, _⟩ => exact u11_total I c t y
  | ⟨0, _⟩, ⟨3, _⟩ => exact u12_total I c t y
  | ⟨1, _⟩, ⟨0, _⟩ => exact u5_total I c t y
  | ⟨1, _⟩, ⟨1, _⟩ => exact u6_total I c t y
  | ⟨1, _⟩, ⟨2, _⟩ => exact u15_total I c t y
  | ⟨1, _⟩, ⟨3, _⟩ => exact u16_total I c t y
  | ⟨2, _⟩, ⟨0, _⟩ => exact u17_total I c t y
  | ⟨2, _⟩, ⟨1, _⟩ => exact u18_total I c t y
  | ⟨2, _⟩, ⟨2, _⟩ => exact u19_total I c t y
  | ⟨2, _⟩, ⟨3, _⟩ => exact u20_total I c t y
  | ⟨3, _⟩, ⟨0, _⟩ => exact u13_total I c t y
  | ⟨3, _⟩, ⟨1, _⟩ => exact u14_total I c t y
  | ⟨3, _⟩, ⟨2, _⟩ => exact u7_total I c t y
  | ⟨3, _⟩, ⟨3, _⟩ => exact u8_total I c t y

/-- A device's result at an entry. -/
theorem outF_at (I : Inp Ideal) (c : Dev nD) (j r : Fin 4) (t : Fin 512) (y : Fin 256) (i : S2048x1024.Idx)
    (h0 : (i 0).val = 512 * j.val + t.val) (h1 : (i 1).val = 256 * r.val + y.val) :
    ((outF I c i : Ideal .f32) : EReal) = total I j t (colOf r y) := by
  have hr : rOf i = r := Fin.ext (show (i 1).val / 256 = r.val by omega)
  have hp : pOf i = ix2 t y := by
    funext a
    match a with
    | ⟨0, _⟩ => exact Fin.ext (show (i 0).val % 512 = t.val by omega)
    | ⟨1, _⟩ => exact Fin.ext (show (i 1).val % 256 = y.val by omega)
  have hc : c.val < 4 := c.isLt
  have hw : (c : Fin 4) + wOf c i = j := Fin.ext (show (c.val + ((i 0).val / 512 + (4 - c.val)) % 4) % 4 = j.val by omega)
  show ((o20 I c (fun _ _ => u20 I c) (wOf c i) (rOf i) (pOf i) : Ideal .f32) : EReal) = _
  rw [hp, block_at, hw, hr]

end Cert.MoeProof

end
-- ==== Proof.Sums.lean ====
/-
# The four devices' parts add to the layer

With a finite token and a finite router every score is a real number, every probability and every share a positive one.  A
positive real number distributes over the extended reals' sums, so the gate moves out of the sum over the token's entries,
whatever the experts' weights are.
-/
module

public import proofs.«01_k».proof.Proof.Spec

@[expose] public section

noncomputable section

namespace Cert.MoeProof.Spec

open Idealize.ShloMosaic

/-- A real number. -/
def IsReal (y : EReal) : Prop := ∃ r : ℝ, y = (r : EReal)

/-- A positive real number. -/
def IsPos (y : EReal) : Prop := ∃ r : ℝ, 0 < r ∧ y = (r : EReal)

/-- Sums of reals are real. -/
theorem isReal_sum {ι : Type} (s : Finset ι) (f : ι → EReal) (h : ∀ i, IsReal (f i)) : IsReal (∑ i ∈ s, f i) := by
  classical
  induction s using Finset.induction_on with
  | empty => exact ⟨0, by simp⟩
  | insert a s ha ih =>
    rw [Finset.sum_insert ha]
    obtain ⟨u, hu⟩ := h a
    obtain ⟨v, hv⟩ := ih
    exact ⟨u + v, by rw [hu, hv, EReal.coe_add]⟩

/-- The products of reals are real. -/
theorem isReal_mul {y z : EReal} (hy : IsReal y) (hz : IsReal z) : IsReal (y * z) := by
  obtain ⟨u, rfl⟩ := hy
  obtain ⟨v, rfl⟩ := hz
  exact ⟨u * v, (EReal.coe_mul u v).symm⟩

/-- A maximum of reals, from the least value on, is real. -/
theorem isReal_max {ι : Type} (s : Finset ι) (f : ι → EReal) (h : ∀ i, IsReal (f i)) (hs : s.Nonempty) : IsReal (Finset.fold max ⊥ f s) := by
  classical
  induction s using Finset.induction_on with
  | empty => exact absurd hs Finset.not_nonempty_empty
  | insert a s ha ih =>
    rw [Finset.fold_insert ha]
    rcases s.eq_empty_or_nonempty with rfl | hne
    · rw [Finset.fold_empty, max_bot_right]
      exact h a
    · rcases max_choice (f a) (Finset.fold max ⊥ f s) with e | e <;> rw [e]
      · exact h a
      · exact ih hne

/-- Sums of positive reals are positive reals. -/
theorem isPos_sum {ι : Type} (s : Finset ι) (f : ι → EReal) (h : ∀ i, IsPos (f i)) (hs : s.Nonempty) : IsPos (∑ i ∈ s, f i) := by
  choose g hg hf using h
  refine ⟨∑ i ∈ s, g i, Finset.sum_pos (fun i _ => hg i) hs, ?_⟩
  clear hs
  classical
  induction s using Finset.induction_on with
  | empty => simp
  | insert a s ha ih => rw [Finset.sum_insert ha, Finset.sum_insert ha, EReal.coe_add, ih, hf a]

/-- Quotients of positive reals are positive reals. -/
theorem isPos_div {y z : EReal} (hy : IsPos y) (hz : IsPos z) : IsPos (Ideal.div y z) := by
  obtain ⟨u, hu, rfl⟩ := hy
  obtain ⟨v, hv, rfl⟩ := hz
  refine ⟨u * (1 / v), mul_pos hu (by positivity), ?_⟩
  rw [Ideal.div_coe hv.ne', EReal.coe_mul]

variable {x : Fin 512 → EReal} {R : Fin 512 → Fin 32 → EReal}

/-- The scores are real. -/
theorem score_real (hx : ∀ k, IsReal (x k)) (hR : ∀ k e, IsReal (R k e)) (e : Fin 32) : IsReal (score x R e) :=
  isReal_sum _ _ fun k => isReal_mul (hx k) (hR k e)

/-- The greatest is real. -/
theorem top_real (hx : ∀ k, IsReal (x k)) (hR : ∀ k e, IsReal (R k e)) : IsReal (top x R) := by
  have h : (Ideal.ofBits .f32 0xFF800000#32 : EReal) = ⊥ := by simp [Ideal.ofBits, Ideal.ieee]
  unfold top
  rw [h]
  exact isReal_max _ _ (score_real hx hR) Finset.univ_nonempty

/-- The exponentials are positive reals. -/
theorem raised_pos (hx : ∀ k, IsReal (x k)) (hR : ∀ k e, IsReal (R k e)) (e : Fin 32) : IsPos (raised x R e) := by
  obtain ⟨u, hu⟩ := score_real hx hR e
  obtain ⟨v, hv⟩ := top_real hx hR
  unfold raised
  rw [hu, hv, ← EReal.coe_sub, Ideal.exp_coe]
  exact ⟨_, Real.exp_pos _, rfl⟩

/-- The probabilities are positive reals. -/
theorem prob_pos (hx : ∀ k, IsReal (x k)) (hR : ∀ k e, IsReal (R k e)) (e : Fin 32) : IsPos (prob x R e) :=
  isPos_div (raised_pos hx hR e) (isPos_sum _ _ (raised_pos hx hR) Finset.univ_nonempty)

/-- The shares are positive reals. -/
theorem share_pos (hx : ∀ k, IsReal (x k)) (hR : ∀ k e, IsReal (R k e)) (a b i : Fin 32) : IsPos (share x R a b i) := by
  refine isPos_div (prob_pos hx hR i) ?_
  obtain ⟨u, hu, eu⟩ := prob_pos hx hR a
  obtain ⟨v, hv, ev⟩ := prob_pos hx hR b
  exact ⟨u + v, add_pos hu hv, by rw [eu, ev, EReal.coe_add]⟩

/-- A nonnegative real moves out of a sum of extended reals. -/
theorem mul_sum_real {ι : Type} (s : Finset ι) (f : ι → EReal) {g : EReal} (h0 : 0 ≤ g) (h1 : g ≠ ⊤) : ∑ i ∈ s, g * f i = g * ∑ i ∈ s, f i := by
  classical
  induction s using Finset.induction_on with
  | empty => simp
  | insert a s ha ih => rw [Finset.sum_insert ha, Finset.sum_insert ha, ih, EReal.left_distrib_of_nonneg_of_ne_top h0 h1]

/-- A share where an expert is the chosen one, zero elsewhere: nonnegative and finite. -/
theorem chosen_ok {y : EReal} (hy : IsPos y) (p : Prop) [Decidable p] : (0 : EReal) ≤ (if p then y else 0) ∧ (if p then y else 0) ≠ (⊤ : EReal) := by
  obtain ⟨r, hr, rfl⟩ := hy
  split
  · exact ⟨EReal.coe_nonneg.2 hr.le, EReal.coe_ne_top r⟩
  · exact ⟨le_refl _, EReal.zero_ne_top⟩

/-- One expert's term, the gate taken out. -/
theorem term_eq (hx : ∀ k, IsReal (x k)) (hR : ∀ k e, IsReal (R k e)) (a b : Fin 32) (W : Fin 32 → Fin 512 → EReal) (e : Fin 32) :
    term x R a b W e = (if a = e then share x R a b a else 0) * (∑ k, x k * W e k) + (if b = e then share x R a b b else 0) * (∑ k, x k * W e k) := by
  obtain ⟨a0, a1⟩ := chosen_ok (share_pos hx hR a b a) (a = e)
  obtain ⟨b0, b1⟩ := chosen_ok (share_pos hx hR a b b) (b = e)
  unfold term gate
  rw [← EReal.right_distrib_of_nonneg a0 b0, ← mul_sum_real _ _ (add_nonneg a0 b0) (EReal.add_ne_top a1 b1)]
  refine Finset.sum_congr rfl fun k _ => ?_
  rw [mul_comm (x k), mul_assoc]

/-- The devices' experts are all the experts. -/
theorem sum_experts (f : Fin 32 → EReal) : ∑ d : Fin 4, ∑ l : Fin 8, f (expertOf d l) = ∑ e, f e := by
  rw [← Fintype.sum_prod_type']
  refine Fintype.sum_equiv (finProdFinEquiv (m := 4) (n := 8)) _ _ fun p => congrArg f (Fin.ext ?_)
  show 8 * p.1.val + p.2.val = p.2.val + 8 * p.1.val
  omega

/-- The four devices' parts add to the layer's output. -/
theorem sum_parts (hx : ∀ k, IsReal (x k)) (hR : ∀ k e, IsReal (R k e)) (a b : Fin 32) (W : Fin 32 → Fin 512 → EReal) :
    ∑ d : Fin 4, part x R a b W d = layer x R a b W := by
  unfold part
  rw [sum_experts]
  simp only [term_eq hx hR]
  rw [Finset.sum_add_distrib]
  simp only [ite_mul, zero_mul, Finset.sum_ite_eq, Finset.mem_univ, if_true]
  rfl

end Cert.MoeProof.Spec

end
-- ==== Proof.Reads.lean ====
/-
# What a device reads, and the result it ends with

The chunks of tokens are rows of the operands; the eight expert blocks are the device's part of the experts.  With them the
kernel's result is the layer's output.
-/
module

public import proofs.«01_k».proof.Proof.Blocks
public import proofs.«01_k».proof.Proof.Sums

@[expose] public section

noncomputable section

namespace Cert.MoeProof

open Cert.KernelIdeal Cert.KernelIdeal.Gen
open Idealize.ShloMosaic Idealize.ShloMosaic.TcCoe

set_option maxRecDepth 16384

/-- Row `t` of chunk `j`. -/
def rowOf (j : Fin 4) (t : Fin 512) : Fin 2048 := ⟨512 * j.val + t.val, by omega⟩

/-- The device's position, as the body computes it. -/
theorem wv2_eq (I : Inp Ideal) (c : Dev nD) : wv2 I c = BitVec.ofNat 32 (c : Fin 4).val := by
  show Scalar.remsi (Scalar.divsi (Dev.word c) 1#32) 4#32 = _
  clear I
  revert c
  decide

/-- Where the body reads the chunk `c + 0` of the tokens. -/
theorem read1_0 (c : Dev nD) : k0_off1 c 0#32 = ![512 * ((c : Fin 4) + 0).val, 0] := by revert c; decide

/-- Where the body reads the chunk `c + 0` of the chosen experts. -/
theorem read2_0 (c : Dev nD) : k0_off2 c 0#32 = ![512 * ((c : Fin 4) + 0).val, 0] := by revert c; decide

/-- The tokens of chunk `c + 0`. -/
theorem wv17_at (I : Inp Ideal) (c : Dev nD) (t k : Fin 512) :
    wv17 I c (ix2 t k) = (I.a0 c : Vec Ideal S2048x512 .f32) (ix2 (rowOf ((c : Fin 4) + 0) t) k) := by
  show (I.a0 c : Vec Ideal S2048x512 .f32) ((Rect.unit (s := S2048x512) (k0_off1 c 0#32) S512x512.size (k0_off1_inb c 0)).emb (ix2 t k)) = _
  refine congrArg (I.a0 c : Vec Ideal S2048x512 .f32) (funext fun a => Fin.ext ?_)
  have h := read1_0 c
  match a with
  | ⟨0, _⟩ =>
    show k0_off1 c 0#32 0 + 1 * t.val = 512 * ((c : Fin 4) + 0).val + t.val
    rw [h, one_mul]
    rfl
  | ⟨1, _⟩ =>
    show k0_off1 c 0#32 1 + 1 * k.val = k.val
    rw [h, one_mul]
    exact Nat.zero_add _

/-- The chosen experts of chunk `c + 0`. -/
theorem wv32_at (I : Inp Ideal) (c : Dev nD) (t : Fin 512) (k : Fin 2) :
    wv32 I c (ix2 t k) = (I.a2 c : Vec Ideal S2048x2 .i32) (ix2 (rowOf ((c : Fin 4) + 0) t) k) := by
  show (I.a2 c : Vec Ideal S2048x2 .i32) ((Rect.unit (s := S2048x2) (k0_off2 c 0#32) S512x2.size (k0_off2_inb c 0)).emb (ix2 t k)) = _
  refine congrArg (I.a2 c : Vec Ideal S2048x2 .i32) (funext fun a => Fin.ext ?_)
  have h := read2_0 c
  match a with
  | ⟨0, _⟩ =>
    show k0_off2 c 0#32 0 + 1 * t.val = 512 * ((c : Fin 4) + 0).val + t.val
    rw [h, one_mul]
    rfl
  | ⟨1, _⟩ =>
    show k0_off2 c 0#32 1 + 1 * k.val = k.val
    rw [h, one_mul]
    exact Nat.zero_add _

/-- The router, read for chunk `c + 0`. -/
theorem wv19_at (I : Inp Ideal) (c : Dev nD) (k : Fin 512) (e : Fin 32) :
    wv19 I c (ix2 k e) = (I.a1 c : Vec Ideal S512x32 .f32) (ix2 k e) := by
  refine congrArg (I.a1 c : Vec Ideal S512x32 .f32) (funext fun a => Fin.ext ?_)
  match a with
  | ⟨0, _⟩ => show 0 + 1 * k.val = k.val; omega
  | ⟨1, _⟩ => show 0 + 1 * e.val = e.val; omega

/-- Where the body reads the chunk `c + 3` of the tokens. -/
theorem read1_3 (c : Dev nD) : k0_off1 c 4294967295#32 = ![512 * ((c : Fin 4) + 3).val, 0] := by revert c; decide

/-- Where the body reads the chunk `c + 3` of the chosen experts. -/
theorem read2_3 (c : Dev nD) : k0_off2 c 4294967295#32 = ![512 * ((c : Fin 4) + 3).val, 0] := by revert c; decide

/-- The tokens of chunk `c + 3`. -/
theorem wv337_at (I : Inp Ideal) (c : Dev nD) (t k : Fin 512) :
    wv337 I c (ix2 t k) = (I.a0 c : Vec Ideal S2048x512 .f32) (ix2 (rowOf ((c : Fin 4) + 3) t) k) := by
  show (I.a0 c : Vec Ideal S2048x512 .f32) ((Rect.unit (s := S2048x512) (k0_off1 c 4294967295#32) S512x512.size (k0_off1_inb c 1)).emb (ix2 t k)) = _
  refine congrArg (I.a0 c : Vec Ideal S2048x512 .f32) (funext fun a => Fin.ext ?_)
  have h := read1_3 c
  match a with
  | ⟨0, _⟩ =>
    show k0_off1 c 4294967295#32 0 + 1 * t.val = 512 * ((c : Fin 4) + 3).val + t.val
    rw [h, one_mul]
    rfl
  | ⟨1, _⟩ =>
    show k0_off1 c 4294967295#32 1 + 1 * k.val = k.val
    rw [h, one_mul]
    exact Nat.zero_add _

/-- The chosen experts of chunk `c + 3`. -/
theorem wv352_at (I : Inp Ideal) (c : Dev nD) (t : Fin 512) (k : Fin 2) :
    wv352 I c (ix2 t k) = (I.a2 c : Vec Ideal S2048x2 .i32) (ix2 (rowOf ((c : Fin 4) + 3) t) k) := by
  show (I.a2 c : Vec Ideal S2048x2 .i32) ((Rect.unit (s := S2048x2) (k0_off2 c 4294967295#32) S512x2.size (k0_off2_inb c 1)).emb (ix2 t k)) = _
  refine congrArg (I.a2 c : Vec Ideal S2048x2 .i32) (funext fun a => Fin.ext ?_)
  have h := read2_3 c
  match a with
  | ⟨0, _⟩ =>
    show k0_off2 c 4294967295#32 0 + 1 * t.val = 512 * ((c : Fin 4) + 3).val + t.val
    rw [h, one_mul]
    rfl
  | ⟨1, _⟩ =>
    show k0_off2 c 4294967295#32 1 + 1 * k.val = k.val
    rw [h, one_mul]
    exact Nat.zero_add _

/-- The router, read for chunk `c + 3`. -/
theorem wv339_at (I : Inp Ideal) (c : Dev nD) (k : Fin 512) (e : Fin 32) :
    wv339 I c (ix2 k e) = (I.a1 c : Vec Ideal S512x32 .f32) (ix2 k e) := by
  refine congrArg (I.a1 c : Vec Ideal S512x32 .f32) (funext fun a => Fin.ext ?_)
  match a with
  | ⟨0, _⟩ => show 0 + 1 * k.val = k.val; omega
  | ⟨1, _⟩ => show 0 + 1 * e.val = e.val; omega

/-- Where the body reads the chunk `c + 1` of the tokens. -/
theorem read1_1 (c : Dev nD) : k0_off1 c 1#32 = ![512 * ((c : Fin 4) + 1).val, 0] := by revert c; decide

/-- Where the body reads the chunk `c + 1` of the chosen experts. -/
theorem read2_1 (c : Dev nD) : k0_off2 c 1#32 = ![512 * ((c : Fin 4) + 1).val, 0] := by revert c; decide

/-- The tokens of chunk `c + 1`. -/
theorem wv603_at (I : Inp Ideal) (c : Dev nD) (t k : Fin 512) :
    wv603 I c (ix2 t k) = (I.a0 c : Vec Ideal S2048x512 .f32) (ix2 (rowOf ((c : Fin 4) + 1) t) k) := by
  show (I.a0 c : Vec Ideal S2048x512 .f32) ((Rect.unit (s := S2048x512) (k0_off1 c 1#32) S512x512.size (k0_off1_inb c 2)).emb (ix2 t k)) = _
  refine congrArg (I.a0 c : Vec Ideal S2048x512 .f32) (funext fun a => Fin.ext ?_)
  have h := read1_1 c
  match a with
  | ⟨0, _⟩ =>
    show k0_off1 c 1#32 0 + 1 * t.val = 512 * ((c : Fin 4) + 1).val + t.val
    rw [h, one_mul]
    rfl
  | ⟨1, _⟩ =>
    show k0_off1 c 1#32 1 + 1 * k.val = k.val
    rw [h, one_mul]
    exact Nat.zero_add _

/-- The chosen experts of chunk `c + 1`. -/
theorem wv618_at (I : Inp Ideal) (c : Dev nD) (t : Fin 512) (k : Fin 2) :
    wv618 I c (ix2 t k) = (I.a2 c : Vec Ideal S2048x2 .i32) (ix2 (rowOf ((c : Fin 4) + 1) t) k) := by
  show (I.a2 c : Vec Ideal S2048x2 .i32) ((Rect.unit (s := S2048x2) (k0_off2 c 1#32) S512x2.size (k0_off2_inb c 2)).emb (ix2 t k)) = _
  refine congrArg (I.a2 c : Vec Ideal S2048x2 .i32) (funext fun a => Fin.ext ?_)
  have h := read2_1 c
  match a with
  | ⟨0, _⟩ =>
    show k0_off2 c 1#32 0 + 1 * t.val = 512 * ((c : Fin 4) + 1).val + t.val
    rw [h, one_mul]
    rfl
  | ⟨1, _⟩ =>
    show k0_off2 c 1#32 1 + 1 * k.val = k.val
    rw [h, one_mul]
    exact Nat.zero_add _

/-- The router, read for chunk `c + 1`. -/
theorem wv605_at (I : Inp Ideal) (c : Dev nD) (k : Fin 512) (e : Fin 32) :
    wv605 I c (ix2 k e) = (I.a1 c : Vec Ideal S512x32 .f32) (ix2 k e) := by
  refine congrArg (I.a1 c : Vec Ideal S512x32 .f32) (funext fun a => Fin.ext ?_)
  match a with
  | ⟨0, _⟩ => show 0 + 1 * k.val = k.val; omega
  | ⟨1, _⟩ => show 0 + 1 * e.val = e.val; omega

/-- Where the body reads the chunk `c + 2` of the tokens. -/
theorem read1_2 (c : Dev nD) : k0_off1 c 2#32 = ![512 * ((c : Fin 4) + 2).val, 0] := by revert c; decide

/-- Where the body reads the chunk `c + 2` of the chosen experts. -/
theorem read2_2 (c : Dev nD) : k0_off2 c 2#32 = ![512 * ((c : Fin 4) + 2).val, 0] := by revert c; decide

/-- The tokens of chunk `c + 2`. -/
theorem wv869_at (I : Inp Ideal) (c : Dev nD) (t k : Fin 512) :
    wv869 I c (ix2 t k) = (I.a0 c : Vec Ideal S2048x512 .f32) (ix2 (rowOf ((c : Fin 4) + 2) t) k) := by
  show (I.a0 c : Vec Ideal S2048x512 .f32) ((Rect.unit (s := S2048x512) (k0_off1 c 2#32) S512x512.size (k0_off1_inb c 3)).emb (ix2 t k)) = _
  refine congrArg (I.a0 c : Vec Ideal S2048x512 .f32) (funext fun a => Fin.ext ?_)
  have h := read1_2 c
  match a with
  | ⟨0, _⟩ =>
    show k0_off1 c 2#32 0 + 1 * t.val = 512 * ((c : Fin 4) + 2).val + t.val
    rw [h, one_mul]
    rfl
  | ⟨1, _⟩ =>
    show k0_off1 c 2#32 1 + 1 * k.val = k.val
    rw [h, one_mul]
    exact Nat.zero_add _

/-- The chosen experts of chunk `c + 2`. -/
theorem wv884_at (I : Inp Ideal) (c : Dev nD) (t : Fin 512) (k : Fin 2) :
    wv884 I c (ix2 t k) = (I.a2 c : Vec Ideal S2048x2 .i32) (ix2 (rowOf ((c : Fin 4) + 2) t) k) := by
  show (I.a2 c : Vec Ideal S2048x2 .i32) ((Rect.unit (s := S2048x2) (k0_off2 c 2#32) S512x2.size (k0_off2_inb c 3)).emb (ix2 t k)) = _
  refine congrArg (I.a2 c : Vec Ideal S2048x2 .i32) (funext fun a => Fin.ext ?_)
  have h := read2_2 c
  match a with
  | ⟨0, _⟩ =>
    show k0_off2 c 2#32 0 + 1 * t.val = 512 * ((c : Fin 4) + 2).val + t.val
    rw [h, one_mul]
    rfl
  | ⟨1, _⟩ =>
    show k0_off2 c 2#32 1 + 1 * k.val = k.val
    rw [h, one_mul]
    exact Nat.zero_add _

/-- The router, read for chunk `c + 2`. -/
theorem wv871_at (I : Inp Ideal) (c : Dev nD) (k : Fin 512) (e : Fin 32) :
    wv871 I c (ix2 k e) = (I.a1 c : Vec Ideal S512x32 .f32) (ix2 k e) := by
  refine congrArg (I.a1 c : Vec Ideal S512x32 .f32) (funext fun a => Fin.ext ?_)
  match a with
  | ⟨0, _⟩ => show 0 + 1 * k.val = k.val; omega
  | ⟨1, _⟩ => show 0 + 1 * e.val = e.val; omega

/-- A device's expert blocks, as it keeps them. -/
theorem bankF_at (I : Inp Ideal) (c : Dev nD) (l : Fin 8) (k : Fin 512) (f : Fin 1024) :
    ((bankF I c l (ix3 0 k f) : Ideal .bf16) : EReal) = ((I.a3 c : Vec Ideal S8x512x1024 .f32) (ix3 l k f) : EReal) := by
  match l with
  | ⟨0, _⟩ =>
    show ((k0_pay13 (wv54 I c) (ix3 0 k f) : Ideal .bf16) : EReal) = _
    simp only [k0_pay13]
    pointwise
    refine congrArg (I.a3 c : Vec Ideal S8x512x1024 .f32) (funext fun a => Fin.ext ?_)
    match a with
    | ⟨0, _⟩ => rfl
    | ⟨1, _⟩ => show 0 + 1 * k.val = k.val; omega
    | ⟨2, _⟩ => show 0 + 1 * f.val = f.val; omega
  | ⟨1, _⟩ =>
    show ((k0_pay15 (wv78 I c) (ix3 0 k f) : Ideal .bf16) : EReal) = _
    simp only [k0_pay15]
    pointwise
    refine congrArg (I.a3 c : Vec Ideal S8x512x1024 .f32) (funext fun a => Fin.ext ?_)
    match a with
    | ⟨0, _⟩ => rfl
    | ⟨1, _⟩ => show 0 + 1 * k.val = k.val; omega
    | ⟨2, _⟩ => show 0 + 1 * f.val = f.val; omega
  | ⟨2, _⟩ =>
    show ((k0_pay17 (wv102 I c) (ix3 0 k f) : Ideal .bf16) : EReal) = _
    simp only [k0_pay17]
    pointwise
    refine congrArg (I.a3 c : Vec Ideal S8x512x1024 .f32) (funext fun a => Fin.ext ?_)
    match a with
    | ⟨0, _⟩ => rfl
    | ⟨1, _⟩ => show 0 + 1 * k.val = k.val; omega
    | ⟨2, _⟩ => show 0 + 1 * f.val = f.val; omega
  | ⟨3, _⟩ =>
    show ((k0_pay19 (wv126 I c) (ix3 0 k f) : Ideal .bf16) : EReal) = _
    simp only [k0_pay19]
    pointwise
    refine congrArg (I.a3 c : Vec Ideal S8x512x1024 .f32) (funext fun a => Fin.ext ?_)
    match a with
    | ⟨0, _⟩ => rfl
    | ⟨1, _⟩ => show 0 + 1 * k.val = k.val; omega
    | ⟨2, _⟩ => show 0 + 1 * f.val = f.val; omega
  | ⟨4, _⟩ =>
    show ((k0_pay21 (wv150 I c) (ix3 0 k f) : Ideal .bf16) : EReal) = _
    simp only [k0_pay21]
    pointwise
    refine congrArg (I.a3 c : Vec Ideal S8x512x1024 .f32) (funext fun a => Fin.ext ?_)
    match a with
    | ⟨0, _⟩ => rfl
    | ⟨1, _⟩ => show 0 + 1 * k.val = k.val; omega
    | ⟨2, _⟩ => show 0 + 1 * f.val = f.val; omega
  | ⟨5, _⟩ =>
    show ((k0_pay23 (wv174 I c) (ix3 0 k f) : Ideal .bf16) : EReal) = _
    simp only [k0_pay23]
    pointwise
    refine congrArg (I.a3 c : Vec Ideal S8x512x1024 .f32) (funext fun a => Fin.ext ?_)
    match a with
    | ⟨0, _⟩ => rfl
    | ⟨1, _⟩ => show 0 + 1 * k.val = k.val; omega
    | ⟨2, _⟩ => show 0 + 1 * f.val = f.val; omega
  | ⟨6, _⟩ =>
    show ((k0_pay25 (wv198 I c) (ix3 0 k f) : Ideal .bf16) : EReal) = _
    simp only [k0_pay25]
    pointwise
    refine congrArg (I.a3 c : Vec Ideal S8x512x1024 .f32) (funext fun a => Fin.ext ?_)
    match a with
    | ⟨0, _⟩ => rfl
    | ⟨1, _⟩ => show 0 + 1 * k.val = k.val; omega
    | ⟨2, _⟩ => show 0 + 1 * f.val = f.val; omega
  | ⟨7, _⟩ =>
    show ((k0_pay27 (wv222 I c) (ix3 0 k f) : Ideal .bf16) : EReal) = _
    simp only [k0_pay27]
    pointwise
    refine congrArg (I.a3 c : Vec Ideal S8x512x1024 .f32) (funext fun a => Fin.ext ?_)
    match a with
    | ⟨0, _⟩ => rfl
    | ⟨1, _⟩ => show 0 + 1 * k.val = k.val; omega
    | ⟨2, _⟩ => show 0 + 1 * f.val = f.val; omega

/-- The operands the devices hold are the whole arrays, and each device's experts its part of them. -/
structure Holds (I : Inp Ideal) (x : Vec Ideal S2048x512 .f32) (R : Vec Ideal S512x32 .f32) (ix : Vec Ideal S2048x2 .i32)
    (W : Fin 32 → Fin 512 → Fin 1024 → EReal) : Prop where
  hx : ∀ c, I.a0 c = x
  hR : ∀ c, I.a1 c = R
  hi : ∀ c, I.a2 c = ix
  hW : ∀ (c : Fin 4) (l : Fin 8) (k : Fin 512) (f : Fin 1024),
    ((I.a3 c : Vec Ideal S8x512x1024 .f32) (ix3 l k f) : EReal) = W (Spec.expertOf c l) k f

variable {I : Inp Ideal} {x : Vec Ideal S2048x512 .f32} {R : Vec Ideal S512x32 .f32} {ix : Vec Ideal S2048x2 .i32}
  {W : Fin 32 → Fin 512 → Fin 1024 → EReal}

/-- Device `d`'s part of chunk `d + 0`. -/
theorem u1_part (H : Holds I x R ix W) (d : Fin 4) (t : Fin 512) (f : Fin 1024) (a b : Fin 32)
    (ha : ix (ix2 (rowOf (d + 0) t) 0) = BitVec.ofNat 32 a.val) (hb : ix (ix2 (rowOf (d + 0) t) 1) = BitVec.ofNat 32 b.val) :
    ((u1 I d (ix2 t f) : Ideal .f32) : EReal)
      = Spec.part (fun k => x (ix2 (rowOf (d + 0) t) k)) (fun k e => R (ix2 k e)) a b (fun e k => W e k f) d := by
  rw [u1_eq, wv2_eq]
  rw [chunkF_at d _ _ _ _ t f a b (fun e k => W e k f) ((wv32_at I d t 0).trans (by rw [H.hi]; exact ha))
    ((wv32_at I d t 1).trans (by rw [H.hi]; exact hb)) (fun l k => (bankF_at I d l k f).trans (H.hW d l k f))]
  simp only [wv17_at, wv19_at, H.hx, H.hR]

/-- Device `d`'s part of chunk `d + 1`. -/
theorem u3_part (H : Holds I x R ix W) (d : Fin 4) (t : Fin 512) (f : Fin 1024) (a b : Fin 32)
    (ha : ix (ix2 (rowOf (d + 1) t) 0) = BitVec.ofNat 32 a.val) (hb : ix (ix2 (rowOf (d + 1) t) 1) = BitVec.ofNat 32 b.val) :
    ((u3 I d (ix2 t f) : Ideal .f32) : EReal)
      = Spec.part (fun k => x (ix2 (rowOf (d + 1) t) k)) (fun k e => R (ix2 k e)) a b (fun e k => W e k f) d := by
  rw [u3_eq, wv2_eq]
  rw [chunkF_at d _ _ _ _ t f a b (fun e k => W e k f) ((wv618_at I d t 0).trans (by rw [H.hi]; exact ha))
    ((wv618_at I d t 1).trans (by rw [H.hi]; exact hb)) (fun l k => (bankF_at I d l k f).trans (H.hW d l k f))]
  simp only [wv603_at, wv605_at, H.hx, H.hR]

/-- Device `d`'s part of chunk `d + 2`. -/
theorem u4_part (H : Holds I x R ix W) (d : Fin 4) (t : Fin 512) (f : Fin 1024) (a b : Fin 32)
    (ha : ix (ix2 (rowOf (d + 2) t) 0) = BitVec.ofNat 32 a.val) (hb : ix (ix2 (rowOf (d + 2) t) 1) = BitVec.ofNat 32 b.val) :
    ((u4 I d (ix2 t f) : Ideal .f32) : EReal)
      = Spec.part (fun k => x (ix2 (rowOf (d + 2) t) k)) (fun k e => R (ix2 k e)) a b (fun e k => W e k f) d := by
  rw [u4_eq, wv2_eq]
  rw [chunkF_at d _ _ _ _ t f a b (fun e k => W e k f) ((wv884_at I d t 0).trans (by rw [H.hi]; exact ha))
    ((wv884_at I d t 1).trans (by rw [H.hi]; exact hb)) (fun l k => (bankF_at I d l k f).trans (H.hW d l k f))]
  simp only [wv869_at, wv871_at, H.hx, H.hR]

/-- Device `d`'s part of chunk `d + 3`. -/
theorem u2_part (H : Holds I x R ix W) (d : Fin 4) (t : Fin 512) (f : Fin 1024) (a b : Fin 32)
    (ha : ix (ix2 (rowOf (d + 3) t) 0) = BitVec.ofNat 32 a.val) (hb : ix (ix2 (rowOf (d + 3) t) 1) = BitVec.ofNat 32 b.val) :
    ((u2 I d (ix2 t f) : Ideal .f32) : EReal)
      = Spec.part (fun k => x (ix2 (rowOf (d + 3) t) k)) (fun k e => R (ix2 k e)) a b (fun e k => W e k f) d := by
  rw [u2_eq, wv2_eq]
  rw [chunkF_at d _ _ _ _ t f a b (fun e k => W e k f) ((wv352_at I d t 0).trans (by rw [H.hi]; exact ha))
    ((wv352_at I d t 1).trans (by rw [H.hi]; exact hb)) (fun l k => (bankF_at I d l k f).trans (H.hW d l k f))]
  simp only [wv337_at, wv339_at, H.hx, H.hR]

/-- The four devices' parts of a chunk add to the layer's output. -/
theorem total_eq (H : Holds I x R ix W) (j : Fin 4) (t : Fin 512) (f : Fin 1024) (a b : Fin 32)
    (hx : ∀ k, Spec.IsReal (x (ix2 (rowOf j t) k))) (hR : ∀ k e, Spec.IsReal (R (ix2 k e)))
    (ha : ix (ix2 (rowOf j t) 0) = BitVec.ofNat 32 a.val) (hb : ix (ix2 (rowOf j t) 1) = BitVec.ofNat 32 b.val) :
    total I j t f = Spec.layer (fun k => x (ix2 (rowOf j t) k)) (fun k e => R (ix2 k e)) a b (fun e k => W e k f) := by
  rw [← Spec.sum_parts hx hR]
  unfold total
  refine Finset.sum_congr rfl fun d _ => ?_
  have hj : d + (j - d) = j := (by decide : ∀ j d : Fin 4, d + (j - d) = j) j d
  rw [partC_at]
  generalize j - d = w at hj
  subst hj
  match w with
  | ⟨0, _⟩ => exact u1_part H d t f a b ha hb
  | ⟨1, _⟩ => exact u3_part H d t f a b ha hb
  | ⟨2, _⟩ => exact u4_part H d t f a b ha hb
  | ⟨3, _⟩ => exact u2_part H d t f a b ha hb

end Cert.MoeProof

end
-- ==== Proof.RefVal.lean ====
/-
# The reference's result, entry by entry

The reference gathers the two chosen experts' probabilities and weights.  Both gathers are read here at an index, and then
the whole result.
-/
module

public import proofs.«01_k».proof.Proof.Gen.ReferenceIdeal.Run
public import proofs.«01_k».proof.Proof.Spec
public import Idealize.ShloMosaic.Lib.Pointwise
public import Idealize.ShloMosaic.Lib.Tactic.CleanTypes

@[expose] public section

noncomputable section

namespace Cert.MoeProof.Ref

open Cert.ReferenceIdeal Cert.ReferenceIdeal.Gen Cert.ReferenceIdeal.Value
open Idealize.ShloMosaic Idealize.ShloMosaic.TcCoe

set_option maxRecDepth 16384

/-- A word below 32, read signed, is itself. -/
theorem toInt_small (b : Fin 32) : (BitVec.ofNat 32 b.val).toInt.toNat = b.val := by
  revert b; decide

/-- Taking one probability per token and column: the entry the index names in the token's own row. -/
theorem take_at {α : Type} (p : S2048x32.Idx → α) (i : IVec S2048x2x1 32) (t : Fin 2048) (j : Fin 2) (b : Fin 32)
    (h : i (ix3 t j 0) = BitVec.ofNat 32 b.val) :
    Host.gather gather_S2048x32_S2048x2x1_S2048x2_n_1_0_0_1_2_11 p i (ix2 t j) = p (ix2 t b) := by
  have hs : ∀ c, gather_S2048x32_S2048x2x1_S2048x2_n_1_0_0_1_2_11.siIdx (ix2 t j) c = ix3 t j 0 := by
    intro c
    funext a
    fin_cases a
    · rfl
    · rfl
    · exact Fin.ext (show c.val = 0 by have : c.val < 1 := c.isLt; omega)
  unfold Host.gather
  refine congrArg p (funext fun a => Fin.ext ?_)
  fin_cases a
  · show 0 + t.val + 0 = t.val
    omega
  · show min (i (gather_S2048x32_S2048x2x1_S2048x2_n_1_0_0_1_2_11.siIdx (ix2 t j) _)).toInt.toNat 31 + 0 + 0 = b.val
    rw [hs, h, toInt_small]
    have := b.isLt
    omega

/-- Taking one expert per token: the weights of the expert the index names. -/
theorem expert_at {α : Type} (w : S32x512x1024.Idx → α) (i : IVec S2048x1 32) (t : Fin 2048) (k : Fin 512) (f : Fin 1024) (b : Fin 32)
    (h : i (ix2 t 0) = BitVec.ofNat 32 b.val) :
    Host.gather gather_S32x512x1024_S2048x1_S2048x512x1024_12_0_n_n_0_1_15121024 w i (ix3 t k f) = w (ix3 b k f) := by
  have hs : ∀ c, gather_S32x512x1024_S2048x1_S2048x512x1024_12_0_n_n_0_1_15121024.siIdx (ix3 t k f) c = ix2 t 0 := by
    intro c
    funext a
    fin_cases a
    · rfl
    · exact Fin.ext (show c.val = 0 by have : c.val < 1 := c.isLt; omega)
  unfold Host.gather
  refine congrArg w (funext fun a => Fin.ext ?_)
  fin_cases a
  · show min (i (gather_S32x512x1024_S2048x1_S2048x512x1024_12_0_n_n_0_1_15121024.siIdx (ix3 t k f) _)).toInt.toNat 31 + 0 + 0 = b.val
    rw [hs, h, toInt_small]
    have := b.isLt
    omega
  · show 0 + 0 + k.val = k.val
    omega
  · show 0 + 0 + f.val = f.val
    omega

/-- The reference's probabilities. -/
def probsR (x : Vec Ideal S2048x512 .f32) (R : Vec Ideal S512x32 .f32) : FVec Ideal S2048x32 .f32 :=
  let s : FVec Ideal S2048x32 .f32 := Host.dotGeneral (φ₁ := .f32) (φ₂ := .f32) dot_S2048x512_S512x32_S2048x32_1_0_0_1_n_n none (x : FVec Ideal S2048x512 .f32) (R : FVec Ideal S512x32 .f32)
  let e : FVec Ideal S2048x32 .f32 := Host.exp (subf s (broadcastInDim S2048x32 ![0, 1] bcast_S2048x1_S2048x32_0_1
    (broadcastInDim S2048x1 ![0] bcast_S2048_S2048x1_0
      (Host.reduce FloatOps.maximumf s (constant S_ .f32 0xFF800000#32) reducesTo_S2048x32_S2048_d1 h_S_))))
  Host.divf e (broadcastInDim S2048x32 ![0, 1] bcast_S2048x1_S2048x32_0_1 (broadcastInDim S2048x1 ![0] bcast_S2048_S2048x1_0
    (Host.reduceAdd e (constant S_ .f32 0x00000000#32) reducesTo_S2048x32_S2048_d1 h_S_)))

/-- They are the token's softmax. -/
theorem probsR_at (x : Vec Ideal S2048x512 .f32) (R : Vec Ideal S512x32 .f32) (t : Fin 2048) (e : Fin 32) :
    probsR x R (ix2 t e) = Spec.prob (fun k => x (ix2 t k)) (fun k e => R (ix2 k e)) e := by
  pointwise [probsR, Spec.prob, Spec.raised, Spec.top, Spec.score]

/-- The indices as the reference's clipping take reads them. -/
def wrapR (i : Vec Ideal S2048x2 .i32) : IVec S2048x2x1 32 :=
  shapeCast S2048x2x1 (select (cmpi .slt i (broadcastInDim S2048x2 ![] bcast_S_S2048x2 (constantI S_ 32 0#32)))
    (addi i (broadcastInDim S2048x2 ![] bcast_S_S2048x2 (constantI S_ 32 32#32))) i : IVec S2048x2 32) shapeCasts_S2048x2_S2048x2x1

/-- An index that is not negative is left as it is. -/
theorem wrapR_at (i : Vec Ideal S2048x2 .i32) (t : Fin 2048) (j : Fin 2) (b : Fin 32) (h : i (ix2 t j) = BitVec.ofNat 32 b.val) :
    wrapR i (ix3 t j 0) = BitVec.ofNat 32 b.val := by
  pointwise [wrapR]
  rw [h]
  clear h
  revert b
  decide

set_option maxHeartbeats 1000000 in
/-- The reference's result at an entry. -/
theorem ref_at (m : (ℓ : Loc nD τ sig) → Buf (Elt Ideal) ℓ) (c : Dev nD) (t : Fin 2048) (f : Fin 1024) (a b : Fin 32)
    (x : Vec Ideal S2048x512 .f32) (R : Vec Ideal S512x32 .f32) (i : Vec Ideal S2048x2 .i32) (W : Vec Ideal S32x512x1024 .f32)
    (hx : m (c.tc.loc main_arg0) = x) (hR : m (c.tc.loc main_arg1) = R) (hi : m (c.tc.loc main_arg2) = i) (hW : m (c.tc.loc main_arg3) = W)
    (ha : i (ix2 t 0) = BitVec.ofNat 32 a.val) (hb : i (ix2 t 1) = BitVec.ofNat 32 b.val) :
    (res_main_v28 m c : Vec Ideal S2048x1024 .f32) (ix2 t f)
      = Spec.layer (fun k => x (ix2 t k)) (fun k e => R (ix2 k e)) a b (fun e k => W (ix3 e k f)) := by
  unfold res_main_v28
  clean_types
  rw [hx, hR, hi, hW]
  have hg0 : (Host.gather gather_S2048x32_S2048x2x1_S2048x2_n_1_0_0_1_2_11 (probsR x R) (wrapR i)) (ix2 t 0) = _ :=
    take_at _ _ t 0 a (wrapR_at i t 0 a ha)
  have hg1 : (Host.gather gather_S2048x32_S2048x2x1_S2048x2_n_1_0_0_1_2_11 (probsR x R) (wrapR i)) (ix2 t 1) = _ :=
    take_at _ _ t 1 b (wrapR_at i t 1 b hb)
  rw [probsR_at] at hg0 hg1
  generalize hG : Host.gather gather_S2048x32_S2048x2x1_S2048x2_n_1_0_0_1_2_11 (probsR x R) (wrapR i) = G at hg0 hg1
  unfold probsR wrapR at hG
  rw [hG]
  pointwise
  rw [hg0, hg1]
  unfold Spec.layer Spec.share
  congr 1
  · congr 1
    refine Finset.sum_congr rfl fun k _ => congrArg (x (ix2 t k) * ·) (expert_at _ _ t k f a ?_)
    pointwise
    exact ha
  · congr 1
    refine Finset.sum_congr rfl fun k _ => congrArg (x (ix2 t k) * ·) (expert_at _ _ t k f b ?_)
    pointwise
    exact hb

end Cert.MoeProof.Ref

end
-- ==== Proof.Value.lean ====
/-
# The two results agree

What the run leaves in the kernel's result array is the table of parts added around the ring.  Under the precondition it is
the layer's output at every entry, which is also what the reference computes.
-/
module

public import proofs.«01_k».proof.Proof.Reads
public import proofs.«01_k».proof.Proof.Run
public import proofs.«01_k».proof.Proof.RefVal
public import proofs.«01_k».proof.Proof.Gen.Pre_routed_KernelIdeal
public import Idealize.ShloMosaic.Lib.ReduceAll
public import Idealize.ShloMosaic.Lib.Layout

@[expose] public section

set_option maxRecDepth 16384

noncomputable section

namespace Cert.MoeProof

open Cert.KernelIdeal Cert.KernelIdeal.Gen
open Idealize.ShloMosaic Idealize.ShloMosaic.TcCoe

/-! ## The arrays and the buffers they are staged in -/

section

variable {F : FTy → Type} [FloatOps F] (m : (ℓ : Loc nD τ sig) → Buf (Elt F) ℓ) (ρ : Dev nD → PrngReg)

/-- The one block of a whole array starts at its corner. -/
theorem zero_off (S : Shape) : (fun a : Fin S.rank => 0 * S.size a) = fun _ => 0 := funext fun _ => Nat.zero_mul _

/-- The one block of a whole array fits in it. -/
theorem zero_fits (S : Shape) (a : Fin S.rank) : 0 * S.size a + S.size a ≤ S.size a := by rw [Nat.zero_mul, Nat.zero_add]

/-- The tokens are staged whole. -/
theorem inp_a0 (c : Dev nD) : (inp m ρ).a0 c = m ((c : Thread nD τ).loc main_arg0) :=
  View.ld_unit_zero (Val := Elt F) (zero_off S2048x512) (zero_fits S2048x512) (m ((c : Thread nD τ).loc main_arg0))

/-- The router's weights are staged whole. -/
theorem inp_a1 (c : Dev nD) : (inp m ρ).a1 c = m ((c : Thread nD τ).loc main_arg1) :=
  View.ld_unit_zero (Val := Elt F) (zero_off S512x32) (zero_fits S512x32) (m ((c : Thread nD τ).loc main_arg1))

/-- The chosen experts are staged whole. -/
theorem inp_a2 (c : Dev nD) : (inp m ρ).a2 c = m ((c : Thread nD τ).loc main_arg2) :=
  View.ld_unit_zero (Val := Elt F) (zero_off S2048x2) (zero_fits S2048x2) (m ((c : Thread nD τ).loc main_arg2))

/-- A device's own experts are staged whole. -/
theorem inp_a3 (c : Dev nD) : (inp m ρ).a3 c = m ((c : Thread nD τ).loc main_arg3) :=
  View.ld_unit_zero (Val := Elt F) (zero_off S8x512x1024) (zero_fits S8x512x1024) (m ((c : Thread nD τ).loc main_arg3))

/-- The result's array ends as the one block that is written back. -/
theorem finalA_out (c : Dev nD) : finalA m ρ c (4 : Fin 5) = outF (inp m ρ) c := by
  refine (dats m ρ 0 c).arrAt_eq_of_cover (4 : Fin 5) (outF (inp m ρ) c) (fun t _ => ?_) (fun i => ⟨t₀, flush0_4 _, ?_⟩)
  · obtain rfl := fin_N t
    unfold Pipeline.Dat.flushed
    exact (View.ld_unit_zero (Val := Elt F) (zero_off S2048x1024) (zero_fits S2048x1024) (outF (inp m ρ) c)).symm
  · show i ∈ ((View.whole main_v1).slice (win0_4.rect (0 : Fin 1))).set
    rw [View.set_slice_whole]
    exact View.mem_set_unit_zero (zero_off S2048x1024) (zero_fits S2048x1024) i

end

/-! ## What the precondition says -/

/-- The reading of the infinity's word. -/
theorem top_word : (Ideal.ofBits .f32 0x7F800000#32 : EReal) = ⊤ := by simp [Ideal.ofBits, Ideal.ieee]

/-- A value smaller in size than infinity is a real number. -/
theorem real_of_small (y : EReal) (h : BitVec.ofBool (decide (max y (-y) < (Ideal.ofBits .f32 0x7F800000#32 : EReal))) = 1#1) :
    Spec.IsReal y := by
  rw [top_word] at h
  have hlt : max y (-y) < ⊤ := by
    by_contra hn
    rw [decide_eq_false hn] at h
    exact absurd h (by decide)
  induction y with
  | bot => simp at hlt
  | top => simp at hlt
  | coe r => exact ⟨r, rfl⟩

/-- A word between 0 and 31 is an expert's number. -/
theorem expert_of_word (w : BitVec 32) (h : IntOp.andi (IntOp.cmpi .sge w 0#32) (IntOp.cmpi .slt w 32#32) = 1#1) :
    ∃ a : Fin 32, w = BitVec.ofNat 32 a.val := by
  obtain ⟨h1, h2⟩ := IntOp.andi_eq_one.1 h
  have hw : w < 32#32 := by
    clear h
    have h1' : (0#32).sle w = true := by
      by_contra hn
      have h1 : BitVec.ofBool ((0#32).sle w) = 1#1 := h1
      rw [eq_false_of_ne_true hn] at h1
      exact absurd h1 (by decide)
    have h2' : w.slt 32#32 = true := by
      by_contra hn
      have h2 : BitVec.ofBool (w.slt 32#32) = 1#1 := h2
      rw [eq_false_of_ne_true hn] at h2
      exact absurd h2 (by decide)
    rw [BitVec.sle_eq_decide, decide_eq_true_eq] at h1'
    rw [BitVec.slt_eq_decide, decide_eq_true_eq] at h2'
    rw [BitVec.lt_def]
    have e := BitVec.toInt_eq_toNat_cond w
    have := w.isLt
    simp at h1' h2' ⊢
    split at e <;> omega
  exact ⟨⟨w.toNat, BitVec.lt_def.1 hw⟩, BitVec.eq_of_toNat_eq (by rw [BitVec.toNat_ofNat]; exact (Nat.mod_eq_of_lt w.isLt).symm)⟩

/-- Under the precondition tokens and router weights are real numbers and every choice names an expert. -/
theorem routed_cut (x : FVec Ideal S2048x512 .f32) (R : FVec Ideal S512x32 .f32) (ix : IVec S2048x2 32) (W : FVec Ideal S8x512x1024 .f32)
    (h : Cert.Pre_routed_KernelIdeal.fn (F := Ideal) x R ix W = fun _ => 1#1) :
    (∀ i, Spec.IsReal (x i)) ∧ (∀ i, Spec.IsReal (R i)) ∧ ∀ i, ∃ a : Fin 32, ix i = BitVec.ofNat 32 a.val := by
  have h0 := congrFun h (fun a => a.elim0)
  unfold Cert.Pre_routed_KernelIdeal.fn at h0
  obtain ⟨h1, h2⟩ := IntOp.andi_eq_one.1 h0
  obtain ⟨h3, h4⟩ := IntOp.andi_eq_one.1 h1
  haveI : Subsingleton Cert.Pre_routed_KernelIdeal.S_.Idx := ⟨fun a b => funext fun k => k.elim0⟩
  refine ⟨fun i => ?_, fun i => ?_, fun i => ?_⟩
  · have := Host.reduce_andi_all _ _ _ _ _ h3 i
    pointwise at this
    exact real_of_small _ this
  · have := Host.reduce_andi_all _ _ _ _ _ h4 i
    pointwise at this
    exact real_of_small _ this
  · have := Host.reduce_andi_all _ _ _ _ _ h2 i
    pointwise at this
    exact expert_of_word _ this

/-! ## The agreement -/

/-- A device's block of the experts' weights holds the experts that are its own. -/
theorem block_expert (c : Fin 4) (l : Fin 8) (k : Fin 512) (f : Fin 1024)
    (v : (⟨3, ![32, 512, 1024]⟩ : Shape).Idx → EReal) :
    (Layout.block ⟨3, ![8, 512, 1024]⟩ ⟨3, ![32, 512, 1024]⟩ 0 4 c v) (ix3 l k f) = v (ix3 (Spec.expertOf c l) k f) := by
  rw [Layout.block_apply]
  refine congrArg v (funext fun a => Fin.ext ?_)
  rw [Layout.Tiles.idx_val]
  match a with
  | ⟨0, _⟩ => exact show c.val * 8 + l.val = 8 * c.val + l.val by omega
  | ⟨1, _⟩ => rfl
  | ⟨2, _⟩ => rfl

/-- The reference's result is what every device's result array ends as. -/
theorem results_agree (m : (ℓ : Loc nD τ sig) → Buf (Elt Ideal) ℓ) (ρ : Dev nD → PrngReg) (c : Dev nD)
    (m' : (ℓ : Loc Cert.ReferenceIdeal.nD Cert.ReferenceIdeal.τ Cert.ReferenceIdeal.sig) → Buf (Elt Ideal) ℓ)
    (d : Dev Cert.ReferenceIdeal.nD)
    (x : Vec Ideal S2048x512 .f32) (R : Vec Ideal S512x32 .f32) (ix : Vec Ideal S2048x2 .i32)
    (W : Vec Ideal ⟨3, ![32, 512, 1024]⟩ .f32)
    (hx' : m' (d.tc.loc Cert.ReferenceIdeal.main_arg0) = x) (hR' : m' (d.tc.loc Cert.ReferenceIdeal.main_arg1) = R)
    (hi' : m' (d.tc.loc Cert.ReferenceIdeal.main_arg2) = ix) (hW' : m' (d.tc.loc Cert.ReferenceIdeal.main_arg3) = W)
    (hx : ∀ c : Dev nD, m ((c : Thread nD τ).loc main_arg0) = x) (hR : ∀ c : Dev nD, m ((c : Thread nD τ).loc main_arg1) = R)
    (hi : ∀ c : Dev nD, m ((c : Thread nD τ).loc main_arg2) = ix)
    (hW : ∀ c : Dev nD, m ((c : Thread nD τ).loc main_arg3) = Layout.block ⟨3, ![8, 512, 1024]⟩ ⟨3, ![32, 512, 1024]⟩ 0 4 c W)
    (px : ∀ i, Spec.IsReal (x i)) (pR : ∀ i, Spec.IsReal (R i)) (pi : ∀ i, ∃ a : Fin 32, ix i = BitVec.ofNat 32 a.val) :
    (outF (inp m ρ) c : Vec Ideal S2048x1024 .f32) = Cert.ReferenceIdeal.Value.res_main_v28 m' d := by
  have H : Holds (inp m ρ) x R ix (fun e k f => W (ix3 e k f)) :=
    ⟨fun c => (inp_a0 m ρ c).trans (hx c), fun c => (inp_a1 m ρ c).trans (hR c), fun c => (inp_a2 m ρ c).trans (hi c),
      fun c l k f => by rw [inp_a3, hW]; exact block_expert c l k f W⟩
  funext i
  have l0 : (i 0).val < 2048 := (i 0).isLt
  have l1 : (i 1).val < 1024 := (i 1).isLt
  let j : Fin 4 := ⟨(i 0).val / 512, by omega⟩
  let t : Fin 512 := ⟨(i 0).val % 512, by omega⟩
  let r : Fin 4 := ⟨(i 1).val / 256, by omega⟩
  let y : Fin 256 := ⟨(i 1).val % 256, by omega⟩
  have h0 : (i 0).val = 512 * j.val + t.val := (Nat.div_add_mod _ _).symm
  have h1 : (i 1).val = 256 * r.val + y.val := (Nat.div_add_mod _ _).symm
  have e : i = ix2 (rowOf j t) (colOf r y) := by
    funext a
    match a with
    | ⟨0, _⟩ => exact Fin.ext h0
    | ⟨1, _⟩ => exact Fin.ext h1
  obtain ⟨a, ha⟩ := pi (ix2 (rowOf j t) 0)
  obtain ⟨b, hb⟩ := pi (ix2 (rowOf j t) 1)
  refine (outF_at _ c j r t y i h0 h1).trans ?_
  rw [total_eq H j t (colOf r y) a b (fun k => px _) (fun k e => pR _) ha hb, e]
  exact (Ref.ref_at m' d (rowOf j t) (colOf r y) a b x R ix W hx' hR' hi' hW' ha hb).symm

end Cert.MoeProof

end
-- ==== Proof.lean ====
/-
# The claims

The frames of the kernel and of its reference, that the idealised kernel is the kernel, and what the kernel computes.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_routed_KernelIdeal
public import proofs.«01_k».proof.Proof.Gen.Pre_routed_ReferenceIdeal
public import proofs.«01_k».proof.Proof.Run
public import proofs.«01_k».proof.Proof.Same
public import proofs.«01_k».proof.Proof.Value
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- The operands' arrays of a device of the kernel hold after the run what they held, and every counter is zero. -/
def Kept {F : FTy → Type} (m : (ℓ : Loc Cert.KernelIdeal.nD Cert.KernelIdeal.τ Cert.KernelIdeal.sig) → Buf (Elt F) ℓ)
    (s : MemSt Cert.KernelIdeal.nD Cert.KernelIdeal.τ Cert.KernelIdeal.sig (Elt F)) : Prop :=
  (∀ c : Dev Cert.KernelIdeal.nD,
    s.mem ((c.tc : Thread _ Cert.KernelIdeal.τ).loc Cert.KernelIdeal.main_arg0) = m ((c.tc : Thread _ Cert.KernelIdeal.τ).loc Cert.KernelIdeal.main_arg0)
      ∧ s.mem ((c.tc : Thread _ Cert.KernelIdeal.τ).loc Cert.KernelIdeal.main_arg1) = m ((c.tc : Thread _ Cert.KernelIdeal.τ).loc Cert.KernelIdeal.main_arg1)
      ∧ s.mem ((c.tc : Thread _ Cert.KernelIdeal.τ).loc Cert.KernelIdeal.main_arg2) = m ((c.tc : Thread _ Cert.KernelIdeal.τ).loc Cert.KernelIdeal.main_arg2)
      ∧ s.mem ((c.tc : Thread _ Cert.KernelIdeal.τ).loc Cert.KernelIdeal.main_arg3) = m ((c.tc : Thread _ Cert.KernelIdeal.τ).loc Cert.KernelIdeal.main_arg3))
    ∧ s.sem = fun _ => 0

/-- The kernel runs, whatever its floats are, and keeps its operands. -/
theorem run_kept {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => Kept m r.2) :=
  (θ_run Cert.KernelIdeal.defs _ _).mono (fun _ h =>
    ⟨fun c => ⟨(h.1 c (0 : Fin 5)).trans (Cert.MoeProof.finalA_in m ρ c (0 : Fin 5) rfl), (h.1 c (1 : Fin 5)).trans (Cert.MoeProof.finalA_in m ρ c (1 : Fin 5) rfl),
      (h.1 c (2 : Fin 5)).trans (Cert.MoeProof.finalA_in m ρ c (2 : Fin 5) rfl), (h.1 c (3 : Fin 5)).trans (Cert.MoeProof.finalA_in m ρ c (3 : Fin 5) rfl)⟩, h.2⟩) (Cert.MoeProof.run_main m ρ)

/-- The kernel runs, at words: its table of bodies is the idealised kernel's, so the one run serves. -/
theorem frame_kernel : Cert.quiescent_Kernel (hKernel := Cert.Kernel.Gen.facts) := by
  intro m ρ _
  rw [show Cert.Kernel.defs (F := Bits) = Cert.KernelIdeal.defs (F := Bits) from
    Cert.MoeProof.same_defs (F := Bits)]
  exact run_kept (F := Bits) m ρ

/-- The kernel runs, at extended reals. -/
theorem frame_ideal : Cert.quiescent_KernelIdeal (hKernelIdeal := Cert.KernelIdeal.Gen.facts) := fun m ρ _ => run_kept (F := Ideal) m ρ

/-- The reference runs. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems rfl r.2⟩) (Cert.ReferenceIdeal.Value.run (F := Ideal) m ρ)

/-- The kernel runs, at extended reals, from memories the precondition admits. -/
theorem frame_ideal_routed : Cert.quiescent_KernelIdeal_pre_routed_KernelIdeal (hKernelIdeal := Cert.KernelIdeal.Gen.facts)
    (hPre_routed_KernelIdeal := Cert.Pre_routed_KernelIdeal.Gen.facts) := fun m ρ _ => run_kept (F := Ideal) m ρ

/-- The reference runs from memories the precondition admits. -/
theorem frame_reference_routed : Cert.quiescent_ReferenceIdeal_pre_routed_ReferenceIdeal (hReferenceIdeal := Cert.ReferenceIdeal.Gen.facts)
    (hPre_routed_ReferenceIdeal := Cert.Pre_routed_ReferenceIdeal.Gen.facts) := fun m ρ _ =>
  (θ_run Cert.ReferenceIdeal.defs _ _).mono (fun r h => ⟨fun c => (h c).2, sem_eq_zero_of_no_sems rfl r.2⟩) (Cert.ReferenceIdeal.Value.run (F := Ideal) m ρ)

/-- The kernel, on its four devices, computes the reference's result. -/
theorem agree : Cert.algebraic_KernelIdeal_ReferenceIdeal_pre_routed_KernelIdeal (hKernelIdeal := Cert.KernelIdeal.Gen.facts)
    (hReferenceIdeal := Cert.ReferenceIdeal.Gen.facts) (hPre_routed_KernelIdeal := Cert.Pre_routed_KernelIdeal.Gen.facts) := by
  intro m g m' g' hpre hargs
  have hcut := Cert.MoeProof.routed_cut _ _ _ _ (hpre 0)
  rw [(hargs 0).1, (hargs 0).2.1, (hargs 0).2.2.1] at hcut
  refine ⟨Cert.ReferenceIdeal.Value.res_main_v28 m' 0, ?_, ?_⟩
  · refine (θ_run Cert.KernelIdeal.defs _ _).mono (fun r h c => ⟨?_, ?_⟩) (Cert.MoeProof.run_main m g)
    · refine ((h.1 c (4 : Fin 5)).trans (Cert.MoeProof.finalA_out m g c)).trans ?_
      exact Cert.MoeProof.results_agree m g c m' 0 _ _ _ _ rfl rfl rfl rfl (fun c => (hargs c).1) (fun c => (hargs c).2.1)
        (fun c => (hargs c).2.2.1) (fun c => (hargs c).2.2.2) hcut.1 hcut.2.1 hcut.2.2
    · exact ⟨(h.1 c (0 : Fin 5)).trans (Cert.MoeProof.finalA_in m g c (0 : Fin 5) rfl), (h.1 c (1 : Fin 5)).trans (Cert.MoeProof.finalA_in m g c (1 : Fin 5) rfl),
        (h.1 c (2 : Fin 5)).trans (Cert.MoeProof.finalA_in m g c (2 : Fin 5) rfl), (h.1 c (3 : Fin 5)).trans (Cert.MoeProof.finalA_in m g c (3 : Fin 5) rfl)⟩
  · exact (θ_run Cert.ReferenceIdeal.defs _ _).mono (fun _ h => h 0) (Cert.ReferenceIdeal.Value.run (F := Ideal) m' g')

/-- The certificate's claims. -/
theorem claim : Cert.Claim :=
  ⟨Cert.Kernel.Gen.facts, Cert.KernelIdeal.Gen.facts, Cert.ReferenceIdeal.Gen.facts, Cert.Pre_routed_KernelIdeal.Gen.facts,
    Cert.Pre_routed_ReferenceIdeal.Gen.facts, frame_kernel, frame_ideal, frame_ideal_routed, frame_reference, frame_reference_routed, trivial, agree⟩

end Cert.Proof

end
